-- ==== Defs.lean ====
def Pre_MoeKernel [hPre_experts_in_range : Cert.Pre_experts_in_range.Facts] (m : (ℓ : Loc Cert.MoeKernel.nD Cert.MoeKernel.τ Cert.MoeKernel.sig) → Buf (Elt Bits) ℓ) : Prop :=
  ∀ c : Dev Cert.MoeKernel.nD,
    (Cert.Pre_experts_in_range.fn (F := Bits) (m ((c.tc : Thread Cert.MoeKernel.nD Cert.MoeKernel.τ).loc Cert.MoeKernel.main_arg0)) (m ((c.tc : Thread Cert.MoeKernel.nD Cert.MoeKernel.τ).loc Cert.MoeKernel.main_arg1)) (m ((c.tc : Thread Cert.MoeKernel.nD Cert.MoeKernel.τ).loc Cert.MoeKernel.main_arg2)) (m ((c.tc : Thread Cert.MoeKernel.nD Cert.MoeKernel.τ).loc Cert.MoeKernel.main_arg3)) (m ((c.tc : Thread Cert.MoeKernel.nD Cert.MoeKernel.τ).loc Cert.MoeKernel.main_arg4)) (m ((c.tc : Thread Cert.MoeKernel.nD Cert.MoeKernel.τ).loc Cert.MoeKernel.main_arg5))) = (fun _ => 1#1)

def Pre_MoeKernelIdeal [hPre_experts_in_range : Cert.Pre_experts_in_range.Facts] (m : (ℓ : Loc Cert.MoeKernelIdeal.nD Cert.MoeKernelIdeal.τ Cert.MoeKernelIdeal.sig) → Buf (Elt Ideal) ℓ) : Prop :=
  ∀ c : Dev Cert.MoeKernelIdeal.nD,
    (Cert.Pre_experts_in_range.fn (F := Ideal) (m ((c.tc : Thread Cert.MoeKernelIdeal.nD Cert.MoeKernelIdeal.τ).loc Cert.MoeKernelIdeal.main_arg0)) (m ((c.tc : Thread Cert.MoeKernelIdeal.nD Cert.MoeKernelIdeal.τ).loc Cert.MoeKernelIdeal.main_arg1)) (m ((c.tc : Thread Cert.MoeKernelIdeal.nD Cert.MoeKernelIdeal.τ).loc Cert.MoeKernelIdeal.main_arg2)) (m ((c.tc : Thread Cert.MoeKernelIdeal.nD Cert.MoeKernelIdeal.τ).loc Cert.MoeKernelIdeal.main_arg3)) (m ((c.tc : Thread Cert.MoeKernelIdeal.nD Cert.MoeKernelIdeal.τ).loc Cert.MoeKernelIdeal.main_arg4)) (m ((c.tc : Thread Cert.MoeKernelIdeal.nD Cert.MoeKernelIdeal.τ).loc Cert.MoeKernelIdeal.main_arg5))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_experts_in_range [hPre_experts_in_range : Cert.Pre_experts_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_CombKernel (m : (ℓ : Loc Cert.CombKernel.nD Cert.CombKernel.τ Cert.CombKernel.sig) → Buf (Elt Bits) ℓ) : Prop :=
  True

def Pre_CombKernelIdeal (m : (ℓ : Loc Cert.CombKernelIdeal.nD Cert.CombKernelIdeal.τ Cert.CombKernelIdeal.sig) → Buf (Elt Ideal) ℓ) : Prop :=
  True

def Pre_CombReferenceIdeal (m : (ℓ : Loc Cert.CombReferenceIdeal.nD Cert.CombReferenceIdeal.τ Cert.CombReferenceIdeal.sig) → Buf (Elt Ideal) ℓ) : Prop :=
  True

def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_rows_finite [hPre_rows_finite : Cert.Pre_rows_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_rows_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))) = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_rows_finite [hPre_rows_finite : Cert.Pre_rows_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_rows_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))) = (fun _ => 1#1)

def quiescent_MoeKernel [hMoeKernel : Cert.MoeKernel.Facts] [hPre_experts_in_range : Cert.Pre_experts_in_range.Facts] : Prop :=
  ∀ (m : (ℓ : Loc Cert.MoeKernel.nD Cert.MoeKernel.τ Cert.MoeKernel.sig) → Buf (Elt Bits) ℓ) (g : Dev Cert.MoeKernel.nD → PrngReg), Pre_MoeKernel m →
    θ_run (Cert.MoeKernel.defs (F := Bits)) (onTc (τ := Cert.MoeKernel.τ) (Cert.MoeKernel.main (F := Bits))) ⟨m, fun _ => 0, g⟩ (fun r => (∀ c : Dev Cert.MoeKernel.nD,
      r.2.mem ((c.tc : Thread Cert.MoeKernel.nD Cert.MoeKernel.τ).loc Cert.MoeKernel.main_arg0) = m ((c.tc : Thread Cert.MoeKernel.nD Cert.MoeKernel.τ).loc Cert.MoeKernel.main_arg0)
      ∧ r.2.mem ((c.tc : Thread Cert.MoeKernel.nD Cert.MoeKernel.τ).loc Cert.MoeKernel.main_arg1) = m ((c.tc : Thread Cert.MoeKernel.nD Cert.MoeKernel.τ).loc Cert.MoeKernel.main_arg1)
      ∧ r.2.mem ((c.tc : Thread Cert.MoeKernel.nD Cert.MoeKernel.τ).loc Cert.MoeKernel.main_arg2) = m ((c.tc : Thread Cert.MoeKernel.nD Cert.MoeKernel.τ).loc Cert.MoeKernel.main_arg2)
      ∧ r.2.mem ((c.tc : Thread Cert.MoeKernel.nD Cert.MoeKernel.τ).loc Cert.MoeKernel.main_arg3) = m ((c.tc : Thread Cert.MoeKernel.nD Cert.MoeKernel.τ).loc Cert.MoeKernel.main_arg3)
      ∧ r.2.mem ((c.tc : Thread Cert.MoeKernel.nD Cert.MoeKernel.τ).loc Cert.MoeKernel.main_arg4) = m ((c.tc : Thread Cert.MoeKernel.nD Cert.MoeKernel.τ).loc Cert.MoeKernel.main_arg4)
      ∧ r.2.mem ((c.tc : Thread Cert.MoeKernel.nD Cert.MoeKernel.τ).loc Cert.MoeKernel.main_arg5) = m ((c.tc : Thread Cert.MoeKernel.nD Cert.MoeKernel.τ).loc Cert.MoeKernel.main_arg5))
      ∧ r.2.sem = fun _ => 0)

def quiescent_MoeKernelIdeal [hMoeKernelIdeal : Cert.MoeKernelIdeal.Facts] [hPre_experts_in_range : Cert.Pre_experts_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg), Pre_MoeKernelIdeal m →
    θ_run (Cert.MoeKernelIdeal.defs (F := Ideal)) (onTc (τ := Cert.MoeKernelIdeal.τ) (Cert.MoeKernelIdeal.main (F := Ideal))) ⟨m, fun _ => 0, g⟩ (fun r => (∀ c : Dev Cert.MoeKernelIdeal.nD,
      r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
      ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
      ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
      ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
      ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
      ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_MoeReferenceIdeal_pre_experts_in_range [hMoeReferenceIdeal : Cert.MoeReferenceIdeal.Facts] [hPre_experts_in_range : Cert.Pre_experts_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_experts_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9)
      ∧ r.2.mem ((c.tc : Thread Cert.MergeKernel.nD Cert.MergeKernel.τ).loc Cert.MergeKernel.main_arg10) = m ((c.tc : Thread Cert.MergeKernel.nD Cert.MergeKernel.τ).loc Cert.MergeKernel.main_arg10)
      ∧ r.2.mem ((c.tc : Thread Cert.MergeKernel.nD Cert.MergeKernel.τ).loc Cert.MergeKernel.main_arg11) = m ((c.tc : Thread Cert.MergeKernel.nD Cert.MergeKernel.τ).loc Cert.MergeKernel.main_arg11)
      ∧ r.2.mem ((c.tc : Thread Cert.MergeKernel.nD Cert.MergeKernel.τ).loc Cert.MergeKernel.main_arg12) = m ((c.tc : Thread Cert.MergeKernel.nD Cert.MergeKernel.τ).loc Cert.MergeKernel.main_arg12))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
      ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
      ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
      ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_CombKernel [hCombKernel : Cert.CombKernel.Facts] : Prop :=
  ∀ (m : (ℓ : Loc Cert.CombKernel.nD Cert.CombKernel.τ Cert.CombKernel.sig) → Buf (Elt Bits) ℓ) (g : Dev Cert.CombKernel.nD → PrngReg), Pre_CombKernel m →
    θ_run (Cert.CombKernel.defs (F := Bits)) (onTc (τ := Cert.CombKernel.τ) (Cert.CombKernel.main (F := Bits))) ⟨m, fun _ => 0, g⟩ (fun r => (∀ c : Dev Cert.CombKernel.nD,
      r.2.mem ((c.tc : Thread Cert.CombKernel.nD Cert.CombKernel.τ).loc Cert.CombKernel.main_arg0) = m ((c.tc : Thread Cert.CombKernel.nD Cert.CombKernel.τ).loc Cert.CombKernel.main_arg0)
      ∧ r.2.mem ((c.tc : Thread Cert.CombKernel.nD Cert.CombKernel.τ).loc Cert.CombKernel.main_arg1) = m ((c.tc : Thread Cert.CombKernel.nD Cert.CombKernel.τ).loc Cert.CombKernel.main_arg1)
      ∧ r.2.mem ((c.tc : Thread Cert.CombKernel.nD Cert.CombKernel.τ).loc Cert.CombKernel.main_arg2) = m ((c.tc : Thread Cert.CombKernel.nD Cert.CombKernel.τ).loc Cert.CombKernel.main_arg2)
      ∧ r.2.mem ((c.tc : Thread Cert.CombKernel.nD Cert.CombKernel.τ).loc Cert.CombKernel.main_arg3) = m ((c.tc : Thread Cert.CombKernel.nD Cert.CombKernel.τ).loc Cert.CombKernel.main_arg3)
      ∧ r.2.mem ((c.tc : Thread Cert.CombKernel.nD Cert.CombKernel.τ).loc Cert.CombKernel.main_arg4) = m ((c.tc : Thread Cert.CombKernel.nD Cert.CombKernel.τ).loc Cert.CombKernel.main_arg4)
      ∧ r.2.mem ((c.tc : Thread Cert.CombKernel.nD Cert.CombKernel.τ).loc Cert.CombKernel.main_arg5) = m ((c.tc : Thread Cert.CombKernel.nD Cert.CombKernel.τ).loc Cert.CombKernel.main_arg5)
      ∧ r.2.mem ((c.tc : Thread Cert.CombKernel.nD Cert.CombKernel.τ).loc Cert.CombKernel.main_arg6) = m ((c.tc : Thread Cert.CombKernel.nD Cert.CombKernel.τ).loc Cert.CombKernel.main_arg6))
      ∧ r.2.sem = fun _ => 0)

def quiescent_CombKernelIdeal [hCombKernelIdeal : Cert.CombKernelIdeal.Facts] : Prop :=
  ∀ (m : (ℓ : Loc Cert.CombKernelIdeal.nD Cert.CombKernelIdeal.τ Cert.CombKernelIdeal.sig) → Buf (Elt Ideal) ℓ) (g : Dev Cert.CombKernelIdeal.nD → PrngReg), Pre_CombKernelIdeal m →
    θ_run (Cert.CombKernelIdeal.defs (F := Ideal)) (onTc (τ := Cert.CombKernelIdeal.τ) (Cert.CombKernelIdeal.main (F := Ideal))) ⟨m, fun _ => 0, g⟩ (fun r => (∀ c : Dev Cert.CombKernelIdeal.nD,
      r.2.mem ((c.tc : Thread Cert.CombKernelIdeal.nD Cert.CombKernelIdeal.τ).loc Cert.CombKernelIdeal.main_arg0) = m ((c.tc : Thread Cert.CombKernelIdeal.nD Cert.CombKernelIdeal.τ).loc Cert.CombKernelIdeal.main_arg0)
      ∧ r.2.mem ((c.tc : Thread Cert.CombKernelIdeal.nD Cert.CombKernelIdeal.τ).loc Cert.CombKernelIdeal.main_arg1) = m ((c.tc : Thread Cert.CombKernelIdeal.nD Cert.CombKernelIdeal.τ).loc Cert.CombKernelIdeal.main_arg1)
      ∧ r.2.mem ((c.tc : Thread Cert.CombKernelIdeal.nD Cert.CombKernelIdeal.τ).loc Cert.CombKernelIdeal.main_arg2) = m ((c.tc : Thread Cert.CombKernelIdeal.nD Cert.CombKernelIdeal.τ).loc Cert.CombKernelIdeal.main_arg2)
      ∧ r.2.mem ((c.tc : Thread Cert.CombKernelIdeal.nD Cert.CombKernelIdeal.τ).loc Cert.CombKernelIdeal.main_arg3) = m ((c.tc : Thread Cert.CombKernelIdeal.nD Cert.CombKernelIdeal.τ).loc Cert.CombKernelIdeal.main_arg3)
      ∧ r.2.mem ((c.tc : Thread Cert.CombKernelIdeal.nD Cert.CombKernelIdeal.τ).loc Cert.CombKernelIdeal.main_arg4) = m ((c.tc : Thread Cert.CombKernelIdeal.nD Cert.CombKernelIdeal.τ).loc Cert.CombKernelIdeal.main_arg4)
      ∧ r.2.mem ((c.tc : Thread Cert.CombKernelIdeal.nD Cert.CombKernelIdeal.τ).loc Cert.CombKernelIdeal.main_arg5) = m ((c.tc : Thread Cert.CombKernelIdeal.nD Cert.CombKernelIdeal.τ).loc Cert.CombKernelIdeal.main_arg5)
      ∧ r.2.mem ((c.tc : Thread Cert.CombKernelIdeal.nD Cert.CombKernelIdeal.τ).loc Cert.CombKernelIdeal.main_arg6) = m ((c.tc : Thread Cert.CombKernelIdeal.nD Cert.CombKernelIdeal.τ).loc Cert.CombKernelIdeal.main_arg6))
      ∧ r.2.sem = fun _ => 0)

def quiescent_CombReferenceIdeal [hCombReferenceIdeal : Cert.CombReferenceIdeal.Facts] : Prop :=
  ∀ (m : (ℓ : Loc Cert.CombReferenceIdeal.nD Cert.CombReferenceIdeal.τ Cert.CombReferenceIdeal.sig) → Buf (Elt Ideal) ℓ) (g : Dev Cert.CombReferenceIdeal.nD → PrngReg), Pre_CombReferenceIdeal m →
    θ_run (Cert.CombReferenceIdeal.defs (F := Ideal)) (onTc (τ := Cert.CombReferenceIdeal.τ) (Cert.CombReferenceIdeal.main (F := Ideal))) ⟨m, fun _ => 0, g⟩ (fun r => (∀ c : Dev Cert.CombReferenceIdeal.nD,
      r.2.mem ((c.tc : Thread Cert.CombReferenceIdeal.nD Cert.CombReferenceIdeal.τ).loc Cert.CombReferenceIdeal.main_arg0) = m ((c.tc : Thread Cert.CombReferenceIdeal.nD Cert.CombReferenceIdeal.τ).loc Cert.CombReferenceIdeal.main_arg0)
      ∧ r.2.mem ((c.tc : Thread Cert.CombReferenceIdeal.nD Cert.CombReferenceIdeal.τ).loc Cert.CombReferenceIdeal.main_arg1) = m ((c.tc : Thread Cert.CombReferenceIdeal.nD Cert.CombReferenceIdeal.τ).loc Cert.CombReferenceIdeal.main_arg1)
      ∧ r.2.mem ((c.tc : Thread Cert.CombReferenceIdeal.nD Cert.CombReferenceIdeal.τ).loc Cert.CombReferenceIdeal.main_arg2) = m ((c.tc : Thread Cert.CombReferenceIdeal.nD Cert.CombReferenceIdeal.τ).loc Cert.CombReferenceIdeal.main_arg2)
      ∧ r.2.mem ((c.tc : Thread Cert.CombReferenceIdeal.nD Cert.CombReferenceIdeal.τ).loc Cert.CombReferenceIdeal.main_arg3) = m ((c.tc : Thread Cert.CombReferenceIdeal.nD Cert.CombReferenceIdeal.τ).loc Cert.CombReferenceIdeal.main_arg3)
      ∧ r.2.mem ((c.tc : Thread Cert.CombReferenceIdeal.nD Cert.CombReferenceIdeal.τ).loc Cert.CombReferenceIdeal.main_arg4) = m ((c.tc : Thread Cert.CombReferenceIdeal.nD Cert.CombReferenceIdeal.τ).loc Cert.CombReferenceIdeal.main_arg4)
      ∧ r.2.mem ((c.tc : Thread Cert.CombReferenceIdeal.nD Cert.CombReferenceIdeal.τ).loc Cert.CombReferenceIdeal.main_arg5) = m ((c.tc : Thread Cert.CombReferenceIdeal.nD Cert.CombReferenceIdeal.τ).loc Cert.CombReferenceIdeal.main_arg5)
      ∧ r.2.mem ((c.tc : Thread Cert.CombReferenceIdeal.nD Cert.CombReferenceIdeal.τ).loc Cert.CombReferenceIdeal.main_arg6) = m ((c.tc : Thread Cert.CombReferenceIdeal.nD Cert.CombReferenceIdeal.τ).loc Cert.CombReferenceIdeal.main_arg6))
      ∧ r.2.sem = fun _ => 0)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_rows_finite [hRetKernelIdeal : Cert.RetKernelIdeal.Facts] [hPre_rows_finite : Cert.Pre_rows_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_rows_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_rows_finite [hRetReferenceIdeal : Cert.RetReferenceIdeal.Facts] [hPre_rows_finite : Cert.Pre_rows_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_rows_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def preserves_MoeKernel_MoeKernelIdeal : Prop :=
  True

def algebraic_MoeKernelIdeal_MoeReferenceIdeal [hMoeKernelIdeal : Cert.MoeKernelIdeal.Facts] [hMoeReferenceIdeal : Cert.MoeReferenceIdeal.Facts] [hPre_experts_in_range : Cert.Pre_experts_in_range.Facts] : Prop :=
  ∀ (m : (ℓ : Loc Cert.MoeKernelIdeal.nD Cert.MoeKernelIdeal.τ Cert.MoeKernelIdeal.sig) → Buf (Elt Ideal) ℓ) (g : Dev Cert.MoeKernelIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeKernelIdeal m →
    (∀ c : Dev Cert.MoeKernelIdeal.nD,
      m' ((c.tc : Thread Cert.MoeReferenceIdeal.nD Cert.MoeReferenceIdeal.τ).loc Cert.MoeReferenceIdeal.main_arg0) = m ((c.tc : Thread Cert.MoeKernelIdeal.nD Cert.MoeKernelIdeal.τ).loc Cert.MoeKernelIdeal.main_arg0)
      ∧ m' ((c.tc : Thread Cert.MoeReferenceIdeal.nD Cert.MoeReferenceIdeal.τ).loc Cert.MoeReferenceIdeal.main_arg1) = m ((c.tc : Thread Cert.MoeKernelIdeal.nD Cert.MoeKernelIdeal.τ).loc Cert.MoeKernelIdeal.main_arg1)
      ∧ m' ((c.tc : Thread Cert.MoeReferenceIdeal.nD Cert.MoeReferenceIdeal.τ).loc Cert.MoeReferenceIdeal.main_arg2) = m ((c.tc : Thread Cert.MoeKernelIdeal.nD Cert.MoeKernelIdeal.τ).loc Cert.MoeKernelIdeal.main_arg2)
      ∧ m' ((c.tc : Thread Cert.MoeReferenceIdeal.nD Cert.MoeReferenceIdeal.τ).loc Cert.MoeReferenceIdeal.main_arg3) = m ((c.tc : Thread Cert.MoeKernelIdeal.nD Cert.MoeKernelIdeal.τ).loc Cert.MoeKernelIdeal.main_arg3)
      ∧ m' ((c.tc : Thread Cert.MoeReferenceIdeal.nD Cert.MoeReferenceIdeal.τ).loc Cert.MoeReferenceIdeal.main_arg4) = m ((c.tc : Thread Cert.MoeKernelIdeal.nD Cert.MoeKernelIdeal.τ).loc Cert.MoeKernelIdeal.main_arg4)
      ∧ m' ((c.tc : Thread Cert.MoeReferenceIdeal.nD Cert.MoeReferenceIdeal.τ).loc Cert.MoeReferenceIdeal.main_arg5) = m ((c.tc : Thread Cert.MoeKernelIdeal.nD Cert.MoeKernelIdeal.τ).loc Cert.MoeKernelIdeal.main_arg5)) →
    ∃ (v0 : (c : Dev Cert.MoeKernelIdeal.nD) → Buf (Elt Ideal) ((c.tc : Thread Cert.MoeKernelIdeal.nD Cert.MoeKernelIdeal.τ).loc Cert.MoeKernelIdeal.main_v0)),
      θ_run (Cert.MoeKernelIdeal.defs (F := Ideal)) (onTc (τ := Cert.MoeKernelIdeal.τ) (Cert.MoeKernelIdeal.main (F := Ideal))) ⟨m, fun _ => 0, g⟩ (fun r => ∀ c : Dev Cert.MoeKernelIdeal.nD,
          r.2.mem ((c.tc : Thread Cert.MoeKernelIdeal.nD Cert.MoeKernelIdeal.τ).loc Cert.MoeKernelIdeal.main_v0) = v0 c
          ∧ r.2.mem ((c.tc : Thread Cert.MoeKernelIdeal.nD Cert.MoeKernelIdeal.τ).loc Cert.MoeKernelIdeal.main_arg0) = m ((c.tc : Thread Cert.MoeKernelIdeal.nD Cert.MoeKernelIdeal.τ).loc Cert.MoeKernelIdeal.main_arg0)
          ∧ r.2.mem ((c.tc : Thread Cert.MoeKernelIdeal.nD Cert.MoeKernelIdeal.τ).loc Cert.MoeKernelIdeal.main_arg1) = m ((c.tc : Thread Cert.MoeKernelIdeal.nD Cert.MoeKernelIdeal.τ).loc Cert.MoeKernelIdeal.main_arg1)
          ∧ r.2.mem ((c.tc : Thread Cert.MoeKernelIdeal.nD Cert.MoeKernelIdeal.τ).loc Cert.MoeKernelIdeal.main_arg2) = m ((c.tc : Thread Cert.MoeKernelIdeal.nD Cert.MoeKernelIdeal.τ).loc Cert.MoeKernelIdeal.main_arg2)
          ∧ r.2.mem ((c.tc : Thread Cert.MoeKernelIdeal.nD Cert.MoeKernelIdeal.τ).loc Cert.MoeKernelIdeal.main_arg3) = m ((c.tc : Thread Cert.MoeKernelIdeal.nD Cert.MoeKernelIdeal.τ).loc Cert.MoeKernelIdeal.main_arg3)
          ∧ r.2.mem ((c.tc : Thread Cert.MoeKernelIdeal.nD Cert.MoeKernelIdeal.τ).loc Cert.MoeKernelIdeal.main_arg4) = m ((c.tc : Thread Cert.MoeKernelIdeal.nD Cert.MoeKernelIdeal.τ).loc Cert.MoeKernelIdeal.main_arg4)
          ∧ r.2.mem ((c.tc : Thread Cert.MoeKernelIdeal.nD Cert.MoeKernelIdeal.τ).loc Cert.MoeKernelIdeal.main_arg5) = m ((c.tc : Thread Cert.MoeKernelIdeal.nD Cert.MoeKernelIdeal.τ).loc Cert.MoeKernelIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v18) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v13) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v2)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v49) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_MergeKernel_MergeKernelIdeal : Prop :=
  True

def algebraic_MergeKernelIdeal_MergeReferenceIdeal [hMergeKernelIdeal : Cert.MergeKernelIdeal.Facts] [hMergeReferenceIdeal : Cert.MergeReferenceIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)
      ∧ m' ((c.tc : Thread Cert.MergeReferenceIdeal.nD Cert.MergeReferenceIdeal.τ).loc Cert.MergeReferenceIdeal.main_arg10) = m ((c.tc : Thread Cert.MergeKernelIdeal.nD Cert.MergeKernelIdeal.τ).loc Cert.MergeKernelIdeal.main_arg10)
      ∧ m' ((c.tc : Thread Cert.MergeReferenceIdeal.nD Cert.MergeReferenceIdeal.τ).loc Cert.MergeReferenceIdeal.main_arg11) = m ((c.tc : Thread Cert.MergeKernelIdeal.nD Cert.MergeKernelIdeal.τ).loc Cert.MergeKernelIdeal.main_arg11)
      ∧ m' ((c.tc : Thread Cert.MergeReferenceIdeal.nD Cert.MergeReferenceIdeal.τ).loc Cert.MergeReferenceIdeal.main_arg12) = m ((c.tc : Thread Cert.MergeKernelIdeal.nD Cert.MergeKernelIdeal.τ).loc Cert.MergeKernelIdeal.main_arg12)) →
    ∃ (v0 : (c : Dev Cert.MergeKernelIdeal.nD) → Buf (Elt Ideal) ((c.tc : Thread Cert.MergeKernelIdeal.nD Cert.MergeKernelIdeal.τ).loc Cert.MergeKernelIdeal.main_v3)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v3) = v0 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9)
          ∧ r.2.mem ((c.tc : Thread Cert.MergeKernelIdeal.nD Cert.MergeKernelIdeal.τ).loc Cert.MergeKernelIdeal.main_arg10) = m ((c.tc : Thread Cert.MergeKernelIdeal.nD Cert.MergeKernelIdeal.τ).loc Cert.MergeKernelIdeal.main_arg10)
          ∧ r.2.mem ((c.tc : Thread Cert.MergeKernelIdeal.nD Cert.MergeKernelIdeal.τ).loc Cert.MergeKernelIdeal.main_arg11) = m ((c.tc : Thread Cert.MergeKernelIdeal.nD Cert.MergeKernelIdeal.τ).loc Cert.MergeKernelIdeal.main_arg11)
          ∧ r.2.mem ((c.tc : Thread Cert.MergeKernelIdeal.nD Cert.MergeKernelIdeal.τ).loc Cert.MergeKernelIdeal.main_arg12) = m ((c.tc : Thread Cert.MergeKernelIdeal.nD Cert.MergeKernelIdeal.τ).loc Cert.MergeKernelIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v85) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_CombKernel_CombKernelIdeal : Prop :=
  True

def algebraic_CombKernelIdeal_CombReferenceIdeal [hCombKernelIdeal : Cert.CombKernelIdeal.Facts] [hCombReferenceIdeal : Cert.CombReferenceIdeal.Facts] : Prop :=
  ∀ (m : (ℓ : Loc Cert.CombKernelIdeal.nD Cert.CombKernelIdeal.τ Cert.CombKernelIdeal.sig) → Buf (Elt Ideal) ℓ) (g : Dev Cert.CombKernelIdeal.nD → PrngReg)
    (m' : (ℓ : Loc Cert.CombReferenceIdeal.nD Cert.CombReferenceIdeal.τ Cert.CombReferenceIdeal.sig) → Buf (Elt Ideal) ℓ) (g' : Dev Cert.CombReferenceIdeal.nD → PrngReg), Pre_CombKernelIdeal m →
    (∀ c : Dev Cert.CombKernelIdeal.nD,
      m' ((c.tc : Thread Cert.CombReferenceIdeal.nD Cert.CombReferenceIdeal.τ).loc Cert.CombReferenceIdeal.main_arg0) = m ((c.tc : Thread Cert.CombKernelIdeal.nD Cert.CombKernelIdeal.τ).loc Cert.CombKernelIdeal.main_arg0)
      ∧ m' ((c.tc : Thread Cert.CombReferenceIdeal.nD Cert.CombReferenceIdeal.τ).loc Cert.CombReferenceIdeal.main_arg1) = m ((c.tc : Thread Cert.CombKernelIdeal.nD Cert.CombKernelIdeal.τ).loc Cert.CombKernelIdeal.main_arg1)
      ∧ m' ((c.tc : Thread Cert.CombReferenceIdeal.nD Cert.CombReferenceIdeal.τ).loc Cert.CombReferenceIdeal.main_arg2) = m ((c.tc : Thread Cert.CombKernelIdeal.nD Cert.CombKernelIdeal.τ).loc Cert.CombKernelIdeal.main_arg2)
      ∧ m' ((c.tc : Thread Cert.CombReferenceIdeal.nD Cert.CombReferenceIdeal.τ).loc Cert.CombReferenceIdeal.main_arg3) = m ((c.tc : Thread Cert.CombKernelIdeal.nD Cert.CombKernelIdeal.τ).loc Cert.CombKernelIdeal.main_arg3)
      ∧ m' ((c.tc : Thread Cert.CombReferenceIdeal.nD Cert.CombReferenceIdeal.τ).loc Cert.CombReferenceIdeal.main_arg4) = m ((c.tc : Thread Cert.CombKernelIdeal.nD Cert.CombKernelIdeal.τ).loc Cert.CombKernelIdeal.main_arg4)
      ∧ m' ((c.tc : Thread Cert.CombReferenceIdeal.nD Cert.CombReferenceIdeal.τ).loc Cert.CombReferenceIdeal.main_arg5) = m ((c.tc : Thread Cert.CombKernelIdeal.nD Cert.CombKernelIdeal.τ).loc Cert.CombKernelIdeal.main_arg5)
      ∧ m' ((c.tc : Thread Cert.CombReferenceIdeal.nD Cert.CombReferenceIdeal.τ).loc Cert.CombReferenceIdeal.main_arg6) = m ((c.tc : Thread Cert.CombKernelIdeal.nD Cert.CombKernelIdeal.τ).loc Cert.CombKernelIdeal.main_arg6)) →
    ∃ (v0 : (c : Dev Cert.CombKernelIdeal.nD) → Buf (Elt Ideal) ((c.tc : Thread Cert.CombKernelIdeal.nD Cert.CombKernelIdeal.τ).loc Cert.CombKernelIdeal.main_v2)),
      θ_run (Cert.CombKernelIdeal.defs (F := Ideal)) (onTc (τ := Cert.CombKernelIdeal.τ) (Cert.CombKernelIdeal.main (F := Ideal))) ⟨m, fun _ => 0, g⟩ (fun r => ∀ c : Dev Cert.CombKernelIdeal.nD,
          r.2.mem ((c.tc : Thread Cert.CombKernelIdeal.nD Cert.CombKernelIdeal.τ).loc Cert.CombKernelIdeal.main_v2) = v0 c
          ∧ r.2.mem ((c.tc : Thread Cert.CombKernelIdeal.nD Cert.CombKernelIdeal.τ).loc Cert.CombKernelIdeal.main_arg0) = m ((c.tc : Thread Cert.CombKernelIdeal.nD Cert.CombKernelIdeal.τ).loc Cert.CombKernelIdeal.main_arg0)
          ∧ r.2.mem ((c.tc : Thread Cert.CombKernelIdeal.nD Cert.CombKernelIdeal.τ).loc Cert.CombKernelIdeal.main_arg1) = m ((c.tc : Thread Cert.CombKernelIdeal.nD Cert.CombKernelIdeal.τ).loc Cert.CombKernelIdeal.main_arg1)
          ∧ r.2.mem ((c.tc : Thread Cert.CombKernelIdeal.nD Cert.CombKernelIdeal.τ).loc Cert.CombKernelIdeal.main_arg2) = m ((c.tc : Thread Cert.CombKernelIdeal.nD Cert.CombKernelIdeal.τ).loc Cert.CombKernelIdeal.main_arg2)
          ∧ r.2.mem ((c.tc : Thread Cert.CombKernelIdeal.nD Cert.CombKernelIdeal.τ).loc Cert.CombKernelIdeal.main_arg3) = m ((c.tc : Thread Cert.CombKernelIdeal.nD Cert.CombKernelIdeal.τ).loc Cert.CombKernelIdeal.main_arg3)
          ∧ r.2.mem ((c.tc : Thread Cert.CombKernelIdeal.nD Cert.CombKernelIdeal.τ).loc Cert.CombKernelIdeal.main_arg4) = m ((c.tc : Thread Cert.CombKernelIdeal.nD Cert.CombKernelIdeal.τ).loc Cert.CombKernelIdeal.main_arg4)
          ∧ r.2.mem ((c.tc : Thread Cert.CombKernelIdeal.nD Cert.CombKernelIdeal.τ).loc Cert.CombKernelIdeal.main_arg5) = m ((c.tc : Thread Cert.CombKernelIdeal.nD Cert.CombKernelIdeal.τ).loc Cert.CombKernelIdeal.main_arg5)
          ∧ r.2.mem ((c.tc : Thread Cert.CombKernelIdeal.nD Cert.CombKernelIdeal.τ).loc Cert.CombKernelIdeal.main_arg6) = m ((c.tc : Thread Cert.CombKernelIdeal.nD Cert.CombKernelIdeal.τ).loc Cert.CombKernelIdeal.main_arg6))
      ∧ θ_run (Cert.CombReferenceIdeal.defs (F := Ideal)) (onTc (τ := Cert.CombReferenceIdeal.τ) (Cert.CombReferenceIdeal.main (F := Ideal))) ⟨m', fun _ => 0, g'⟩ (fun r => ∀ c : Dev Cert.CombReferenceIdeal.nD,
          r.2.mem ((c.tc : Thread Cert.CombReferenceIdeal.nD Cert.CombReferenceIdeal.τ).loc Cert.CombReferenceIdeal.main_v39) = v0 c
          ∧ r.2.mem ((c.tc : Thread Cert.CombReferenceIdeal.nD Cert.CombReferenceIdeal.τ).loc Cert.CombReferenceIdeal.main_arg0) = m' ((c.tc : Thread Cert.CombReferenceIdeal.nD Cert.CombReferenceIdeal.τ).loc Cert.CombReferenceIdeal.main_arg0)
          ∧ r.2.mem ((c.tc : Thread Cert.CombReferenceIdeal.nD Cert.CombReferenceIdeal.τ).loc Cert.CombReferenceIdeal.main_arg1) = m' ((c.tc : Thread Cert.CombReferenceIdeal.nD Cert.CombReferenceIdeal.τ).loc Cert.CombReferenceIdeal.main_arg1)
          ∧ r.2.mem ((c.tc : Thread Cert.CombReferenceIdeal.nD Cert.CombReferenceIdeal.τ).loc Cert.CombReferenceIdeal.main_arg2) = m' ((c.tc : Thread Cert.CombReferenceIdeal.nD Cert.CombReferenceIdeal.τ).loc Cert.CombReferenceIdeal.main_arg2)
          ∧ r.2.mem ((c.tc : Thread Cert.CombReferenceIdeal.nD Cert.CombReferenceIdeal.τ).loc Cert.CombReferenceIdeal.main_arg3) = m' ((c.tc : Thread Cert.CombReferenceIdeal.nD Cert.CombReferenceIdeal.τ).loc Cert.CombReferenceIdeal.main_arg3)
          ∧ r.2.mem ((c.tc : Thread Cert.CombReferenceIdeal.nD Cert.CombReferenceIdeal.τ).loc Cert.CombReferenceIdeal.main_arg4) = m' ((c.tc : Thread Cert.CombReferenceIdeal.nD Cert.CombReferenceIdeal.τ).loc Cert.CombReferenceIdeal.main_arg4)
          ∧ r.2.mem ((c.tc : Thread Cert.CombReferenceIdeal.nD Cert.CombReferenceIdeal.τ).loc Cert.CombReferenceIdeal.main_arg5) = m' ((c.tc : Thread Cert.CombReferenceIdeal.nD Cert.CombReferenceIdeal.τ).loc Cert.CombReferenceIdeal.main_arg5)
          ∧ r.2.mem ((c.tc : Thread Cert.CombReferenceIdeal.nD Cert.CombReferenceIdeal.τ).loc Cert.CombReferenceIdeal.main_arg6) = m' ((c.tc : Thread Cert.CombReferenceIdeal.nD Cert.CombReferenceIdeal.τ).loc Cert.CombReferenceIdeal.main_arg6))

def preserves_RetKernel_RetKernelIdeal : Prop :=
  True

def algebraic_RetKernelIdeal_RetReferenceIdeal_pre_rows_finite [hRetKernelIdeal : Cert.RetKernelIdeal.Facts] [hRetReferenceIdeal : Cert.RetReferenceIdeal.Facts] [hPre_rows_finite : Cert.Pre_rows_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_rows_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v111)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v111) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v135) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def Claim : Prop :=
  ∃ (hMoeKernel : Cert.MoeKernel.Facts) (hMoeKernelIdeal : Cert.MoeKernelIdeal.Facts) (hMoeReferenceIdeal : Cert.MoeReferenceIdeal.Facts) (hProjKernel : Cert.ProjKernel.Facts) (hProjKernelIdeal : Cert.ProjKernelIdeal.Facts) (hProjReferenceIdeal : Cert.ProjReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hCombKernel : Cert.CombKernel.Facts) (hCombKernelIdeal : Cert.CombKernelIdeal.Facts) (hCombReferenceIdeal : Cert.CombReferenceIdeal.Facts) (hRetKernel : Cert.RetKernel.Facts) (hRetKernelIdeal : Cert.RetKernelIdeal.Facts) (hRetReferenceIdeal : Cert.RetReferenceIdeal.Facts) (hPre_experts_in_range : Cert.Pre_experts_in_range.Facts) (hPre_rows_finite : Cert.Pre_rows_finite.Facts),
    quiescent_MoeKernel (hMoeKernel := hMoeKernel) (hPre_experts_in_range := hPre_experts_in_range)
    ∧ quiescent_MoeKernelIdeal (hMoeKernelIdeal := hMoeKernelIdeal) (hPre_experts_in_range := hPre_experts_in_range)
    ∧ quiescent_MoeReferenceIdeal (hMoeReferenceIdeal := hMoeReferenceIdeal)
    ∧ quiescent_MoeReferenceIdeal_pre_experts_in_range (hMoeReferenceIdeal := hMoeReferenceIdeal) (hPre_experts_in_range := hPre_experts_in_range)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MergeKernel (hMergeKernel := hMergeKernel)
    ∧ quiescent_MergeKernelIdeal (hMergeKernelIdeal := hMergeKernelIdeal)
    ∧ quiescent_MergeReferenceIdeal (hMergeReferenceIdeal := hMergeReferenceIdeal)
    ∧ quiescent_CombKernel (hCombKernel := hCombKernel)
    ∧ quiescent_CombKernelIdeal (hCombKernelIdeal := hCombKernelIdeal)
    ∧ quiescent_CombReferenceIdeal (hCombReferenceIdeal := hCombReferenceIdeal)
    ∧ quiescent_RetKernel (hRetKernel := hRetKernel)
    ∧ quiescent_RetKernelIdeal (hRetKernelIdeal := hRetKernelIdeal)
    ∧ quiescent_RetKernelIdeal_pre_rows_finite (hRetKernelIdeal := hRetKernelIdeal) (hPre_rows_finite := hPre_rows_finite)
    ∧ quiescent_RetReferenceIdeal (hRetReferenceIdeal := hRetReferenceIdeal)
    ∧ quiescent_RetReferenceIdeal_pre_rows_finite (hRetReferenceIdeal := hRetReferenceIdeal) (hPre_rows_finite := hPre_rows_finite)
    ∧ preserves_MoeKernel_MoeKernelIdeal
    ∧ algebraic_MoeKernelIdeal_MoeReferenceIdeal (hMoeKernelIdeal := hMoeKernelIdeal) (hMoeReferenceIdeal := hMoeReferenceIdeal) (hPre_experts_in_range := hPre_experts_in_range)
    ∧ preserves_ProjKernel_ProjKernelIdeal
    ∧ algebraic_ProjKernelIdeal_ProjReferenceIdeal (hProjKernelIdeal := hProjKernelIdeal) (hProjReferenceIdeal := hProjReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_MergeKernel_MergeKernelIdeal
    ∧ algebraic_MergeKernelIdeal_MergeReferenceIdeal (hMergeKernelIdeal := hMergeKernelIdeal) (hMergeReferenceIdeal := hMergeReferenceIdeal)
    ∧ preserves_CombKernel_CombKernelIdeal
    ∧ algebraic_CombKernelIdeal_CombReferenceIdeal (hCombKernelIdeal := hCombKernelIdeal) (hCombReferenceIdeal := hCombReferenceIdeal)
    ∧ preserves_RetKernel_RetKernelIdeal
    ∧ algebraic_RetKernelIdeal_RetReferenceIdeal_pre_rows_finite (hRetKernelIdeal := hRetKernelIdeal) (hRetReferenceIdeal := hRetReferenceIdeal) (hPre_rows_finite := hPre_rows_finite)
-- ==== Pre_experts_in_range.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : FVec F S36864x1024 .f32) (main_arg1 : IVec S72 32) (main_arg2 : IVec S1 32) (main_arg3 : FVec F S8x1024x3584 .bf16) (main_arg4 : FVec F S8x1024x3584 .bf16) (main_arg5 : FVec F S8x3584x1024 .bf16) : IVec S72 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  main_v4
-- ==== Pre_rows_finite.lean ====
abbrev S16384x17408 : Shape := ⟨2, ![16384, 17408]⟩
abbrev S2048x6144 : Shape := ⟨2, ![2048, 6144]⟩
abbrev S_ : Shape := ⟨0, ![]⟩

class Facts : Prop where
  bitsLt_bf16_f32 : FTy.bits .bf16 < FTy.bits .f32
  bcast_S_S16384x17408 : S_.BroadcastsInDim S16384x17408 (![] : Fin 0 → Fin S16384x17408.rank)
  reducesTo_S16384x17408_S_d0_1 : S16384x17408.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_

variable [Facts]

def fn {F : FTy → Type} [FloatOps F] (main_arg0 : FVec F S16384x17408 .bf16) (main_arg1 : FVec F S2048x6144 .bf16) : IVec S_ 1 :=
  let main_v0 : FVec F S16384x17408 .f32 := (extf .f32 · bitsLt_bf16_f32) main_arg0
  let main_v1 : FVec F S16384x17408 .f32 := Host.absf main_v0
  let main_cst : FVec F S_ .f32 := constant S_ .f32 0x7F800000#32
  let main_v2 : FVec F S16384x17408 .f32 := broadcastInDim S16384x17408 ![] bcast_S_S16384x17408 main_cst
  let main_v3 : IVec S16384x17408 1 := cmpf .olt main_v1 main_v2
  let main_c : IVec S_ 1 := constantI S_ 1 1#1
  let main_v4 : IVec S_ 1 := (fun x v => Host.reduce IntOp.andi x v reducesTo_S16384x17408_S_d0_1 h_S_) main_v3 main_c
  let main_v5 : FVec F S2048x6144 .f32 := (extf .f32 · bitsLt_bf16_f32) main_arg1
  let main_v6 : FVec F S2048x6144 .f32 := Host.absf main_v5
  let main_cst_0 : FVec F S_ .f32 := constant S_ .f32 0x7F800000#32
  let main_v7 : FVec F S2048x6144 .f32 := broadcastInDim S2048x6144 ![] bcast_S_S2048x6144 main_cst_0
  let main_v8 : IVec S2048x6144 1 := cmpf .olt main_v6 main_v7
  let main_c_1 : IVec S_ 1 := constantI S_ 1 1#1
  let main_v9 : IVec S_ 1 := (fun x v => Host.reduce IntOp.andi x v reducesTo_S2048x6144_S_d0_1 h_S_) main_v8 main_c_1
  let main_v10 : IVec S_ 1 := andi main_v4 main_v9
  main_v10
-- ==== MoeKernel.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 12
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32_21 : BitVec 32 := 1#32
  let v32 : BitVec 1 := Scalar.cmpi .eq arg1 c1_i32_21
  let v33 : BitVec 32 := Scalar.extui v32
  let c0_i32_22 : BitVec 32 := 0#32
  let v34 : BitVec 1 := Scalar.cmpi .ne v33 c0_i32_22
  v34

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c1_i32 : BitVec 32 := 1#32
  let v6 : BitVec 1 := Scalar.cmpi .eq arg1 c1_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S72x512x1024 : Shape := ⟨3, ![72, 512, 1024]⟩
abbrev S72x1 : Shape := ⟨2, ![72, 1]⟩
abbrev S72x1024x3584 : Shape := ⟨3, ![72, 1024, 3584]⟩
abbrev S72x3584x1024 : Shape := ⟨3, ![72, 3584, 1024]⟩
abbrev S72x512x3584 : Shape := ⟨3, ![72, 512, 3584]⟩
abbrev S_ : Shape := ⟨0, ![]⟩
abbrev S72x1x1 : Shape := ⟨3, ![72, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S36864x1024, .f32⟩
  | .hbm, ⟨1, _⟩ => ⟨S72, .i32⟩
  | .hbm, ⟨2, _⟩ => ⟨S1, .i32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S72x512x1024, .f32⟩
  | .hbm, ⟨7, _⟩ => ⟨S8x1024x3584, .f32⟩
  | .hbm, ⟨8, _⟩ => ⟨S72x1, .i32⟩
  | .hbm, ⟨9, _⟩ => ⟨S72x1024x3584, .f32⟩
  | .hbm, ⟨10, _⟩ => ⟨S8x1024x3584, .f32⟩
  | .hbm, ⟨11, _⟩ => ⟨S72x1, .i32⟩
  | .hbm, ⟨12, _⟩ => ⟨S72x1024x3584, .f32⟩
  | .hbm, ⟨13, _⟩ => ⟨S8x3584x1024, .f32⟩
  | .hbm, ⟨14, _⟩ => ⟨S72x1, .i32⟩
  | .hbm, ⟨15, _⟩ => ⟨S72x3584x1024, .f32⟩
  | .hbm, ⟨16, _⟩ => ⟨S72x512x3584, .f32⟩
  | .hbm, ⟨17, _⟩ => ⟨S72x512x3584, .f32⟩
  | .hbm, ⟨18, _⟩ => ⟨S72x512x3584, .f32⟩
  | .hbm, ⟨19, _⟩ => ⟨S_, .f32⟩
  | .hbm, ⟨20, _⟩ => ⟨S72x512x3584, .f32⟩
  | .hbm, ⟨21, _⟩ => ⟨S72x512x3584, .f32⟩
  | .hbm, ⟨22, _⟩ => ⟨S_, .f32⟩
  | .hbm, ⟨23, _⟩ => ⟨S72x512x3584, .f32⟩
  | .hbm, ⟨24, _⟩ => ⟨S72x512x3584, .f32⟩
  | .hbm, ⟨25, _⟩ => ⟨S72x512x3584, .f32⟩
  | .hbm, ⟨26, _⟩ => ⟨S72x512x3584, .f32⟩
  | .hbm, ⟨27, _⟩ => ⟨S72x512x3584, .f32⟩
  | .hbm, ⟨28, _⟩ => ⟨S72x512x1024, .f32⟩
  | .hbm, ⟨29, _⟩ => ⟨S72, .i32⟩
  | .hbm, ⟨30, _⟩ => ⟨S_, .i32⟩
  | .hbm, ⟨31, _⟩ => ⟨S72, .i32⟩
  | .hbm, ⟨32, _⟩ => ⟨S72, .i1⟩
  | .hbm, ⟨33, _⟩ => ⟨S72x1x1, .i1⟩
  | .hbm, ⟨34, _⟩ => ⟨S_, .f32⟩
  | .hbm, ⟨35, _⟩ => ⟨S_, .f32⟩
  | .hbm, ⟨36, _⟩ => ⟨S72x512x1024, .i1⟩
  | .hbm, ⟨37, _⟩ => ⟨S72x512x1024, .f32⟩
  | .hbm, ⟨38, _⟩ => ⟨S72x512x1024, .f32⟩
  | .hbm, ⟨39, _⟩ => ⟨S36864x1024, .f32⟩
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_call3_v0 : Ref sig .tc := ⟨.hbm, 17, rfl⟩
abbrev main_call3_v1 : Ref sig .tc := ⟨.hbm, 18, rfl⟩
abbrev main_call3_cst : Ref sig .tc := ⟨.hbm, 19, rfl⟩
abbrev main_call3_v2 : Ref sig .tc := ⟨.hbm, 20, rfl⟩
abbrev main_call3_v3 : Ref sig .tc := ⟨.hbm, 21, rfl⟩
abbrev main_call3_cst_0 : Ref sig .tc := ⟨.hbm, 22, rfl⟩
abbrev main_call3_v4 : Ref sig .tc := ⟨.hbm, 23, rfl⟩
abbrev main_call3_v5 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== ProjKernel.lean ====
abbrev S16384x1024 : Shape := ⟨2, ![16384, 1024]⟩
abbrev S16x8x1024 : Shape := ⟨3, ![16, 8, 1024]⟩
abbrev S2x1024x17408 : Shape := ⟨3, ![2, 1024, 17408]⟩
abbrev S16384x17408 : Shape := ⟨2, ![16384, 17408]⟩
abbrev S2048x1024 : Shape := ⟨2, ![2048, 1024]⟩
abbrev S1x8x1024 : Shape := ⟨3, ![1, 8, 1024]⟩
abbrev S1x1024x1024 : Shape := ⟨3, ![1, 1024, 1024]⟩
abbrev S8x1024 : Shape := ⟨2, ![8, 1024]⟩
abbrev S1x1024 : Shape := ⟨2, ![1, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S2x1024x17408, .f32⟩
  | .hbm, ⟨3, _⟩ => ⟨S16384x17408, .bf16⟩
  | .local _ .vmem, ⟨0, _⟩ => ⟨S2048x1024, .f32⟩
  | .local _ .vmem, ⟨1, _⟩ => ⟨S2048x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c2048_i32_0 : BitVec 32 := 2048#32
  let v1 : BitVec 32 := Scalar.divsi v0 c2048_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2048_i32_0 c0_i32_2
  let v8 : BitVec 32 := Scalar.extui v7
  let c0_i32_3 : BitVec 32 := 0#32
  let v9 : BitVec 1 := Scalar.cmpi .slt c2048_i32_0 c0_i32_3
  let v10 : BitVec 32 := Scalar.extui v9
  let v11 : BitVec 32 := Scalar.subi v8 v10
  let v12 : BitVec 1 := Scalar.cmpi .ne v6 v11
  let v13 : BitVec 32 := Scalar.remsi v0 c2048_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S16384x1024 : Shape := ⟨2, ![16384, 1024]⟩
abbrev S16x8x1024 : Shape := ⟨3, ![16, 8, 1024]⟩
abbrev S2x1024x17408 : Shape := ⟨3, ![2, 1024, 17408]⟩
abbrev S8x1x1024 : Shape := ⟨3, ![8, 1, 1024]⟩
abbrev S8x2048x1024 : Shape := ⟨3, ![8, 2048, 1024]⟩
abbrev S_ : Shape := ⟨0, ![]⟩
abbrev S1x1024x17408 : Shape := ⟨3, ![1, 1024, 17408]⟩
abbrev S1024x17408 : Shape := ⟨2, ![1024, 17408]⟩
abbrev S16384x17408 : Shape := ⟨2, ![16384, 17408]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S2x1024x17408, .f32⟩
  | .hbm, ⟨3, _⟩ => ⟨S8x1x1024, .f32⟩
  | .hbm, ⟨4, _⟩ => ⟨S8x1x1024, .f32⟩
  | .hbm, ⟨5, _⟩ => ⟨S8x2048x1024, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S16384x1024, .f32⟩
  | .hbm, ⟨14, _⟩ => ⟨S1x1024x17408, .f32⟩
  | .hbm, ⟨15, _⟩ => ⟨S1024x17408, .f32⟩
  | .hbm, ⟨16, _⟩ => ⟨S16384x17408, .f32⟩
  | .hbm, ⟨17, _⟩ => ⟨S16384x17408, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== FfnKernel.lean ====
abbrev S16384x1024 : Shape := ⟨2, ![16384, 1024]⟩
abbrev S16x8x1024 : Shape := ⟨3, ![16, 8, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1x8x1024 : Shape := ⟨3, ![1, 8, 1024]⟩
abbrev S1024x1408 : Shape := ⟨2, ![1024, 1408]⟩
abbrev S1408x1024 : Shape := ⟨2, ![1408, 1024]⟩
abbrev S8x1024 : Shape := ⟨2, ![8, 1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S16384x1024 : Shape := ⟨2, ![16384, 1024]⟩
abbrev S16x8x1024 : Shape := ⟨3, ![16, 8, 1024]⟩
abbrev S1024x2816 : Shape := ⟨2, ![1024, 2816]⟩
abbrev S2816x1024 : Shape := ⟨2, ![2816, 1024]⟩
abbrev S1024 : Shape := ⟨1, ![1024]⟩
abbrev S8x1x1024 : Shape := ⟨3, ![8, 1, 1024]⟩
abbrev S8x2048x1024 : Shape := ⟨3, ![8, 2048, 1024]⟩
abbrev S_ : Shape := ⟨0, ![]⟩
abbrev S16384x2816 : Shape := ⟨2, ![16384, 2816]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x2048x1024, .f32⟩
  | .hbm, ⟨11, _⟩ => ⟨S_, .f32⟩
  | .hbm, ⟨12, _⟩ => ⟨S8x1x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S16384x1024, .f32⟩
  | .hbm, ⟨19, _⟩ => ⟨S1024x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S_, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S1024x2816, .f32⟩
  | .hbm, ⟨31, _⟩ => ⟨S16384x2816, .f32⟩
  | .hbm, ⟨32, _⟩ => ⟨S16384x2816, .f32⟩
  | .hbm, ⟨33, _⟩ => ⟨S2816x1024, .f32⟩
  | .hbm, ⟨34, _⟩ => ⟨S16384x1024, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | .hbm, ⟨71, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]
-- ==== MergeKernel.lean ====
abbrev S16384x1024 : Shape := ⟨2, ![16384, 1024]⟩
abbrev S16384x2048 : Shape := ⟨2, ![16384, 2048]⟩
abbrev S16384x17408 : Shape := ⟨2, ![16384, 17408]⟩
abbrev S16x8x1024 : Shape := ⟨3, ![16, 8, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩
abbrev S1x8x1024 : Shape := ⟨3, ![1, 8, 1024]⟩
abbrev S512 : Shape := ⟨1, ![512]⟩
abbrev S512x1 : Shape := ⟨2, ![512, 1]⟩
abbrev S8x1024 : Shape := ⟨2, ![8, 1024]⟩

abbrev nBuf : Space → Nat
  | .hbm => 17
  | .vmem => 27
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x2048, .bf16⟩
  | .hbm, ⟨3, _⟩ => ⟨S16384x17408, .bf16⟩
  | .hbm, ⟨4, _⟩ => ⟨S16384x1024, .f32⟩
  | .hbm, ⟨5, _⟩ => ⟨S16x8x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S2048x1024, .bf16⟩
  | .hbm, ⟨10, _⟩ => ⟨S1024x1024, .bf16⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x1024, .f32⟩
  | .local _ .vmem, ⟨19, _⟩ => ⟨S1024x1024, .bf16⟩
  | .local _ .vmem, ⟨20, _⟩ => ⟨S1024x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_5 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_6 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeReferenceIdeal.lean ====
abbrev S16384x1024 : Shape := ⟨2, ![16384, 1024]⟩
abbrev S16384x2048 : Shape := ⟨2, ![16384, 2048]⟩
abbrev S16384x17408 : Shape := ⟨2, ![16384, 17408]⟩
abbrev S16x8x1024 : Shape := ⟨3, ![16, 8, 1024]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x2048x1024 : Shape := ⟨3, ![8, 2048, 1024]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x2048, .bf16⟩
  | .hbm, ⟨3, _⟩ => ⟨S16384x17408, .bf16⟩
  | .hbm, ⟨4, _⟩ => ⟨S16384x1024, .f32⟩
  | .hbm, ⟨5, _⟩ => ⟨S16x8x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S2048x1024, .bf16⟩
  | .hbm, ⟨10, _⟩ => ⟨S1024x1024, .bf16⟩
  | .hbm, ⟨11, _⟩ => ⟨S1024, .f32⟩
  | .hbm, ⟨12, _⟩ => ⟨S1024, .f32⟩
  | .hbm, ⟨13, _⟩ => ⟨S16384x17408, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S1024x1024, .f32⟩
  | .hbm, ⟨70, _⟩ => ⟨S16384x1024, .f32⟩
  | .hbm, ⟨71, _⟩ => ⟨S16384x1024, .f32⟩
  | .hbm, ⟨72, _⟩ => ⟨S1024x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x2048, .f32⟩
  | .hbm, ⟨77, _⟩ => ⟨S2048x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S1024x1024, .f32⟩
  | .hbm, ⟨82, _⟩ => ⟨S16384x1024, .f32⟩
  | .hbm, ⟨83, _⟩ => ⟨S8x2048x1024, .f32⟩
  | .hbm, ⟨84, _⟩ => ⟨S8x1x1024, .f32⟩
  | .hbm, ⟨85, _⟩ => ⟨S8x2048x1024, .f32⟩
  | .hbm, ⟨86, _⟩ => ⟨S_, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S8x2048x1024, .f32⟩
  | .hbm, ⟨92, _⟩ => ⟨S_, .f32⟩
  | .hbm, ⟨93, _⟩ => ⟨S8x2048, .f32⟩
  | .hbm, ⟨94, _⟩ => ⟨S8x2048x1, .f32⟩
  | .hbm, ⟨95, _⟩ => ⟨S_, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S8x2048x1024, .f32⟩
  | .hbm, ⟨101, _⟩ => ⟨S_, .f32⟩
  | .hbm, ⟨102, _⟩ => ⟨S8x2048, .f32⟩
  | .hbm, ⟨103, _⟩ => ⟨S8x2048x1, .f32⟩
  | .hbm, ⟨104, _⟩ => ⟨S_, .f32⟩
  | .hbm, ⟨105, _⟩ => ⟨S8x2048x1, .f32⟩
  | .hbm, ⟨106, _⟩ => ⟨S8x2048x1, .f32⟩
  | .hbm, ⟨107, _⟩ => ⟨S8x2048x1024, .f32⟩
  | .hbm, ⟨108, _⟩ => ⟨S8x2048x1024, .f32⟩
  | .hbm, ⟨109, _⟩ => ⟨S_, .f32⟩
  | .hbm, ⟨110, _⟩ => ⟨S8x2048x1, .f32⟩
  | .hbm, ⟨111, _⟩ => ⟨S8x2048x1, .f32⟩
  | .hbm, ⟨112, _⟩ => ⟨S8x2048x1, .f32⟩
  | .hbm, ⟨113, _⟩ => ⟨S8x2048x1024, .f32⟩
  | .hbm, ⟨114, _⟩ => ⟨S8x2048x1024, .f32⟩
  | .hbm, ⟨115, _⟩ => ⟨S1x1x1024, .f32⟩
  | .hbm, ⟨116, _⟩ => ⟨S8x2048x1024, .f32⟩
  | .hbm, ⟨117, _⟩ => ⟨S8x2048x1024, .f32⟩
  | .hbm, ⟨118, _⟩ => ⟨S1x1x1024, .f32⟩
  | .hbm, ⟨119, _⟩ => ⟨S8x2048x1024, .f32⟩
  | .hbm, ⟨120, _⟩ => ⟨S8x2048x1024, .f32⟩
  | .hbm, ⟨121, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_11 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== CombKernel.lean ====
abbrev S16384x1024 : Shape := ⟨2, ![16384, 1024]⟩
abbrev S16x8x1024 : Shape := ⟨3, ![16, 8, 1024]⟩
abbrev S16384x128 : Shape := ⟨2, ![16384, 128]⟩
abbrev S1024 : Shape := ⟨1, ![1024]⟩
abbrev S1x1024 : Shape := ⟨2, ![1, 1024]⟩
abbrev S512x1024 : Shape := ⟨2, ![512, 1024]⟩
abbrev S1x8x1024 : Shape := ⟨3, ![1, 8, 1024]⟩
abbrev S512x128 : Shape := ⟨2, ![512, 128]⟩
abbrev S8x1024 : Shape := ⟨2, ![8, 1024]⟩
abbrev S512x1 : Shape := ⟨2, ![512, 1]⟩
abbrev S512 : Shape := ⟨1, ![512]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombReferenceIdeal.lean ====
abbrev S16384x1024 : Shape := ⟨2, ![16384, 1024]⟩
abbrev S16x8x1024 : Shape := ⟨3, ![16, 8, 1024]⟩
abbrev S16384x128 : Shape := ⟨2, ![16384, 128]⟩
abbrev S1024 : Shape := ⟨1, ![1024]⟩
abbrev S8x1x1024 : Shape := ⟨3, ![8, 1, 1024]⟩
abbrev S16384x1 : Shape := ⟨2, ![16384, 1]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x8x1024, .f32⟩
  | .hbm, ⟨2, _⟩ => ⟨S16384x1024, .f32⟩
  | .hbm, ⟨3, _⟩ => ⟨S16384x1024, .f32⟩
  | .hbm, ⟨4, _⟩ => ⟨S16384x128, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S16384x1, .f32⟩
  | .hbm, ⟨9, _⟩ => ⟨S16384x1024, .f32⟩
  | .hbm, ⟨10, _⟩ => ⟨S16384x1024, .f32⟩
  | .hbm, ⟨11, _⟩ => ⟨S16384x1, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S8x2048x1024, .f32⟩
  | .hbm, ⟨16, _⟩ => ⟨S8x2048x1024, .f32⟩
  | .hbm, ⟨17, _⟩ => ⟨S_, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RetKernel.lean ====
abbrev S16384x17408 : Shape := ⟨2, ![16384, 17408]⟩
abbrev S2048x6144 : Shape := ⟨2, ![2048, 6144]⟩
abbrev S_ : Shape := ⟨0, ![]⟩
abbrev S127 : Shape := ⟨1, ![127]⟩
abbrev S1 : Shape := ⟨1, ![1]⟩
abbrev S128 : Shape := ⟨1, ![128]⟩
abbrev S2304 : Shape := ⟨1, ![2304]⟩
abbrev S2304x1 : Shape := ⟨2, ![2304, 1]⟩
abbrev S1x128 : Shape := ⟨2, ![1, 128]⟩
abbrev S2304x128 : Shape := ⟨2, ![2304, 128]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4 : Shape := ⟨1, ![4]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x512 : Shape := ⟨2, ![4, 512]⟩
abbrev S4x512x1 : Shape := ⟨3, ![4, 512, 1]⟩
abbrev S4x512x128 : Shape := ⟨3, ![4, 512, 128]⟩
abbrev S4x8x128 : Shape := ⟨3, ![4, 8, 128]⟩
abbrev S1x4x256x256 : Shape := ⟨4, ![1, 4, 256, 256]⟩
abbrev S2x4x256x256 : Shape := ⟨4, ![2, 4, 256, 256]⟩
abbrev S1x4x512x128 : Shape := ⟨4, ![1, 4, 512, 128]⟩
abbrev S2x4x512x128 : Shape := ⟨4, ![2, 4, 512, 128]⟩
abbrev S1x4x8x128 : Shape := ⟨4, ![1, 4, 8, 128]⟩
abbrev S2x4x8x128 : Shape := ⟨4, ![2, 4, 8, 128]⟩
abbrev S16384x2048 : Shape := ⟨2, ![16384, 2048]⟩
abbrev S2048x256 : Shape := ⟨2, ![2048, 256]⟩
abbrev S2048x512 : Shape := ⟨2, ![2048, 512]⟩
abbrev S256x512 : Shape := ⟨2, ![256, 512]⟩
abbrev S2x1x256x256 : Shape := ⟨4, ![2, 1, 256, 256]⟩
abbrev S2x1x512x128 : Shape := ⟨4, ![2, 1, 512, 128]⟩
abbrev S2x1x8x128 : Shape := ⟨4, ![2, 1, 8, 128]⟩
abbrev S256x128 : Shape := ⟨2, ![256, 128]⟩
abbrev S1x1x256x128 : Shape := ⟨4, ![1, 1, 256, 128]⟩
abbrev S1x1x1x128 : Shape := ⟨4, ![1, 1, 1, 128]⟩
abbrev S1x512 : Shape := ⟨2, ![1, 512]⟩
abbrev S1x1x256x256 : Shape := ⟨4, ![1, 1, 256, 256]⟩

abbrev nBuf : Space → Nat
  | .hbm => 158
  | .vmem => 28
  | .smem => 0
  | _ => 0

abbrev hbmTy0_0 (i : Nat) : BufTy := match i % 128 with
  | 0 => ⟨S16384x17408, .bf16⟩
  | 1 => ⟨S2048x6144, .bf16⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S127, .f32⟩
  | 10 => ⟨S_, .f32⟩
  | 11 => ⟨S127, .f32⟩
  | 12 => ⟨S127, .f32⟩
  | 13 => ⟨S1, .f32⟩
  | 14 => ⟨S_, .f32⟩
  | 15 => ⟨S127, .f32⟩
  | 16 => ⟨S127, .f32⟩
  | 17 => ⟨S127, .f32⟩
  | 18 => ⟨S127, .f32⟩
  | 19 => ⟨S1, .f32⟩
  | 20 => ⟨S127, .f32⟩
  | 21 => ⟨S127, .f32⟩
  | 22 => ⟨S127, .f32⟩
  | 23 => ⟨S1, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S2304, .f32⟩
  | 32 => ⟨S2304x1, .f32⟩
  | 33 => ⟨S1x128, .f32⟩
  | 34 => ⟨S2304x128, .f32⟩
  | 35 => ⟨S2304x128, .f32⟩
  | 36 => ⟨S2304x128, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S8, .f32⟩
  | 46 => ⟨S8, .f32⟩
  | 47 => ⟨S256, .f32⟩
  | 48 => ⟨S256x1, .f32⟩
  | 49 => ⟨S1x256, .f32⟩
  | 50 => ⟨S256x256, .f32⟩
  | 51 => ⟨S256x256, .f32⟩
  | 52 => ⟨S256x256, .f32⟩
  | 53 => ⟨S4, .f32⟩
  | 54 => ⟨S_, .f32⟩
  | 55 => ⟨S256x256, .f32⟩
  | 56 => ⟨S256x256, .i1⟩
  | 57 => ⟨S_, .f32⟩
  | 58 => ⟨S256x256, .f32⟩
  | 59 => ⟨S256x256, .f32⟩
  | 60 => ⟨S1x256x256, .f32⟩
  | 61 => ⟨S4x1x1, .f32⟩
  | 62 => ⟨S4x256x256, .f32⟩
  | 63 => ⟨S4x256x256, .f32⟩
  | 64 => ⟨S4x256x256, .f32⟩
  | 65 => ⟨S4x256x256, .f32⟩
  | 66 => ⟨S_, .f32⟩
  | 67 => ⟨S_, .f32⟩
  | 68 => ⟨S4x256x256, .i1⟩
  | 69 => ⟨S4x256x256, .f32⟩
  | 70 => ⟨S4x256x256, .f32⟩
  | 71 => ⟨S_, .f32⟩
  | 72 => ⟨S256, .f32⟩
  | 73 => ⟨S256, .f32⟩
  | 74 => ⟨S1x256, .f32⟩
  | 75 => ⟨S4x1, .f32⟩
  | 76 => ⟨S4x256, .f32⟩
  | 77 => ⟨S4x256, .f32⟩
  | 78 => ⟨S4x256, .f32⟩
  | 79 => ⟨S4x256, .f32⟩
  | 80 => ⟨S_, .f32⟩
  | 81 => ⟨S256, .f32⟩
  | 82 => ⟨S256, .f32⟩
  | 83 => ⟨S1x256, .f32⟩
  | 84 => ⟨S4x1, .f32⟩
  | 85 => ⟨S4x256, .f32⟩
  | 86 => ⟨S4x256, .f32⟩
  | 87 => ⟨S4x256, .f32⟩
  | 88 => ⟨S4x256, .f32⟩
  | 89 => ⟨S4x512, .f32⟩
  | 90 => ⟨S4x512x1, .f32⟩
  | 91 => ⟨S4x512x128, .f32⟩
  | 92 => ⟨S_, .f32⟩
  | 93 => ⟨S4, .f32⟩
  | 94 => ⟨S4, .f32⟩
  | 95 => ⟨S4, .f32⟩
  | 96 => ⟨S4x1x1, .f32⟩
  | 97 => ⟨S4x8x128, .f32⟩
  | 98 => ⟨S4, .f32⟩
  | 99 => ⟨S_, .f32⟩
  | 100 => ⟨S256x256, .f32⟩
  | 101 => ⟨S256x256, .i1⟩
  | 102 => ⟨S_, .f32⟩
  | 103 => ⟨S256x256, .f32⟩
  | 104 => ⟨S256x256, .f32⟩
  | 105 => ⟨S1x256x256, .f32⟩
  | 106 => ⟨S4x1x1, .f32⟩
  | 107 => ⟨S4x256x256, .f32⟩
  | 108 => ⟨S4x256x256, .f32⟩
  | 109 => ⟨S4x256x256, .f32⟩
  | 110 => ⟨S4x256x256, .f32⟩
  | 111 => ⟨S_, .f32⟩
  | 112 => ⟨S_, .f32⟩
  | 113 => ⟨S4x256x256, .i1⟩
  | 114 => ⟨S4x256x256, .f32⟩
  | 115 => ⟨S4x256x256, .f32⟩
  | 116 => ⟨S_, .f32⟩
  | 117 => ⟨S256, .f32⟩
  | 118 => ⟨S256, .f32⟩
  | 119 => ⟨S1x256, .f32⟩
  | 120 => ⟨S4x1, .f32⟩
  | 121 => ⟨S4x256, .f32⟩
  | 122 => ⟨S4x256, .f32⟩
  | 123 => ⟨S4x256, .f32⟩
  | 124 => ⟨S4x256, .f32⟩
  | 125 => ⟨S_, .f32⟩
  | 126 => ⟨S256, .f32⟩
  | 127 => ⟨S256, .f32⟩
  | _ => ⟨S16384x17408, .bf16⟩

abbrev hbmTy0_1 (i : Nat) : BufTy := match i % 128 with
  | 0 => ⟨S1x256, .f32⟩
  | 1 => ⟨S4x1, .f32⟩
  | 2 => ⟨S4x256, .f32⟩
  | 3 => ⟨S4x256, .f32⟩
  | 4 => ⟨S4x256, .f32⟩
  | 5 => ⟨S4x256, .f32⟩
  | 6 => ⟨S4x256x256, .f32⟩
  | 7 => ⟨S4x256, .f32⟩
  | 8 => ⟨S4x256, .f32⟩
  | 9 => ⟨S4x512, .f32⟩
  | 10 => ⟨S4x512x1, .f32⟩
  | 11 => ⟨S4x512x128, .f32⟩
  | 12 => ⟨S_, .f32⟩
  | 13 => ⟨S4, .f32⟩
  | 14 => ⟨S4, .f32⟩
  | 15 => ⟨S4, .f32⟩
  | 16 => ⟨S4x1x1, .f32⟩
  | 17 => ⟨S4x8x128, .f32⟩
  | 18 => ⟨S2304x128, .f32⟩
  | 19 => ⟨S2304x128, .f32⟩
  | 20 => ⟨S1x4x256x256, .f32⟩
  | 21 => ⟨S1x4x256x256, .f32⟩
  | 22 => ⟨S2x4x256x256, .f32⟩
  | 23 => ⟨S1x4x512x128, .f32⟩
  | 24 => ⟨S1x4x512x128, .f32⟩
  | 25 => ⟨S2x4x512x128, .f32⟩
  | 26 => ⟨S1x4x8x128, .f32⟩
  | 27 => ⟨S1x4x8x128, .f32⟩
  | 28 => ⟨S2x4x8x128, .f32⟩
  | 29 => ⟨S16384x2048, .bf16⟩
  | _ => ⟨S16384x17408, .bf16⟩

abbrev hbmTy (i : Nat) : BufTy := match i / 128 with
  | 0 => hbmTy0_0 i
  | 1 => hbmTy0_1 i
  | _ => ⟨S16384x17408, .bf16⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S256x256, .bf16⟩
  | .local _ .vmem, ⟨9, _⟩ => ⟨S256x256, .bf16⟩
  | .local _ .vmem, ⟨10, _⟩ => ⟨S256x512, .bf16⟩
  | .local _ .vmem, ⟨11, _⟩ => ⟨S256x512, .bf16⟩
  | .local _ .vmem, ⟨12, _⟩ => ⟨S2304x128, .f32⟩
  | .local _ .vmem, ⟨13, _⟩ => ⟨S2304x128, .f32⟩
  | .local _ .vmem, ⟨14, _⟩ => ⟨S2x1x256x256, .f32⟩
  | .local _ .vmem, ⟨15, _⟩ => ⟨S2x1x256x256, .f32⟩
  | .local _ .vmem, ⟨16, _⟩ => ⟨S2x1x512x128, .f32⟩
  | .local _ .vmem, ⟨17, _⟩ => ⟨S2x1x512x128, .f32⟩
  | .local _ .vmem, ⟨18, _⟩ => ⟨S2x1x8x128, .f32⟩
  | .local _ .vmem, ⟨19, _⟩ => ⟨S2x1x8x128, .f32⟩
  | .local _ .vmem, ⟨20, _⟩ => ⟨S2048x512, .bf16⟩
  | .local _ .vmem, ⟨21, _⟩ => ⟨S2048x512, .bf16⟩
  | .local _ .vmem, ⟨22, _⟩ => ⟨S2048x256, .bf16⟩
  | .local _ .vmem, ⟨23, _⟩ => ⟨S2048x256, .bf16⟩
  | .local _ .vmem, ⟨24, _⟩ => ⟨S256x256, .bf16⟩
  | .local _ .vmem, ⟨25, _⟩ => ⟨S2048x512, .f32⟩
  | .local _ .vmem, ⟨26, _⟩ => ⟨S256x512, .f32⟩
  | .local _ .vmem, ⟨27, _⟩ => ⟨S256x512, .f32⟩
  | _, _ => ⟨S16384x17408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_3 : Ref sig .tc := ⟨.hbm, 38, rfl⟩
abbrev main_v12 : Ref sig .tc := ⟨.hbm, 39, rfl⟩
abbrev main_v13 : Ref sig .tc := ⟨.hbm, 40, rfl⟩
abbrev main_cst_4 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v36 : Ref sig .tc := ⟨.hbm, 70, rfl⟩
abbrev main_cst_8 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_9 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_11 : Ref sig .tc := ⟨.hbm, 99, rfl⟩
abbrev main_v62 : Ref sig .tc := ⟨.hbm, 100, rfl⟩
abbrev main_v63 : Ref sig .tc := ⟨.hbm, 101, rfl⟩
abbrev main_cst_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_13 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_v72 : Ref sig .tc := ⟨.hbm, 115, rfl⟩
abbrev main_cst_14 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_15 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_cst_16 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_62 : BitVec 32 := 256#32
  let v93 : BitVec 32 := Scalar.muli arg20 c256_i32_62
  v93
def k0_mult2 (k0_t1 : Fin k0_t1_loop.trips) : BitVec 32 :=
  let c256_i32_64 : BitVec 32 := 256#32
  let c0_i32 : BitVec 32 := 0#32
  let c1_i32 : BitVec 32 := 1#32
  let arg20 : BitVec 32 := Scf.iv c0_i32 c1_i32 k0_t1
  let c256_i32_63 : BitVec 32 := 256#32
  let v95 : BitVec 32 := Scalar.muli arg20 c256_i32_63
  let v96 : BitVec 32 := Scalar.addi c256_i32_64 v95
  v96
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_62 : BitVec 32 := 256#32
  let v93 : BitVec 32 := Scalar.muli arg20 c256_i32_62
  let v94 : BitVec 32 := v93
  let v98 : Index := Scalar.indexCast v94
  let c0_65 : Index := 0#32
  ![v98.toNat, 0]
def k0_off2 (k0_t1 : Fin k0_t1_loop.trips) : Fin 2 → Nat :=
  let c256_i32_64 : BitVec 32 := 256#32
  let c0_i32 : BitVec 32 := 0#32
  let c1_i32 : BitVec 32 := 1#32
  let arg20 : BitVec 32 := Scf.iv c0_i32 c1_i32 k0_t1
  let c256_i32_63 : BitVec 32 := 256#32
  let v95 : BitVec 32 := Scalar.muli arg20 c256_i32_63
  let v96 : BitVec 32 := Scalar.addi c256_i32_64 v95
  let v97 : BitVec 32 := v96
  let v101 : Index := Scalar.indexCast v97
  let c0_66 : Index := 0#32
  ![v101.toNat, 0]
def k0_mult3 : BitVec 32 :=
  let c0_i32_1 : BitVec 32 := 0#32
  let c256_i32 : BitVec 32 := 256#32
  let v1 : BitVec 32 := Scalar.muli c0_i32_1 c256_i32
  v1
def k0_mult4 : BitVec 32 :=
  let c0_i32_3 : BitVec 32 := 0#32
  let c0_i32_1 : BitVec 32 := 0#32
  let c256_i32_2 : BitVec 32 := 256#32
  let v3 : BitVec 32 := Scalar.muli c0_i32_1 c256_i32_2
  let v4 : BitVec 32 := Scalar.addi c0_i32_3 v3
  v4
def k0_off3 : Fin 2 → Nat :=
  let c0_i32_1 : BitVec 32 := 0#32
  let c256_i32 : BitVec 32 := 256#32
  let v1 : BitVec 32 := Scalar.muli c0_i32_1 c256_i32
  let v2 : BitVec 32 := v1
  let v6 : Index := Scalar.indexCast v2
  let c0 : Index := 0#32
  ![v6.toNat, 0]
def k0_off4 : Fin 2 → Nat :=
  let c0_i32_3 : BitVec 32 := 0#32
  let c0_i32_1 : BitVec 32 := 0#32
  let c256_i32_2 : BitVec 32 := 256#32
  let v3 : BitVec 32 := Scalar.muli c0_i32_1 c256_i32_2
  let v4 : BitVec 32 := Scalar.addi c0_i32_3 v3
  let v5 : BitVec 32 := v4
  let v9 : Index := Scalar.indexCast v5
  let c0_4 : Index := 0#32
  ![v9.toNat, 0]
@[reducible] def k0_t2_loop : Scf.Loop 32 :=
  let c0_i32_8 : BitVec 32 := 0#32
  let c8_i32_9 : BitVec 32 := 8#32
  let v31 : BitVec 32 := Scalar.addi c0_i32_8 c8_i32_9
  let c1_i32_10 : BitVec 32 := 1#32
  ⟨c0_i32_8, v31, c1_i32_10⟩
def k0_mult5 (k0_t2 : Fin k0_t2_loop.trips) : BitVec 32 :=
  let c0_i32_8 : BitVec 32 := 0#32
  let c1_i32_10 : BitVec 32 := 1#32
  let arg20 : BitVec 32 := Scf.iv c0_i32_8 c1_i32_10 k0_t2
  let c256_i32_62 : BitVec 32 := 256#32
  let v93 : BitVec 32 := Scalar.muli arg20 c256_i32_62
  v93
def k0_mult6 (k0_t2 : Fin k0_t2_loop.trips) : BitVec 32 :=
  let c256_i32_64 : BitVec 32 := 256#32
  let c0_i32_8 : BitVec 32 := 0#32
  let c1_i32_10 : BitVec 32 := 1#32
  let arg20 : BitVec 32 := Scf.iv c0_i32_8 c1_i32_10 k0_t2
  let c256_i32_63 : BitVec 32 := 256#32
  let v95 : BitVec 32 := Scalar.muli arg20 c256_i32_63
  let v96 : BitVec 32 := Scalar.addi c256_i32_64 v95
  v96
def k0_off5 (k0_t2 : Fin k0_t2_loop.trips) : Fin 2 → Nat :=
  let c0_i32_8 : BitVec 32 := 0#32
  let c1_i32_10 : BitVec 32 := 1#32
  let arg20 : BitVec 32 := Scf.iv c0_i32_8 c1_i32_10 k0_t2
  let c256_i32_62 : BitVec 32 := 256#32
  let v93 : BitVec 32 := Scalar.muli arg20 c256_i32_62
  let v94 : BitVec 32 := v93
  let v98 : Index := Scalar.indexCast v94
  let c0_65 : Index := 0#32
  ![v98.toNat, 0]
def k0_off6 (k0_t2 : Fin k0_t2_loop.trips) : Fin 2 → Nat :=
  let c256_i32_64 : BitVec 32 := 256#32
  let c0_i32_8 : BitVec 32 := 0#32
  let c1_i32_10 : BitVec 32 := 1#32
  let arg20 : BitVec 32 := Scf.iv c0_i32_8 c1_i32_10 k0_t2
  let c256_i32_63 : BitVec 32 := 256#32
  let v95 : BitVec 32 := Scalar.muli arg20 c256_i32_63
  let v96 : BitVec 32 := Scalar.addi c256_i32_64 v95
  let v97 : BitVec 32 := v96
  let v101 : Index := Scalar.indexCast v97
  let c0_66 : Index := 0#32
  ![v101.toNat, 0]
def k0_mult7 : BitVec 32 :=
  let c0_i32_21 : BitVec 32 := 0#32
  let c256_i32_22 : BitVec 32 := 256#32
  let v44 : BitVec 32 := Scalar.muli c0_i32_21 c256_i32_22
  v44
def k0_off7 : Fin 2 → Nat :=
  let c0_i32_21 : BitVec 32 := 0#32
  let c256_i32_22 : BitVec 32 := 256#32
  let v44 : BitVec 32 := Scalar.muli c0_i32_21 c256_i32_22
  let v45 : BitVec 32 := v44
  let v60 : Index := Scalar.indexCast v45
  let c0_33 : Index := 0#32
  ![v60.toNat, 0]
def k0_mult8 : BitVec 32 :=
  let c0_i32_37 : BitVec 32 := 0#32
  let c0_i32_21 : BitVec 32 := 0#32
  let v67 : BitVec 32 := Scalar.subi c0_i32_37 c0_i32_21
  let c256_i32_38 : BitVec 32 := 256#32
  let v68 : BitVec 32 := Scalar.muli v67 c256_i32_38
  v68
def k0_off8 : Fin 2 → Nat :=
  let c0_i32_37 : BitVec 32 := 0#32
  let c0_i32_21 : BitVec 32 := 0#32
  let v67 : BitVec 32 := Scalar.subi c0_i32_37 c0_i32_21
  let c256_i32_38 : BitVec 32 := 256#32
  let v68 : BitVec 32 := Scalar.muli v67 c256_i32_38
  let v69 : BitVec 32 := v68
  let v74 : Index := Scalar.indexCast v69
  let c0_46 : Index := 0#32
  ![v74.toNat, 0]
def k0_off9 : Fin 2 → Nat :=
  let c0_i32_37 : BitVec 32 := 0#32
  let c0_i32_21 : BitVec 32 := 0#32
  let v67 : BitVec 32 := Scalar.subi c0_i32_37 c0_i32_21
  let c256_i32_38 : BitVec 32 := 256#32
  let v68 : BitVec 32 := Scalar.muli v67 c256_i32_38
  let v69 : BitVec 32 := v68
  let v84 : Index := Scalar.indexCast v69
  let c0_49 : Index := 0#32
  ![v84.toNat, 0]
@[reducible] def k0_t3_loop : Scf.Loop 32 :=
  let c0_i32_54 : BitVec 32 := 0#32
  let c8_i32_55 : BitVec 32 := 8#32
  let v91 : BitVec 32 := Scalar.addi c0_i32_54 c8_i32_55
  let c1_i32_56 : BitVec 32 := 1#32
  ⟨c0_i32_54, v91, c1_i32_56⟩
def k0_mult9 (k0_t3 : Fin k0_t3_loop.trips) : BitVec 32 :=
  let c0_i32_54 : BitVec 32 := 0#32
  let c1_i32_56 : BitVec 32 := 1#32
  let arg20 : BitVec 32 := Scf.iv c0_i32_54 c1_i32_56 k0_t3
  let c256_i32_62 : BitVec 32 := 256#32
  let v93 : BitVec 32 := Scalar.muli arg20 c256_i32_62
  v93
def k0_off10 (k0_t3 : Fin k0_t3_loop.trips) : Fin 2 → Nat :=
  let c0_i32_54 : BitVec 32 := 0#32
  let c1_i32_56 : BitVec 32 := 1#32
  let arg20 : BitVec 32 := Scf.iv c0_i32_54 c1_i32_56 k0_t3
  let c256_i32_62 : BitVec 32 := 256#32
  let v93 : BitVec 32 := Scalar.muli arg20 c256_i32_62
  let v94 : BitVec 32 := v93
  let v97 : Index := Scalar.indexCast v94
  let c0_67 : Index := 0#32
  ![v97.toNat, 0]
def k0_off11 (k0_t3 : Fin k0_t3_loop.trips) : Fin 2 → Nat :=
  let c0_i32_54 : BitVec 32 := 0#32
  let c1_i32_56 : BitVec 32 := 1#32
  let arg20 : BitVec 32 := Scf.iv c0_i32_54 c1_i32_56 k0_t3
  let c256_i32_62 : BitVec 32 := 256#32
  let v93 : BitVec 32 := Scalar.muli arg20 c256_i32_62
  let v94 : BitVec 32 := v93
  let v109 : Index := Scalar.indexCast v94
  let c0_74 : Index := 0#32
  ![v109.toNat, 0]
def k0_mult10 (k0_t3 : Fin k0_t3_loop.trips) : BitVec 32 :=
  let c7_i32 : BitVec 32 := 7#32
  let c0_i32_54 : BitVec 32 := 0#32
  let c1_i32_56 : BitVec 32 := 1#32
  let arg20 : BitVec 32 := Scf.iv c0_i32_54 c1_i32_56 k0_t3
  let v145 : BitVec 32 := Scalar.subi c7_i32 arg20
  let c256_i32_96 : BitVec 32 := 256#32
  let v146 : BitVec 32 := Scalar.muli v145 c256_i32_96
  v146
def k0_off12 (k0_t3 : Fin k0_t3_loop.trips) : Fin 2 → Nat :=
  let c7_i32 : BitVec 32 := 7#32
  let c0_i32_54 : BitVec 32 := 0#32
  let c1_i32_56 : BitVec 32 := 1#32
  let arg20 : BitVec 32 := Scf.iv c0_i32_54 c1_i32_56 k0_t3
  let v145 : BitVec 32 := Scalar.subi c7_i32 arg20
  let c256_i32_96 : BitVec 32 := 256#32
  let v146 : BitVec 32 := Scalar.muli v145 c256_i32_96
  let v147 : BitVec 32 := v146
  let v150 : Index := Scalar.indexCast v147
  let c0_101 : Index := 0#32
  ![v150.toNat, 0]
def k0_off13 (k0_t3 : Fin k0_t3_loop.trips) : Fin 2 → Nat :=
  let c7_i32 : BitVec 32 := 7#32
  let c0_i32_54 : BitVec 32 := 0#32
  let c1_i32_56 : BitVec 32 := 1#32
  let arg20 : BitVec 32 := Scf.iv c0_i32_54 c1_i32_56 k0_t3
  let v145 : BitVec 32 := Scalar.subi c7_i32 arg20
  let c256_i32_96 : BitVec 32 := 256#32
  let v146 : BitVec 32 := Scalar.muli v145 c256_i32_96
  let v147 : BitVec 32 := v146
  let v162 : Index := Scalar.indexCast v147
  let c0_108 : Index := 0#32
  ![v162.toNat, 0]
@[reducible] def k0_t4_loop : Scf.Loop 32 :=
  let c0_i32_58 : BitVec 32 := 0#32
  let c8_i32_59 : BitVec 32 := 8#32
  let v92 : BitVec 32 := Scalar.addi c0_i32_58 c8_i32_59
  let c1_i32_60 : BitVec 32 := 1#32
  ⟨c0_i32_58, v92, c1_i32_60⟩
def k0_mult11 (k0_t4 : Fin k0_t4_loop.trips) : BitVec 32 :=
  let c0_i32_58 : BitVec 32 := 0#32
  let c1_i32_60 : BitVec 32 := 1#32
  let arg20 : BitVec 32 := Scf.iv c0_i32_58 c1_i32_60 k0_t4
  let c256_i32_62 : BitVec 32 := 256#32
  let v93 : BitVec 32 := Scalar.muli arg20 c256_i32_62
  v93
def k0_off14 (k0_t4 : Fin k0_t4_loop.trips) : Fin 2 → Nat :=
  let c0_i32_58 : BitVec 32 := 0#32
  let c1_i32_60 : BitVec 32 := 1#32
  let arg20 : BitVec 32 := Scf.iv c0_i32_58 c1_i32_60 k0_t4
  let c256_i32_62 : BitVec 32 := 256#32
  let v93 : BitVec 32 := Scalar.muli arg20 c256_i32_62
  let v94 : BitVec 32 := v93
  let v95 : Index := Scalar.indexCast v94
  let c0_63 : Index := 0#32
  ![v95.toNat, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2304x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2304x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2x1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2x1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RetReferenceIdeal.lean ====
abbrev S16384x17408 : Shape := ⟨2, ![16384, 17408]⟩
abbrev S2048x6144 : Shape := ⟨2, ![2048, 6144]⟩
abbrev S8x2048x17408 : Shape := ⟨3, ![8, 2048, 17408]⟩
abbrev S8x256x6144 : Shape := ⟨3, ![8, 256, 6144]⟩
abbrev S8x2048x1024 : Shape := ⟨3, ![8, 2048, 1024]⟩
abbrev S8x2048x4x256 : Shape := ⟨4, ![8, 2048, 4, 256]⟩
abbrev S8x2048x2048 : Shape := ⟨3, ![8, 2048, 2048]⟩
abbrev S8x2048x4x512 : Shape := ⟨4, ![8, 2048, 4, 512]⟩
abbrev S8x256x1024 : Shape := ⟨3, ![8, 256, 1024]⟩
abbrev S8x2304x1024 : Shape := ⟨3, ![8, 2304, 1024]⟩
abbrev S8x2304x4x256 : Shape := ⟨4, ![8, 2304, 4, 256]⟩
abbrev S8x256x2048 : Shape := ⟨3, ![8, 256, 2048]⟩
abbrev S8x2304x2048 : Shape := ⟨3, ![8, 2304, 2048]⟩
abbrev S8x2304x4x512 : Shape := ⟨4, ![8, 2304, 4, 512]⟩
abbrev S2304 : Shape := ⟨1, ![2304]⟩
abbrev S_ : Shape := ⟨0, ![]⟩
abbrev S127 : Shape := ⟨1, ![127]⟩
abbrev S1 : Shape := ⟨1, ![1]⟩
abbrev S128 : Shape := ⟨1, ![128]⟩
abbrev S2304x1 : Shape := ⟨2, ![2304, 1]⟩
abbrev S1x128 : Shape := ⟨2, ![1, 128]⟩
abbrev S2304x128 : Shape := ⟨2, ![2304, 128]⟩
abbrev S1x2304x1x128 : Shape := ⟨4, ![1, 2304, 1, 128]⟩
abbrev S1x2048x1x128 : Shape := ⟨4, ![1, 2048, 1, 128]⟩
abbrev S8x2048x4x128 : Shape := ⟨4, ![8, 2048, 4, 128]⟩
abbrev S8x2304x4x128 : Shape := ⟨4, ![8, 2304, 4, 128]⟩
abbrev S8x4x2048x2304 : Shape := ⟨4, ![8, 4, 2048, 2304]⟩
abbrev S8 : Shape := ⟨1, ![8]⟩
abbrev S256 : Shape := ⟨1, ![256]⟩
abbrev S2048 : Shape := ⟨1, ![2048]⟩
abbrev S4 : Shape := ⟨1, ![4]⟩
abbrev S2048x1 : Shape := ⟨2, ![2048, 1]⟩
abbrev S1x2304 : Shape := ⟨2, ![1, 2304]⟩
abbrev S2048x2304 : Shape := ⟨2, ![2048, 2304]⟩
abbrev S1x2048x2304 : Shape := ⟨3, ![1, 2048, 2304]⟩
abbrev S4x1x1 : Shape := ⟨3, ![4, 1, 1]⟩
abbrev S4x2048x2304 : Shape := ⟨3, ![4, 2048, 2304]⟩
abbrev S1x4x2048x2304 : Shape := ⟨4, ![1, 4, 2048, 2304]⟩
abbrev S8x4x512x2048 : Shape := ⟨4, ![8, 4, 512, 2048]⟩
abbrev S8x2048x4 : Shape := ⟨3, ![8, 2048, 4]⟩
abbrev S8x2048x4x1 : Shape := ⟨4, ![8, 2048, 4, 1]⟩
abbrev S16384x2048 : Shape := ⟨2, ![16384, 2048]⟩

abbrev nBuf : Space → Nat
  | .hbm => 188
  | .vmem => 0
  | .smem => 0
  | _ => 0

abbrev hbmTy0_0 (i : Nat) : BufTy := match i % 128 with
  | 0 => ⟨S16384x17408, .bf16⟩
  | 1 => ⟨S2048x6144, .bf16⟩
  | 2 => ⟨S16384x17408, .f32⟩
  | 3 => ⟨S8x2048x17408, .f32⟩
  | 4 => ⟨S2048x6144, .f32⟩
  | 5 => ⟨S8x256x6144, .f32⟩
  | 6 => ⟨S8x2048x1024, .f32⟩
  | 7 => ⟨S8x2048x4x256, .f32⟩
  | 8 => ⟨S8x2048x2048, .f32⟩
  | 9 => ⟨S8x2048x4x512, .f32⟩
  | 10 => ⟨S8x256x1024, .f32⟩
  | 11 => ⟨S8x2048x1024, .f32⟩
  | 12 => ⟨S8x2304x1024, .f32⟩
  | 13 => ⟨S8x2304x4x256, .f32⟩
  | 14 => ⟨S8x256x2048, .f32⟩
  | 15 => ⟨S8x2048x2048, .f32⟩
  | 16 => ⟨S8x2304x2048, .f32⟩
  | 17 => ⟨S8x2304x4x512, .f32⟩
  | 18 => ⟨S2304, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S127, .f32⟩
  | 27 => ⟨S_, .f32⟩
  | 28 => ⟨S127, .f32⟩
  | 29 => ⟨S127, .f32⟩
  | 30 => ⟨S1, .f32⟩
  | 31 => ⟨S_, .f32⟩
  | 32 => ⟨S127, .f32⟩
  | 33 => ⟨S127, .f32⟩
  | 34 => ⟨S127, .f32⟩
  | 35 => ⟨S127, .f32⟩
  | 36 => ⟨S1, .f32⟩
  | 37 => ⟨S127, .f32⟩
  | 38 => ⟨S127, .f32⟩
  | 39 => ⟨S127, .f32⟩
  | 40 => ⟨S1, .f32⟩
  | 41 => ⟨S128, .f32⟩
  | 42 => ⟨S_, .f32⟩
  | 43 => ⟨S128, .f32⟩
  | 44 => ⟨S128, .f32⟩
  | 45 => ⟨S_, .f32⟩
  | 46 => ⟨S128, .f32⟩
  | 47 => ⟨S128, .f32⟩
  | 48 => ⟨S2304x1, .f32⟩
  | 49 => ⟨S1x128, .f32⟩
  | 50 => ⟨S2304x128, .f32⟩
  | 51 => ⟨S2304x128, .f32⟩
  | 52 => ⟨S2304x128, .f32⟩
  | 53 => ⟨S2304x128, .f32⟩
  | 54 => ⟨S1x2304x1x128, .f32⟩
  | 55 => ⟨S2304x128, .f32⟩
  | 56 => ⟨S1x2304x1x128, .f32⟩
  | 57 => ⟨S1x2048x1x128, .f32⟩
  | 58 => ⟨S1x2048x1x128, .f32⟩
  | 59 => ⟨S8x2048x4x128, .f32⟩
  | 60 => ⟨S8x2048x4x128, .f32⟩
  | 61 => ⟨S8x2048x4x128, .f32⟩
  | 62 => ⟨S8x2048x4x128, .f32⟩
  | 63 => ⟨S8x2048x4x128, .f32⟩
  | 64 => ⟨S8x2048x4x128, .f32⟩
  | 65 => ⟨S8x2048x4x128, .f32⟩
  | 66 => ⟨S8x2048x4x128, .f32⟩
  | 67 => ⟨S8x2048x4x128, .f32⟩
  | 68 => ⟨S8x2048x4x128, .f32⟩
  | 69 => ⟨S8x2048x4x128, .f32⟩
  | 70 => ⟨S8x2048x4x128, .f32⟩
  | 71 => ⟨S8x2048x4x256, .f32⟩
  | 72 => ⟨S8x2304x4x128, .f32⟩
  | 73 => ⟨S8x2304x4x128, .f32⟩
  | 74 => ⟨S8x2304x4x128, .f32⟩
  | 75 => ⟨S8x2304x4x128, .f32⟩
  | 76 => ⟨S8x2304x4x128, .f32⟩
  | 77 => ⟨S8x2304x4x128, .f32⟩
  | 78 => ⟨S8x2304x4x128, .f32⟩
  | 79 => ⟨S8x2304x4x128, .f32⟩
  | 80 => ⟨S8x2304x4x128, .f32⟩
  | 81 => ⟨S8x2304x4x128, .f32⟩
  | 82 => ⟨S8x2304x4x128, .f32⟩
  | 83 => ⟨S8x2304x4x128, .f32⟩
  | 84 => ⟨S8x2304x4x256, .f32⟩
  | 85 => ⟨S_, .f32⟩
  | 86 => ⟨S8x2304x4x256, .f32⟩
  | 87 => ⟨S8x2304x4x256, .f32⟩
  | 88 => ⟨S8x4x2048x2304, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S8, .f32⟩
  | 99 => ⟨S256, .f32⟩
  | 100 => ⟨S256, .f32⟩
  | 101 => ⟨S2048, .f32⟩
  | 102 => ⟨S2048, .f32⟩
  | 103 => ⟨S2304, .f32⟩
  | 104 => ⟨S4, .f32⟩
  | 105 => ⟨S2048, .f32⟩
  | 106 => ⟨S2048x1, .f32⟩
  | 107 => ⟨S1x2304, .f32⟩
  | 108 => ⟨S2048x2304, .f32⟩
  | 109 => ⟨S2048x2304, .f32⟩
  | 110 => ⟨S2048x2304, .f32⟩
  | 111 => ⟨S_, .f32⟩
  | 112 => ⟨S2048x2304, .f32⟩
  | 113 => ⟨S2048x2304, .i1⟩
  | 114 => ⟨S_, .f32⟩
  | 115 => ⟨S2048x2304, .f32⟩
  | 116 => ⟨S2048x2304, .f32⟩
  | 117 => ⟨S1x2048x2304, .f32⟩
  | 118 => ⟨S4x1x1, .f32⟩
  | 119 => ⟨S4x2048x2304, .f32⟩
  | 120 => ⟨S4x2048x2304, .f32⟩
  | 121 => ⟨S4x2048x2304, .f32⟩
  | 122 => ⟨S4x2048x2304, .f32⟩
  | 123 => ⟨S_, .f32⟩
  | 124 => ⟨S_, .f32⟩
  | 125 => ⟨S4x2048x2304, .i1⟩
  | 126 => ⟨S4x2048x2304, .f32⟩
  | 127 => ⟨S4x2048x2304, .f32⟩
  | _ => ⟨S16384x17408, .bf16⟩

abbrev hbmTy0_1 (i : Nat) : BufTy := match i % 128 with
  | 0 => ⟨S1x4x2048x2304, .f32⟩
  | 1 => ⟨S8x4x2048x2304, .f32⟩
  | 2 => ⟨S8x4x2048x2304, .f32⟩
  | 3 => ⟨S8x4x512x2048, .f32⟩
  | 4 => ⟨S8x2048x4x512, .f32⟩
  | 5 => ⟨S4, .f32⟩
  | 6 => ⟨S2048, .f32⟩
  | 7 => ⟨S2048x1, .f32⟩
  | 8 => ⟨S1x2304, .f32⟩
  | 9 => ⟨S2048x2304, .f32⟩
  | 10 => ⟨S2048x2304, .f32⟩
  | 11 => ⟨S2048x2304, .f32⟩
  | 12 => ⟨S_, .f32⟩
  | 13 => ⟨S2048x2304, .f32⟩
  | 14 => ⟨S2048x2304, .i1⟩
  | 15 => ⟨S_, .f32⟩
  | 16 => ⟨S2048x2304, .f32⟩
  | 17 => ⟨S2048x2304, .f32⟩
  | 18 => ⟨S1x2048x2304, .f32⟩
  | 19 => ⟨S4x1x1, .f32⟩
  | 20 => ⟨S4x2048x2304, .f32⟩
  | 21 => ⟨S4x2048x2304, .f32⟩
  | 22 => ⟨S4x2048x2304, .f32⟩
  | 23 => ⟨S4x2048x2304, .f32⟩
  | 24 => ⟨S_, .f32⟩
  | 25 => ⟨S_, .f32⟩
  | 26 => ⟨S4x2048x2304, .i1⟩
  | 27 => ⟨S4x2048x2304, .f32⟩
  | 28 => ⟨S4x2048x2304, .f32⟩
  | 29 => ⟨S1x4x2048x2304, .f32⟩
  | 30 => ⟨S8x4x2048x2304, .f32⟩
  | 31 => ⟨S8x4x2048x2304, .f32⟩
  | 32 => ⟨S8x4x512x2048, .f32⟩
  | 33 => ⟨S8x2048x4x512, .f32⟩
  | 34 => ⟨S8x2048x4x512, .f32⟩
  | 35 => ⟨S8x2048x4x512, .f32⟩
  | 36 => ⟨S_, .f32⟩
  | 37 => ⟨S8x2048x4, .f32⟩
  | 38 => ⟨S8x2048x4x1, .f32⟩
  | 39 => ⟨S_, .f32⟩
  | 40 => ⟨S8x2048x4x1, .f32⟩
  | 41 => ⟨S8x2048x4x1, .f32⟩
  | 42 => ⟨S_, .f32⟩
  | 43 => ⟨S8x2048x4x1, .f32⟩
  | 44 => ⟨S8x2048x4x1, .f32⟩
  | 45 => ⟨S8x2048x4x1, .f32⟩
  | 46 => ⟨S8x2048x4x512, .f32⟩
  | 47 => ⟨S8x2048x4x512, .f32⟩
  | 48 => ⟨S8x2048x4x512, .f32⟩
  | 49 => ⟨S8x2048x4x512, .f32⟩
  | 50 => ⟨S_, .f32⟩
  | 51 => ⟨S8x2048x4x512, .f32⟩
  | 52 => ⟨S8x2048x4x512, .f32⟩
  | 53 => ⟨S_, .f32⟩
  | 54 => ⟨S8x2048x4x512, .f32⟩
  | 55 => ⟨S8x2048x4x512, .f32⟩
  | 56 => ⟨S8x2048x4x512, .f32⟩
  | 57 => ⟨S8x2048x4x512, .f32⟩
  | 58 => ⟨S16384x2048, .f32⟩
  | 59 => ⟨S16384x2048, .bf16⟩
  | _ => ⟨S16384x17408, .bf16⟩

abbrev hbmTy (i : Nat) : BufTy := match i / 128 with
  | 0 => hbmTy0_0 i
  | 1 => hbmTy0_1 i
  | _ => ⟨S16384x17408, .bf16⟩

abbrev bufTy : (tb : Table) → Fin (tcTables nBuf tb) → BufTy
  | .hbm, ⟨i, _⟩ => hbmTy i
  | _, _ => ⟨S16384x17408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_cst : Ref sig .tc := ⟨.hbm, 24, rfl⟩
abbrev main_call0_v3 : Ref sig .tc := ⟨.hbm, 25, rfl⟩
abbrev main_call0_v4 : Ref sig .tc := ⟨.hbm, 26, rfl⟩
abbrev main_call0_cst_0 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_3 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_4 : Ref sig .tc := ⟨.hbm, 90, rfl⟩
abbrev main_v63 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_6 : Ref sig .tc := ⟨.hbm, 111, rfl⟩
abbrev main_v82 : Ref sig .tc := ⟨.hbm, 112, rfl⟩
abbrev main_v83 : Ref sig .tc := ⟨.hbm, 113, rfl⟩
abbrev main_cst_7 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_8 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_9 : Ref sig .tc := ⟨.hbm, 140, rfl⟩
abbrev main_v105 : Ref sig .tc := ⟨.hbm, 141, rfl⟩
abbrev main_v106 : Ref sig .tc := ⟨.hbm, 142, rfl⟩
abbrev main_cst_10 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_11 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_12 : Ref sig .tc := ⟨.hbm, 164, rfl⟩
abbrev main_v123 : Ref sig .tc := ⟨.hbm, 165, rfl⟩
abbrev main_v124 : Ref sig .tc := ⟨.hbm, 166, rfl⟩
abbrev main_cst_13 : Ref sig .tc := ⟨.hbm, 167, rfl⟩
abbrev main_v125 : Ref sig .tc := ⟨.hbm, 168, rfl⟩
abbrev main_v126 : Ref sig .tc := ⟨.hbm, 169, rfl⟩
abbrev main_cst_14 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_call5_v0 : Ref sig .tc := ⟨.hbm, 176, rfl⟩
abbrev main_call5_v1 : Ref sig .tc := ⟨.hbm, 177, rfl⟩
abbrev main_call5_cst : Ref sig .tc := ⟨.hbm, 178, rfl⟩
abbrev main_call5_v2 : Ref sig .tc := ⟨.hbm, 179, rfl⟩
abbrev main_call5_v3 : Ref sig .tc := ⟨.hbm, 180, rfl⟩
abbrev main_call5_cst_0 : Ref sig .tc := ⟨.hbm, 181, rfl⟩
abbrev main_call5_v4 : Ref sig .tc := ⟨.hbm, 182, rfl⟩
abbrev main_call5_v5 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩

abbrev nD : Nat := 1
abbrev τ : Topo := Topo.v7x

variable {F : FTy → Type} [FloatOps F]
-- ==== Proof.MoeRun.lean ====
module

public import proofs.«01_k».proof.Proof.Gen.MoeKernelIdeal.Flash.Runs
public import Idealize.ShloMosaic.Lib.Pipeline.Quiescent
public import Idealize.ShloMosaic.Lib.Claim
public import Idealize.ShloMosaic.Lib.Pipeline.Value

/-! The expert feed-forward call with its two prefetched tables left ARBITRARY: the block-to-expert table `t0` with
every entry below 8, the number of used blocks `t1` anything. The pipeline is run once for all such tables.

A point of the grid is a pair (block, half). In a used block the first half stores the rounded input and a partial
product in the two scratch buffers and the second half reads them back and writes the block; in an unused block the
first half does nothing and the second half writes zeros. So the scratch contents matter only between the two halves
of one used block, and that is all the invariant says. -/

@[expose] public section

set_option maxRecDepth 16384
set_option Elab.async false

noncomputable section

namespace Cert.MoeKernelIdeal.Any

open Cert.MoeKernelIdeal Cert.MoeKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Two tables the call may be launched with: expert indices below 8, any count of used blocks. -/
structure Tab where
  t0 : S72.Idx → BitVec 32
  t1 : S1.Idx → BitVec 32
  below : ∀ x, (t0 x).toNat < 8

variable (T : Tab)

/-- The two tables as the region reads them. -/
def pf : pre0.Contents (Elt Ideal) :=
  fun | ⟨0, _⟩ => T.t0 | ⟨1, _⟩ => T.t1 | ⟨_ + 2, h⟩ => absurd h (by simp)

theorem in1 (i : grid0.Coords) : ∀ a, (cc0_transform_1 k0_off1_inb numel1_S1 (pf T) i a + 1) * S1x1024x1792.size a ≤ S8x1024x3584.size a := by
  have h1 : (i 1).val < 2 := (i 1).isLt
  refine Fin.cases ?_ (Fin.cases ?_ (Fin.cases ?_ fun a => a.elim0))
  · have h := T.below ((Rect.unit (s := S72) ![(Scalar.indexCast (BitVec.ofNat 32 (i 0).val)).toNat] S1.size (k0_off1_inb i)).idx (Shape.Idx.first (numel1_S1.symm ▸ Nat.one_pos)))
    have h' : (cc0_transform_1 k0_off1_inb numel1_S1 (pf T) i 0) < 8 := h
    show (cc0_transform_1 k0_off1_inb numel1_S1 (pf T) i 0 + 1) * 1 ≤ 8
    omega
  · show (0 + 1) * 1024 ≤ 1024
    omega
  · show ((BitVec.ofNat 32 (i 1).val).toNat + 1) * 1792 ≤ 3584
    rw [BitVec.toNat_ofNat, Nat.mod_eq_of_lt (by omega)]
    omega

theorem in3 (i : grid0.Coords) : ∀ a, (cc0_transform_3 k0_off1_inb numel1_S1 (pf T) i a + 1) * S1x1792x1024.size a ≤ S8x3584x1024.size a := by
  have h1 : (i 1).val < 2 := (i 1).isLt
  refine Fin.cases ?_ (Fin.cases ?_ (Fin.cases ?_ fun a => a.elim0))
  · have h := T.below ((Rect.unit (s := S72) ![(Scalar.indexCast (BitVec.ofNat 32 (i 0).val)).toNat] S1.size (k0_off1_inb i)).idx (Shape.Idx.first (numel1_S1.symm ▸ Nat.one_pos)))
    have h' : (cc0_transform_3 k0_off1_inb numel1_S1 (pf T) i 0) < 8 := h
    show (cc0_transform_3 k0_off1_inb numel1_S1 (pf T) i 0 + 1) * 1 ≤ 8
    omega
  · show ((BitVec.ofNat 32 (i 1).val).toNat + 1) * 1792 ≤ 3584
    rw [BitVec.toNat_ofNat, Nat.mod_eq_of_lt (by omega)]
    omega
  · show (0 + 1) * 1024 ≤ 1024
    omega

/-- Every weight block named by the table lies inside its array. -/
theorem ok : ok0 (F := Ideal) (pf T) :=
  ⟨fun i => ⟨in1 T i, .inr (Affine.block_words_dvd (s := S8x1024x3584) (p := EltTy.packing .bf16) (by decide) (by decide))⟩,
   fun i => ⟨in1 T i, .inr (Affine.block_words_dvd (s := S8x1024x3584) (p := EltTy.packing .bf16) (by decide) (by decide))⟩,
   fun i => ⟨in3 T i, .inr (Affine.block_words_dvd (s := S8x3584x1024) (p := EltTy.packing .bf16) (by decide) (by decide))⟩⟩

def adm : (pcfg0 (F := Ideal)).Adm := ⟨pf T, ok T⟩
abbrev cfgA : Pipeline.Cfg sig Λ₀ := cfg0 (F := Ideal) (adm T)
abbrev pcs : Fin 1 → Pipeline.Cfg sig Λ₀ := Pipeline.pin (pcfgs (F := Ideal)) fun _ => adm T
abbrev crd (t : Fin (cfgA T).N) : (cfgA T).grid.Coords := (cfgA T).grid.coords t

abbrev ms0 (t : Fin (cfgA T).N) : Memref sig .tc .vmem S512x1024 .f32 := spec0_0.stage ((cfgA T).slots t (0 : Fin 5))
abbrev hs0 (t : Fin (cfgA T).N) : (ms0 T t).IsWhole := hstage0_0 (((cfgA T).slots t (0 : Fin 5)).cast nbuf0_0)
abbrev ms1 (t : Fin (cfgA T).N) : Memref sig .tc .vmem S1x1024x1792 .bf16 := spec0_1.stage ((cfgA T).slots t (1 : Fin 5))
abbrev hs1 (t : Fin (cfgA T).N) : (ms1 T t).IsWhole := hstage0_1 (((cfgA T).slots t (1 : Fin 5)).cast nbuf0_1)
abbrev ms2 (t : Fin (cfgA T).N) : Memref sig .tc .vmem S1x1024x1792 .bf16 := spec0_2.stage ((cfgA T).slots t (2 : Fin 5))
abbrev hs2 (t : Fin (cfgA T).N) : (ms2 T t).IsWhole := hstage0_2 (((cfgA T).slots t (2 : Fin 5)).cast nbuf0_2)
abbrev ms3 (t : Fin (cfgA T).N) : Memref sig .tc .vmem S1x1792x1024 .bf16 := spec0_3.stage ((cfgA T).slots t (3 : Fin 5))
abbrev hs3 (t : Fin (cfgA T).N) : (ms3 T t).IsWhole := hstage0_3 (((cfgA T).slots t (3 : Fin 5)).cast nbuf0_3)
abbrev ms4 (t : Fin (cfgA T).N) : Memref sig .tc .vmem S512x1024 .f32 := spec0_4.stage ((cfgA T).slots t (4 : Fin 5))
abbrev hs4 (t : Fin (cfgA T).N) : (ms4 T t).IsWhole := hstage0_4 (((cfgA T).slots t (4 : Fin 5)).cast nbuf0_4)

/-! ## The control's decisions -/

/-- The count of used blocks, as the body loads it. -/
abbrev word : BitVec 32 := View.readAt (Elt Ideal) (tbM0_1).view (Rect.unit (s := S1) ![0] S1.size inb_S1_S1_0).toLoadRect T.t1 (Shape.Idx.first (numel1_S1.symm ▸ Nat.one_pos))

/-- The point's block is used. -/
abbrev Used (t : Fin (cfgA T).N) : Prop := k0_cond1 (crd T t) (word T) = 1#1
/-- The point is the first half of its block. -/
abbrev First (t : Fin (cfgA T).N) : Prop := (Scalar.cmpi .ne (Scalar.extui (Scalar.cmpi .eq (BitVec.ofNat 32 ((crd T t) 1).val) 0#32)) 0#32) = 1#1
/-- The point writes the zeros of an unused block. -/
abbrev Zeros (t : Fin (cfgA T).N) : Prop := k0_cond4 (crd T t) (word T) = 1#1

theorem cond1_iff (i : grid0.Coords) (v : BitVec 32) : k0_cond1 i v = 1#1 ↔ (BitVec.ofNat 32 (i 0).val).slt v = true := by
  have h : k0_cond1 i v = Scalar.cmpi .ne (Scalar.extui (BitVec.ofBool ((BitVec.ofNat 32 (i 0).val).slt v))) 0#32 := rfl
  rw [h]
  generalize (BitVec.ofNat 32 (i 0).val).slt v = b
  revert b; decide

theorem cond4_iff (i : grid0.Coords) (v : BitVec 32) :
    k0_cond4 i v = 1#1 ↔ (BitVec.ofNat 32 (i 0).val).slt v = false ∧ (BitVec.ofNat 32 (i 1).val == 1#32) = true := by
  have h : k0_cond4 i v = Scalar.cmpi .ne (Scalar.extui (Scalar.andi (BitVec.ofBool (v.sle (BitVec.ofNat 32 (i 0).val))) (BitVec.ofBool (BitVec.ofNat 32 (i 1).val == 1#32)))) 0#32 := rfl
  rw [h, BitVec.sle_eq_not_slt]
  generalize (BitVec.ofNat 32 (i 0).val).slt v = b
  generalize (BitVec.ofNat 32 (i 1).val == 1#32) = d
  revert b d; decide

/-- Whether the result's window is written back after point `t`, without the tables. -/
def wb (t : Fin grid0.N) : Bool :=
  true && (t.val + 1 = grid0.N || decide (∃ h : t.val + 1 < grid0.N, ∃ a, cc0_transform_4 (grid0.coords ⟨t.val + 1, h⟩) a ≠ cc0_transform_4 (grid0.coords t) a))

theorem flush_wb (t : Fin (cfgA T).N) : ((cfgA T).win (4 : Fin 5)).flush t = wb t := by
  rw [Pipeline.Window.flush_eq_flushF]; rfl

set_option maxHeartbeats 4000000 in
theorem first_pt : ∀ t : Fin grid0.N, (Scalar.cmpi .ne (Scalar.extui (Scalar.cmpi .eq (BitVec.ofNat 32 ((grid0.coords t) 1).val) 0#32)) 0#32) = 1#1 →
    ¬ k0_cond3 (grid0.coords t) = 1#1 ∧ ¬ (BitVec.ofNat 32 ((grid0.coords t) 1).val == 1#32) = true ∧ wb t = false := by decide +kernel

set_option maxHeartbeats 4000000 in
theorem second_pt : ∀ t : Fin grid0.N, ¬ (Scalar.cmpi .ne (Scalar.extui (Scalar.cmpi .eq (BitVec.ofNat 32 ((grid0.coords t) 1).val) 0#32)) 0#32) = 1#1 →
    k0_cond3 (grid0.coords t) = 1#1 ∧ (BitVec.ofNat 32 ((grid0.coords t) 1).val == 1#32) = true ∧ wb t = true
      ∧ (Scalar.cmpi .ne (Scalar.extui (Scalar.cmpi .eq (BitVec.ofNat 32 ((grid0.coords ⟨t.val - 1, by omega⟩) 1).val) 0#32)) 0#32) = 1#1
      ∧ 0 < t.val ∧ (grid0.coords ⟨t.val - 1, by omega⟩) 0 = (grid0.coords t) 0 := by decide +kernel

/-- The count read as the idle table reads it and as the body loads it: one word. -/
theorem word_eq : (pf T).atD 1 ![0] = word T := by
  unfold Pipeline.Prefetch.Contents.atD
  split
  · exact congrArg T.t1 (funext (Fin.cases (Fin.ext rfl) fun a => a.elim0))
  · rename_i h; exact absurd (by decide) h

theorem idle_eq (t : Fin (cfgA T).N) : (cfgA T).idle (4 : Fin 5) ((cfgA T).grid.coords t)
    = (!(k0_cond1 (crd T t) (word T) == 1#1 && k0_cond3 (crd T t) == 1#1) && !(k0_cond4 (crd T t) (word T) == 1#1)) := by
  rw [← word_eq T]; rfl

theorem factsA (t : Fin (cfgA T).N) (q0 : Used T t) (q1 : First T t) :
    ¬ k0_cond3 (crd T t) = 1#1 ∧ ¬ Zeros T t ∧ (cfgA T).idle (4 : Fin 5) ((cfgA T).grid.coords t) = true ∧ ((cfgA T).win (4 : Fin 5)).flush t = false := by
  have h := first_pt t q1
  have hz : ¬ Zeros T t := fun hz => h.2.1 ((cond4_iff _ _).1 hz).2
  refine ⟨h.1, hz, ?_, (flush_wb T t).trans h.2.2⟩
  rw [idle_eq, Bool.and_eq_true, Bool.not_eq_true', Bool.not_eq_true', Bool.and_eq_false_iff]
  exact ⟨.inr (beq_eq_false_iff_ne.2 h.1), beq_eq_false_iff_ne.2 hz⟩

theorem factsB (t : Fin (cfgA T).N) (q0 : Used T t) (q1 : ¬ First T t) :
    k0_cond3 (crd T t) = 1#1 ∧ ¬ Zeros T t ∧ (cfgA T).idle (4 : Fin 5) ((cfgA T).grid.coords t) = false ∧ ((cfgA T).win (4 : Fin 5)).flush t = true := by
  have h := second_pt t q1
  have hz : ¬ Zeros T t := fun hz => by
    have h1 := ((cond4_iff _ _).1 hz).1
    rw [(cond1_iff _ _).1 q0] at h1
    exact absurd h1 (by decide)
  refine ⟨h.1, hz, ?_, (flush_wb T t).trans h.2.2.1⟩
  rw [idle_eq, Bool.and_eq_false_iff, Bool.not_eq_false', Bool.and_eq_true]
  exact .inl ⟨beq_iff_eq.2 q0, beq_iff_eq.2 h.1⟩

theorem factsD (t : Fin (cfgA T).N) (q0 : ¬ Used T t) (q1 : Zeros T t) :
    (cfgA T).idle (4 : Fin 5) ((cfgA T).grid.coords t) = false := by
  rw [idle_eq, Bool.and_eq_false_iff, Bool.not_eq_false', Bool.not_eq_false']
  exact .inr (beq_iff_eq.2 q1)

theorem factsC (t : Fin (cfgA T).N) (q0 : ¬ Used T t) (q1 : ¬ Zeros T t) :
    (cfgA T).idle (4 : Fin 5) ((cfgA T).grid.coords t) = true ∧ ((cfgA T).win (4 : Fin 5)).flush t = false := by
  constructor
  · rw [idle_eq, Bool.and_eq_true, Bool.not_eq_true', Bool.not_eq_true', Bool.and_eq_false_iff]
    exact ⟨.inl (beq_eq_false_iff_ne.2 q0), beq_eq_false_iff_ne.2 q1⟩
  · by_cases hf : First T t
    · exact (flush_wb T t).trans (first_pt t hf).2.2
    · have h := second_pt t hf
      refine absurd ((cond4_iff _ _).2 ⟨?_, h.2.1⟩) q1
      rw [← Bool.not_eq_true]
      exact fun hs => q0 ((cond1_iff _ _).2 hs)

/-- A point that writes zeros is a second half. -/
theorem zeros_second (t : Fin (cfgA T).N) (q : Zeros T t) : ¬ First T t :=
  fun hf => (first_pt t hf).2.1 ((cond4_iff _ _).1 q).2

/-- The point before. -/
abbrev pre (t : Fin (cfgA T).N) : Fin (cfgA T).N := ⟨t.val - 1, by omega⟩

theorem pre_used (t : Fin (cfgA T).N) (q0 : Used T t) (q1 : ¬ First T t) : Used T (pre T t) := by
  have h := second_pt t q1
  have e : (crd T (pre T t)) 0 = (crd T t) 0 := h.2.2.2.2.2
  refine (cond1_iff _ _).2 ?_
  rw [e]
  exact (cond1_iff _ _).1 q0

theorem pre_first (t : Fin (cfgA T).N) (q1 : ¬ First T t) : First T (pre T t) := (second_pt t q1).2.2.2.1

variable (m : (ℓ : Loc nD τ sig) → Buf (Elt Ideal) ℓ) (ρ : Dev nD → PrngReg)

/-- Window `w`'s block at point `t`, read off its array at launch. -/
def iblk (c : Dev nD) (w : Fin (cfgA T).W) (t : Fin (cfgA T).N) : (((cfgA T).win w).xblock (crd T t)).Idx → Elt Ideal ((cfgA T).win w).elt :=
  (((cfgA T).win w).blk t).view.read (Elt Ideal) ((s₀ m ρ).mem (((cfgA T).win w).arr.view.loc (c : Thread nD τ)))

/-- The run of the body at a first half of a used block. -/
abbrev runA (c : Dev nD) (t : Fin (cfgA T).N) (q0 : Used T t) (q1 : First T t) :=
  kernelRun0_A c (crd T t) (ms0 T t) (hs0 T t) (ms1 T t) (hs1 T t) (ms2 T t) (hs2 T t) (ms3 T t) (hs3 T t) (ms4 T t) (hs4 T t) T.t0 T.t1
    (iblk T m ρ c (0 : Fin 5) t) (iblk T m ρ c (1 : Fin 5) t) (iblk T m ρ c (2 : Fin 5) t) (iblk T m ρ c (3 : Fin 5) t) q0 q1 (factsA T t q0 q1).1 (factsA T t q0 q1).2.1

/-- What the first half leaves in the scratch that holds the rounded input, -/
def left0 (c : Dev nD) (t : Fin (cfgA T).N) (q0 : Used T t) (q1 : First T t) : Buf (Elt Ideal) ((c : Thread nD τ).loc cc0_scratch0) := (runA T m ρ c t q0 q1).1
/-- and in the one that holds the partial product. -/
def left1 (c : Dev nD) (t : Fin (cfgA T).N) (q0 : Used T t) (q1 : First T t) : Buf (Elt Ideal) ((c : Thread nD τ).loc cc0_scratch1) := (runA T m ρ c t q0 q1).2.1

/-- What the second half of a used block leaves in the result's buffer, -/
def sumB (c : Dev nD) (t : Fin (cfgA T).N) (q0 : Used T t) (q1 : ¬ First T t) : S512x1024.Idx → Elt Ideal .f32 :=
  out0_B_4 c (crd T t) (ms0 T t) (hs0 T t) (ms1 T t) (hs1 T t) (ms2 T t) (hs2 T t) (ms3 T t) (hs3 T t) (ms4 T t) (hs4 T t) T.t0 T.t1
    (iblk T m ρ c (0 : Fin 5) t) (iblk T m ρ c (1 : Fin 5) t) (iblk T m ρ c (2 : Fin 5) t) (iblk T m ρ c (3 : Fin 5) t)
    (left0 T m ρ c (pre T t) (pre_used T t q0 q1) (pre_first T t q1)) (left1 T m ρ c (pre T t) (pre_used T t q0 q1) (pre_first T t q1))
    q0 q1 (factsB T t q0 q1).1 (factsB T t q0 q1).2.1

/-- and the one of an unused block. -/
def zeroD (c : Dev nD) (t : Fin (cfgA T).N) (q0 : ¬ Used T t) (q1 : Zeros T t) (xa0 : Buf (Elt Ideal) ((c : Thread nD τ).loc cc0_scratch0)) (xa1 : Buf (Elt Ideal) ((c : Thread nD τ).loc cc0_scratch1)) : S512x1024.Idx → Elt Ideal .f32 :=
  out0_D_4 c (crd T t) (ms0 T t) (hs0 T t) (ms1 T t) (hs1 T t) (ms2 T t) (hs2 T t) (ms3 T t) (hs3 T t) (ms4 T t) (hs4 T t) T.t0 T.t1
    (iblk T m ρ c (0 : Fin 5) t) (iblk T m ρ c (1 : Fin 5) t) (iblk T m ρ c (2 : Fin 5) t) (iblk T m ρ c (3 : Fin 5) t) xa0 xa1 q0 q1

/-- The zeros do not depend on what the scratch buffers hold. -/
theorem zeroD_any (c : Dev nD) (t : Fin (cfgA T).N) (q0 : ¬ Used T t) (q1 : Zeros T t) (xa0 xb0 : Buf (Elt Ideal) ((c : Thread nD τ).loc cc0_scratch0)) (xa1 xb1 : Buf (Elt Ideal) ((c : Thread nD τ).loc cc0_scratch1)) :
    zeroD T m ρ c t q0 q1 xa0 xa1 = zeroD T m ρ c t q0 q1 xb0 xb1 := rfl

/-- The result's buffer after point `t` (anything at a first half). -/
def res (c : Dev nD) (t : Fin (cfgA T).N) : S512x1024.Idx → Elt Ideal .f32 :=
  if q0 : Used T t then (if q1 : First T t then default else sumB T m ρ c t q0 q1)
  else (if q1 : Zeros T t then zeroD T m ρ c t q0 q1 default default else default)

theorem res_B (c : Dev nD) (t : Fin (cfgA T).N) (q0 : Used T t) (q1 : ¬ First T t) : res T m ρ c t = sumB T m ρ c t q0 q1 := by
  unfold res; rw [dif_pos q0, dif_neg q1]
theorem res_D (c : Dev nD) (t : Fin (cfgA T).N) (q0 : ¬ Used T t) (q1 : Zeros T t) : res T m ρ c t = zeroD T m ρ c t q0 q1 default default := by
  unfold res; rw [dif_neg q0, dif_pos q1]

/-- The invariant before point `t`: between the halves of a used block the scratch buffers hold what the first half
left, otherwise anything; the body's halves of the tables. -/
def Phi (c : Dev nD) (t : Fin ((cfgA T).N + 1)) : sProp 𝕄 :=
  iprop((∃ a, ⌜∀ (s : Fin (cfgA T).N) (q0 : Used T s) (q1 : First T s), s.val + 1 = t.val → a = left0 T m ρ c s q0 q1⌝ ∗ (scM0_0.view.loc (c : Thread nD τ) ↦{fullShare} a))
    ∗ (∃ a, ⌜∀ (s : Fin (cfgA T).N) (q0 : Used T s) (q1 : First T s), s.val + 1 = t.val → a = left1 T m ρ c s q0 q1⌝ ∗ (scM0_1.view.loc (c : Thread nD τ) ↦{fullShare} a))
    ∗ (tbM0_0.view.loc (c : Thread nD τ) ↦{fullShare.right} T.t0) ∗ (tbM0_1.view.loc (c : Thread nD τ) ↦{fullShare.right} T.t1))

/-- The proof data of the one pipeline on core `c`. -/
def dats (_ : Fin 1) (c : Dev nD) : Dat τ (Elt Ideal) Unit ℕ (UR sig nD τ) ℕ (cfgA T) c where
  A w := (s₀ m ρ).mem (((cfgA T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => res T m ρ c t
  Φ t := Phi T m ρ c t
  q _ := fullShare
  owed _ := 0

theorem after0 (c : Dev nD) (t : Fin (cfgA T).N) : (dats T m ρ 0 c).after (0 : Fin 5) t = iblk T m ρ c (0 : Fin 5) t := rfl
theorem after1 (c : Dev nD) (t : Fin (cfgA T).N) : (dats T m ρ 0 c).after (1 : Fin 5) t = iblk T m ρ c (1 : Fin 5) t := rfl
theorem after2 (c : Dev nD) (t : Fin (cfgA T).N) : (dats T m ρ 0 c).after (2 : Fin 5) t = iblk T m ρ c (2 : Fin 5) t := rfl
theorem after3 (c : Dev nD) (t : Fin (cfgA T).N) : (dats T m ρ 0 c).after (3 : Fin 5) t = iblk T m ρ c (3 : Fin 5) t := rfl
theorem after4 (c : Dev nD) (t : Fin (cfgA T).N) : (dats T m ρ 0 c).after (4 : Fin 5) t = res T m ρ c t := rfl

theorem before0 (c : Dev nD) (t : Fin (cfgA T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)

theorem before1 (c : Dev nD) (t : Fin (cfgA T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)

theorem before2 (c : Dev nD) (t : Fin (cfgA T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)

theorem before3 (c : Dev nD) (t : Fin (cfgA T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- The body at point `t` on its staging memrefs, as the pipeline calls it. -/
abbrev bodyAt (t : Fin (cfgA T).N) : Prog (TpuEff nD τ sig (Elt Ideal) Λ₀ .tc) PUnit :=
  cc0_moe_expert_ffn (crd T t) (Memref.whole main_arg1) (Memref.isWhole_whole _) (Memref.whole main_arg2) (Memref.isWhole_whole _) (ms0 T t) (hs0 T t) (ms1 T t) (hs1 T t) (ms2 T t) (hs2 T t) (ms3 T t) (hs3 T t) (ms4 T t) (hs4 T t) (Memref.whole cc0_scratch0) (Memref.isWhole_whole _) (Memref.whole cc0_scratch1) (Memref.isWhole_whole _)

set_option maxHeartbeats 4000000 in
/-- The body at a point, by the four ways its control can go. -/
theorem sound_body (c : Dev nD) (t : Fin (cfgA T).N) :
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := Ideal)) Variants.none c none) Set.univ (bodyAt T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : Used T t
  · by_cases q1 : First T t
    · obtain ⟨k3, k4, i4, f4⟩ := factsA T t q0 q1
      rewrite [i4]
      simp only [before0, before1, before2, before3, after0, after1, after2, after3, f4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi
      iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
      iapply ((runA T m ρ c t q0 q1).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro s p0 p1 hs
            obtain rfl : s = t := Fin.ext (by simpa using hs)
            rfl
        isplitl [HS1]
        · iexists _; isplitr; swap
          · iexact HS1
          · ipureintro; intro s p0 p1 hs
            obtain rfl : s = t := Fin.ext (by simpa using hs)
            rfl
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4
    · obtain ⟨k3, k4, i4, f4⟩ := factsB T t q0 q1
      have hs : (pre T t).val + 1 = t.castSucc.val := Nat.sub_add_cancel (second_pt t q1).2.2.2.2.1
      have e0 : ∀ a, (∀ (s : Fin (cfgA T).N) (q0 : Used T s) (q1 : First T s), s.val + 1 = t.castSucc.val → a = left0 T m ρ c s q0 q1) →
          a = left0 T m ρ c (pre T t) (pre_used T t q0 q1) (pre_first T t q1) := fun a h => h _ _ _ hs
      have e1 : ∀ a, (∀ (s : Fin (cfgA T).N) (q0 : Used T s) (q1 : First T s), s.val + 1 = t.castSucc.val → a = left1 T m ρ c s q0 q1) →
          a = left1 T m ρ c (pre T t) (pre_used T t q0 q1) (pre_first T t q1) := fun a h => h _ _ _ hs
      have hn : ∀ (s : Fin (cfgA T).N), First T s → ¬ (s.val + 1 = t.succ.val) := fun s p1 hs => by
        obtain rfl : s = t := Fin.ext (by simpa using hs)
        exact q1 p1
      rewrite [i4]
      simp only [before0, before1, before2, before3, after0, after1, after2, after3, after4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      rewrite [res_B T m ρ c t q0 q1]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      rw [e0 a0 ha0, e1 a1 ha1]
      iapply ((kernelRun0_B c (crd T t) (ms0 T t) (hs0 T t) (ms1 T t) (hs1 T t) (ms2 T t) (hs2 T t) (ms3 T t) (hs3 T t) (ms4 T t) (hs4 T t) T.t0 T.t1 (iblk T m ρ c (0 : Fin 5) t) (iblk T m ρ c (1 : Fin 5) t) (iblk T m ρ c (2 : Fin 5) t) (iblk T m ρ c (3 : Fin 5) t) _ _ q0 q1 k3 k4).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro s p0 p1 hs; exact absurd hs (hn s p1)
        isplitl [HS1]
        · iexists _; isplitr; swap
          · iexact HS1
          · ipureintro; intro s p0 p1 hs; exact absurd hs (hn s p1)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold sumB; exact View.read_writes_of_cover _ _ _ _ _ (cover0_B_4 c _ _ _ _ _ _ _ _ _ _ _ _ _ _ _ _ _ _ _ _ _ _ _)
  · have hn : ∀ (s : Fin (cfgA T).N), Used T s → ¬ (s.val + 1 = t.succ.val) := fun s p0 hs => by
      obtain rfl : s = t := Fin.ext (by simpa using hs)
      exact q0 p0
    by_cases q1 : Zeros T t
    · have i4 := factsD T t q0 q1
      rewrite [i4]
      simp only [before0, before1, before2, before3, after0, after1, after2, after3, after4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      rewrite [res_D T m ρ c t q0 q1]
      unfold Phi
      iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
      rw [zeroD_any T m ρ c t q0 q1 default a0 default a1]
      iapply ((kernelRun0_D c (crd T t) (ms0 T t) (hs0 T t) (ms1 T t) (hs1 T t) (ms2 T t) (hs2 T t) (ms3 T t) (hs3 T t) (ms4 T t) (hs4 T t) T.t0 T.t1 (iblk T m ρ c (0 : Fin 5) t) (iblk T m ρ c (1 : Fin 5) t) (iblk T m ρ c (2 : Fin 5) t) (iblk T m ρ c (3 : Fin 5) t) a0 a1 q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro s p0 p1 hs; exact absurd hs (hn s p0)
        isplitl [HS1]
        · iexists _; isplitr; swap
          · iexact HS1
          · ipureintro; intro s p0 p1 hs; exact absurd hs (hn s p0)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; unfold zeroD; exact View.read_writes_of_cover _ _ _ _ _ (cover0_D_4 c _ _ _ _ _ _ _ _ _ _ _ _ _ _ _ _ _ _ _ _ _)
    · obtain ⟨i4, f4⟩ := factsC T t q0 q1
      rewrite [i4]
      simp only [before0, before1, before2, before3, after0, after1, after2, after3, f4]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      unfold Phi
      iintro ⟨⟨⟨%a0, -, HS0⟩, ⟨%a1, -, HS1⟩, HT0, HT1⟩, Ho, ⟨%d0, H0⟩, ⟨%d1, H1⟩, ⟨%d2, H2⟩, ⟨%d3, H3⟩, ⟨%d4, H4⟩⟩
      iapply ((kernelRun0_C c (crd T t) (ms0 T t) (hs0 T t) (ms1 T t) (hs1 T t) (ms2 T t) (hs2 T t) (ms3 T t) (hs3 T t) (ms4 T t) (hs4 T t) T.t0 T.t1 (iblk T m ρ c (0 : Fin 5) t) (iblk T m ρ c (1 : Fin 5) t) (iblk T m ρ c (2 : Fin 5) t) (iblk T m ρ c (3 : Fin 5) t) a0 a1 q0 q1).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro s p0 p1 hs; exact absurd hs (hn s p0)
        isplitl [HS1]
        · iexists _; isplitr; swap
          · iexact HS1
          · ipureintro; intro s p0 p1 hs; exact absurd hs (hn s p0)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexists d4; iexact H4

/-- The library's body obligation, at every point. -/
theorem obligation (c : Dev nD) : BodyObligation (dats T m ρ 0 c) (defs₀ (F := Ideal)) Variants.none () Set.univ := fun t => by
  rw [bigSep_W0]
  exact sound_body T m ρ c t

/-! ## The launch -/

/-- The rounds library's launch element. -/
def u₀ : UR sig nD τ :=
  initOf (Pipeline.cells (pcs T) ((launch0 (F := Ideal)).cellOf_inj fun _ => adm T))
    (Pipeline.launchToks (pcs T) ((launch0 (F := Ideal)).cellOf_inj fun _ => adm T))

theorem share_eq (c : Dev nD) (w : Fin (cfgA T).W) : (dats T m ρ 0 c).share w = fullShare := by unfold Dat.share; split <;> rfl

/-- The tables as the launch hands them to the region, one by one. -/
theorem tables_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(BI.emp ∗ Pipeline.prefHeld pre0 c (fun _ => fullShare.right) (adm T).1 ∗ Pipeline.scopedRest spec0 c) ⊢ (dats T m ρ 0 c).Φ 0 := by
  rw [tables_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro s q0 q1 h; exact absurd h (Nat.succ_ne_zero _)
  isplitl [HS1]
  · iexists a1; isplitr; swap
    · iexact HS1
    · ipureintro; intro s q0 q1 h; exact absurd h (Nat.succ_ne_zero _)
  isplitl [HT0]
  · iexact HT0
  iexact HT1

theorem phi_out (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- Every array at what the library computes, every table at what the pipeline ran at. -/
def QC : PUnit × MemSt nD τ sig (Elt Ideal) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

/-- The launch memory holds the tables `T`. -/
def Holds : Prop :=
  (∀ c : Dev nD, m ((c : Thread nD τ).loc main_arg1) = T.t0) ∧ (∀ c : Dev nD, m ((c : Thread nD τ).loc main_arg2) = T.t1)

theorem tables_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory that holds the tables, with zero counters: every weakly fair execution terminates, with each array
at the computed contents and every counter at zero. -/
theorem run (hp : Holds T m) : θ_run (defs (F := Ideal)) (onTc (τ := τ) (main (F := Ideal))) (s₀ m ρ) (fun r => QC T m ρ r ∧ r.2.sem = fun _ => 0) :=
  Pipeline.θ_run_region_noSem_pf_quiescent pcfgs (fun _ => adm T) (dats T m ρ) () ((launch0 (F := Ideal)).cellOf_inj fun _ => adm T) (0 : Fin 1)
    (launch0 (F := Ideal)).win.to₀ (launch0 (F := Ideal)).pre (emb₁ : Emb (UR sig nD τ) 𝕄) defs₀ Variants.none m ρ main
    (hbody := fun c => (obligation T m ρ c).loose) (hne := (launch0 (F := Ideal)).block_pos)
    (harr := (launch0 (F := Ideal)).arr_whole) (hstage := (launch0 (F := Ideal)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := Ideal)).win.arr_inj c (launch0 (F := Ideal)).arr_whole
      (share_eq T m ρ c) _ _ fun _ => rfl)
    (hpf := tables_pre T m hp)
    (X := fun _ => iprop(emp)) (Y := fun _ => iprop(emp)) (Z := fun _ => iprop(emp))
    (hX := fun c => by rw [unscopedRestP0_eq]; iintro -; isplitr <;> iempintro)
    (hin := phi_in T m ρ)
    (hout := phi_out T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same run read at the result and the arguments: the result array is the pipeline's, the arguments end as they
began. -/
theorem run_args (hp : Holds T m) :
    θ_run (defs (F := Ideal)) (onTc (τ := τ) (main (F := Ideal))) ⟨m, fun _ => 0, ρ⟩ (fun r => (∀ c : Dev nD,
      r.2.mem ((c.tc : Thread nD τ).loc main_v0) = (dats T m ρ 0 c).arrAt (4 : Fin 5) (cfgA T).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).1 (0 : Fin 5)).trans ((dats T m ρ 0 c).arrAt_in (0 : Fin 5) rfl _),
    ((h.1 c).2 0).trans (hp.1 c).symm, ((h.1 c).2 1).trans (hp.2 c).symm,
    ((h.1 c).1 (1 : Fin 5)).trans ((dats T m ρ 0 c).arrAt_in (1 : Fin 5) rfl _),
    ((h.1 c).1 (2 : Fin 5)).trans ((dats T m ρ 0 c).arrAt_in (2 : Fin 5) rfl _),
    ((h.1 c).1 (3 : Fin 5)).trans ((dats T m ρ 0 c).arrAt_in (3 : Fin 5) rfl _)⟩, h.2⟩) (run T m ρ hp)

/-- The frame, from any memory that holds the tables. -/
theorem frame (hp : Holds T m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_args T m ρ hp)

end Cert.MoeKernelIdeal.Any

end
-- ==== Proof.MoeRef.lean ====
/-
  The reference of the expert feed-forward, read at an element: row `r` belongs to block `j = r / 512`, block `j` to expert
  `e j`, and a used block's element is `∑ f, silu(x·w1[e]) f * (x·w3[e]) f * w2[e, f, n]`; an unused block is zero.
-/
module

public import proofs.«01_k».proof.Proof.Gen.MoeReferenceIdeal.Run
public import proofs.«01_k».proof.Proof.Gen.MoeReferenceIdeal.Read
public import Idealize.ShloMosaic.Lib.Pointwise

@[expose] public section

set_option maxRecDepth 16384

noncomputable section

namespace Cert.MoeReferenceIdeal.Value

open Cert.MoeReferenceIdeal Cert.MoeReferenceIdeal.Gen Idealize.ShloMosaic Idealize.ShloMosaic.TcCoe Idealize.SL.Sem
open Cert.MoeReferenceIdeal.Read

/-! ## A gather of whole matrices from a stack, one matrix per start index -/

section Stack
variable {α : Type}

/-- Dimension numbers of that gather: `N` matrices `A × B`, `J` start indices. -/
abbrev stackDims (N A B J : Nat) (wf : GatherDims.WF ⟨3, ![N, A, B]⟩ ⟨2, ![J, 1]⟩ ⟨3, ![J, A, B]⟩ [1, 2] [0] [] [0] [] 1 ![1, A, B]) :
    GatherDims ⟨3, ![N, A, B]⟩ ⟨2, ![J, 1]⟩ ⟨3, ![J, A, B]⟩ where
  offsetDims := [1, 2]
  collapsedSliceDims := [0]
  operandBatchingDims := []
  startIndicesBatchingDims := []
  startIndexMap := [0]
  indexVectorDim := 1
  sliceSizes := ![1, A, B]
  wf := wf

/-- The result's matrix `j` is the operand's matrix at the `j`-th start index, clamped into the stack. -/
theorem gather_stack {N A B J w : Nat} (hN : 0 < N)
    (wf : GatherDims.WF ⟨3, ![N, A, B]⟩ ⟨2, ![J, 1]⟩ ⟨3, ![J, A, B]⟩ [1, 2] [0] [] [0] [] 1 ![1, A, B])
    (x : (⟨3, ![N, A, B]⟩ : Shape).Idx → α) (idx : IVec ⟨2, ![J, 1]⟩ w) (j : Fin J) (a : Fin A) (b : Fin B) :
    Host.gather (stackDims N A B J wf) x idx (ix3 j a b)
      = x (ix3 ⟨min (idx (ix2 j 0)).toInt.toNat (N - 1), by omega⟩ a b) := by
  unfold Host.gather
  congr 1
  have hk : (stackDims N A B J wf).sKept = [1, 2] := rfl
  funext q
  refine Fin.ext ?_
  show (stackDims N A B J wf).start (ix3 j a b) idx q + (stackDims N A B J wf).batchCoord (ix3 j a b) q
      + (stackDims N A B J wf).offCoord (ix3 j a b) q = _
  rw [GatherDims.batchCoord_eq_zero _ _ _ List.not_mem_nil]
  match q with
  | ⟨0, _⟩ =>
    show (stackDims N A B J wf).start (ix3 j a b) idx 0 + 0 + (stackDims N A B J wf).offCoord (ix3 j a b) 0 = _
    rw [GatherDims.offCoord_eq_zero _ _ _ (fun h => ((GatherDims.mem_sKept _ _).mp h).1 (List.mem_singleton.mpr rfl))]
    unfold GatherDims.start
    rw [dif_pos (show (0 : Fin 3) ∈ (stackDims N A B J wf).startIndexMap from List.mem_singleton.mpr rfl)]
    have hsi : (stackDims N A B J wf).siIdx (ix3 j a b) ⟨List.idxOf (0 : Fin 3) (stackDims N A B J wf).startIndexMap,
        List.idxOf_lt_length_iff.2 (List.mem_singleton.mpr rfl)⟩ = ix2 j 0 := by
      funext p; refine Fin.ext ?_
      match p with
      | ⟨0, _⟩ => rfl
      | ⟨1, _⟩ => rfl
    rw [hsi]
    rfl
  | ⟨1, _⟩ =>
    show (stackDims N A B J wf).start (ix3 j a b) idx 1 + 0 + (stackDims N A B J wf).offCoord (ix3 j a b) 1 = a.val
    have hs : (stackDims N A B J wf).start (ix3 j a b) idx 1 = 0 := by
      unfold GatherDims.start
      rw [dif_neg (show (1 : Fin 3) ∉ ([0] : List (Fin 3)) by decide)]
    rw [hs]
    unfold GatherDims.offCoord
    rw [dif_pos ((GatherDims.mem_sKept (d := stackDims N A B J wf) 1).2 ⟨show (1 : Fin 3) ∉ ([0] : List (Fin 3)) by decide, List.not_mem_nil⟩), Nat.zero_add]
    rfl
  | ⟨2, _⟩ =>
    show (stackDims N A B J wf).start (ix3 j a b) idx 2 + 0 + (stackDims N A B J wf).offCoord (ix3 j a b) 2 = b.val
    have hs : (stackDims N A B J wf).start (ix3 j a b) idx 2 = 0 := by
      unfold GatherDims.start
      rw [dif_neg (show (2 : Fin 3) ∉ ([0] : List (Fin 3)) by decide)]
    rw [hs]
    unfold GatherDims.offCoord
    rw [dif_pos ((GatherDims.mem_sKept (d := stackDims N A B J wf) 2).2 ⟨show (2 : Fin 3) ∉ ([0] : List (Fin 3)) by decide, List.not_mem_nil⟩), Nat.zero_add]
    rfl

end Stack

/-- A table's entry as an expert: read signed and clamped into the eight experts. -/
abbrev expert (x1 : (⟨S72, .i32⟩ : BufTy).Contents (Elt Ideal)) (j : Fin 72) : Fin 8 := ⟨min (x1 (ix1 j)).toInt.toNat 7, by omega⟩

section
variable (x0 : (⟨S36864x1024, .f32⟩ : BufTy).Contents (Elt Ideal)) (x1 : (⟨S72, .i32⟩ : BufTy).Contents (Elt Ideal))
  (x2 : (⟨S1, .i32⟩ : BufTy).Contents (Elt Ideal)) (x3 x4 : (⟨S8x1024x3584, .bf16⟩ : BufTy).Contents (Elt Ideal))
  (x5 : (⟨S8x3584x1024, .bf16⟩ : BufTy).Contents (Elt Ideal))

theorem start0 (j : Fin 72) : val_main_call0_v0 (F := Ideal) x1 (ix2 j 0) = x1 (ix1 j) := by pointwise [val_main_call0_v0]
theorem start1 (j : Fin 72) : val_main_call1_v0 (F := Ideal) x1 (ix2 j 0) = x1 (ix1 j) := by pointwise [val_main_call1_v0]
theorem start2 (j : Fin 72) : val_main_call2_v0 (F := Ideal) x1 (ix2 j 0) = x1 (ix1 j) := by pointwise [val_main_call2_v0]

theorem w1_apply (j : Fin 72) (k : Fin 1024) (f : Fin 3584) : val_main_v2 (F := Ideal) x1 x3 (ix3 j k f) = x3 (ix3 (expert x1 j) k f) := by
  refine (gather_stack (by decide) gather_S8x1024x3584_S72x1_S72x1024x3584_12_0_n_n_0_1_110243584_wf _ _ j k f).trans ?_
  exact congrArg (fun q : Fin 8 => x3 (ix3 q k f)) (Fin.ext (by show min _ 7 = min _ 7; rw [start0]))
theorem w3_apply (j : Fin 72) (k : Fin 1024) (f : Fin 3584) : val_main_v4 (F := Ideal) x1 x4 (ix3 j k f) = x4 (ix3 (expert x1 j) k f) := by
  refine (gather_stack (by decide) gather_S8x1024x3584_S72x1_S72x1024x3584_12_0_n_n_0_1_110243584_wf _ _ j k f).trans ?_
  exact congrArg (fun q : Fin 8 => x4 (ix3 q k f)) (Fin.ext (by show min _ 7 = min _ 7; rw [start1]))
theorem w2_apply (j : Fin 72) (f : Fin 3584) (n : Fin 1024) : val_main_v6 (F := Ideal) x1 x5 (ix3 j f n) = x5 (ix3 (expert x1 j) f n) := by
  refine (gather_stack (by decide) gather_S8x3584x1024_S72x1_S72x3584x1024_12_0_n_n_0_1_135841024_wf _ _ j f n).trans ?_
  exact congrArg (fun q : Fin 8 => x5 (ix3 q f n)) (Fin.ext (by show min _ 7 = min _ 7; rw [start2]))

/-- The block of a row. -/
abbrev block (r : Fin 36864) : Fin 72 := ⟨r.val / 512, by have := r.isLt; omega⟩

/-- A row of the input times a column of an expert's matrix. -/
abbrev up (w : (⟨S8x1024x3584, .bf16⟩ : BufTy).Contents (Elt Ideal)) (r : Fin 36864) (f : Fin 3584) : EReal :=
  ∑ k : Fin 1024, x0 (ix2 r k) * w (ix3 (expert x1 (block r)) k f)

/-- The hidden element: `silu(x·w1) * (x·w3)`. -/
abbrev hid (r : Fin 36864) (f : Fin 3584) : EReal :=
  up x0 x1 x3 r f * Ideal.logistic (up x0 x1 x3 r f) * up x0 x1 x4 r f

theorem row_eq (r : Fin 36864) (h : r.val / 512 * 512 + r.val % 512 < 36864) : (⟨r.val / 512 * 512 + r.val % 512, h⟩ : Fin 36864) = r :=
  Fin.ext (by show r.val / 512 * 512 + r.val % 512 = r.val; omega)

/-- The gated hidden block at a row of the flat input. -/
theorem hid_apply (r : Fin 36864) (f : Fin 3584) (h : r.val / 512 < 72) (h' : r.val % 512 < 512) :
    val_main_v10 (F := Ideal) x0 x1 x3 x4 (ix3 ⟨r.val / 512, h⟩ ⟨r.val % 512, h'⟩ f) = hid x0 x1 x3 x4 r f := by
  pointwise [val_main_v10, val_main_v9, val_main_v8, val_main_v7, val_main_call3_v5, val_main_call3_v4, val_main_call3_v3, val_main_call3_v2, val_main_call3_v1, val_main_call3_v0,
    val_main_call3_cst, val_main_call3_cst_0, val_main_v0, w1_apply, w3_apply, row_eq]
  rfl

theorem ref_apply (r : Fin 36864) (n : Fin 1024) :
    val_main_v18 (F := Ideal) x0 x1 x2 x3 x4 x5 (ix2 r n)
      = if (BitVec.ofNat 32 (r.val / 512)).slt (x2 (ix1 0)) = true then ∑ f : Fin 3584, hid x0 x1 x3 x4 r f * x5 (ix3 (expert x1 (block r)) f n) else 0 := by
  pointwise [val_main_v18, val_main_v17, val_main_v16, val_main_v15, val_main_v14, val_main_v13, val_main_v12, val_main_v11, val_main_call4_v2, val_main_call4_v1, val_main_call4_v0, val_main_cst, hid_apply, w2_apply, id_eq]
  have hc : IntOp.cmpi CmpIPredicate.slt (BitVec.ofNat 32 (r.val / 512)) (x2 (ix1 0)) = BitVec.ofBool ((BitVec.ofNat 32 (r.val / 512)).slt (x2 (ix1 0))) := rfl
  rw [hc]
  cases (BitVec.ofNat 32 (r.val / 512)).slt (x2 (ix1 0)) <;> simp [Scalar.select]

end

end Cert.MoeReferenceIdeal.Value

end
-- ==== Proof.MoeValue.lean ====
/-
  The values of the expert feed-forward: a used block's rows are the two half products added, which is the reference's one
  sum over the hidden width split in two; an unused block's rows are zero.
-/
module

public import proofs.«01_k».proof.Proof.MoeRun
public import proofs.«01_k».proof.Proof.MoeRef
public import Idealize.ShloMosaic.Lib.Pointwise
public import Idealize.ShloMosaic.Lib.VecWindow

@[expose] public section

set_option maxRecDepth 16384

noncomputable section

namespace Cert.MoeKernelIdeal.Any

open Cert.MoeKernelIdeal Cert.MoeKernelIdeal.Gen Idealize.ShloMosaic Idealize.ShloMosaic.TcCoe Idealize.SL.Sem
open Idealize.ShloMosaic.Pipeline (Dat)
open Cert.MoeReferenceIdeal.Value (expert up hid)

theorem hz2 : (![0, 0] : Fin 2 → Nat) = fun _ => 0 := funext fun a => by fin_cases a <;> rfl

/-! ## The payloads at an element -/

theorem pay1_apply (x : Vec Ideal S512x1024 .f32) (r : Fin 512) (k : Fin 1024) : k0_pay1 x (ix2 r k) = x (ix2 r k) := by
  pointwise [k0_pay1]

theorem pay2_apply (r : Fin 512) (n : Fin 1024) : k0_pay2 (F := Ideal) (ix2 r n) = 0 := by
  pointwise [k0_pay2]

theorem pay4_apply (r : Fin 512) (n : Fin 1024) : k0_pay4 (F := Ideal) (ix2 r n) = 0 := by
  pointwise [k0_pay4]

/-- A half block's hidden element. -/
abbrev half (q : Vec Ideal S512x1024 .bf16) (w1 w3 : Vec Ideal S1x1024x1792 .bf16) (r : Fin 512) (f : Fin 1792) : EReal :=
  (∑ k : Fin 1024, q (ix2 r k) * w1 (ix3 0 k f)) * Ideal.logistic (∑ k : Fin 1024, q (ix2 r k) * w1 (ix3 0 k f))
    * ∑ k : Fin 1024, q (ix2 r k) * w3 (ix3 0 k f)

theorem pay3_apply (q : Vec Ideal S512x1024 .bf16) (w1 w3 : Vec Ideal S1x1024x1792 .bf16) (a : Vec Ideal S512x1024 .f32)
    (w2 : Vec Ideal S1x1792x1024 .bf16) (r : Fin 512) (n : Fin 1024) :
    k0_pay3 q w1 w3 a w2 (ix2 r n) = a (ix2 r n) + ∑ f : Fin 1792, half q w1 w3 r f * w2 (ix3 0 f n) := by
  pointwise [k0_pay3]

variable (T : Tab) (m : (ℓ : Loc nD τ sig) → Buf (Elt Ideal) ℓ) (ρ : Dev nD → PrngReg)

/-! ## What the points leave, as payloads of their blocks -/

theorem left0_read (c : Dev nD) (t : Fin (cfgA T).N) (q0 : Used T t) (q1 : First T t) :
    View.read (Elt Ideal) scM0_0.view (left0 T m ρ c t q0 q1) = k0_pay1 (iblk T m ρ c (0 : Fin 5) t) := by
  unfold left0
  dsimp only [runA, kernelRun0_A]
  sl_unfold_words
  refine (View.read_writes_full _ _ _ _ _).trans ?_
  rw [View.readAt_rep_full]

theorem left1_read (c : Dev nD) (t : Fin (cfgA T).N) (q0 : Used T t) (q1 : First T t) :
    View.read (Elt Ideal) scM0_1.view (left1 T m ρ c t q0 q1)
      = k0_pay3 (k0_pay1 (iblk T m ρ c (0 : Fin 5) t)) (iblk T m ρ c (1 : Fin 5) t) (iblk T m ρ c (2 : Fin 5) t) (k0_pay2 (F := Ideal)) (iblk T m ρ c (3 : Fin 5) t) := by
  unfold left1
  dsimp only [runA, kernelRun0_A]
  sl_unfold_words
  refine (View.read_writes_full _ _ _ _ _).trans ?_
  rw [View.readCov_full, View.readCov_full, View.readAt_rep_full, View.readAt_rep_full, View.readAt_rep_full, View.readAt_rep_full]

theorem sumB_eq (c : Dev nD) (t : Fin (cfgA T).N) (q0 : Used T t) (q1 : ¬ First T t) :
    sumB T m ρ c t q0 q1 = k0_pay3 (k0_pay1 (iblk T m ρ c (0 : Fin 5) (pre T t))) (iblk T m ρ c (1 : Fin 5) t) (iblk T m ρ c (2 : Fin 5) t)
      (k0_pay3 (k0_pay1 (iblk T m ρ c (0 : Fin 5) (pre T t))) (iblk T m ρ c (1 : Fin 5) (pre T t)) (iblk T m ρ c (2 : Fin 5) (pre T t)) (k0_pay2 (F := Ideal)) (iblk T m ρ c (3 : Fin 5) (pre T t)))
      (iblk T m ρ c (3 : Fin 5) t) := by
  unfold sumB out0_B_4
  rw [View.read_writes_eq_canon _ _ _ (fun y => cover0_B_4 (y := y) ..)]
  dsimp only [kernelRun0_B]
  sl_unfold_words
  rw [View.canon_unit_zero hz2, View.readCov_full, View.readAt_rep_full, View.readAt_rep_full, View.readAt_rep_full, View.readAt_full, View.readAt_full,
    left0_read, left1_read]

theorem zeroD_eq (c : Dev nD) (t : Fin (cfgA T).N) (q0 : ¬ Used T t) (q1 : Zeros T t) (a b) :
    zeroD T m ρ c t q0 q1 a b = k0_pay4 (F := Ideal) := by
  unfold zeroD out0_D_4
  rw [View.read_writes_eq_canon _ _ _ (fun y => cover0_D_4 (y := y) ..)]
  dsimp only [kernelRun0_D]
  sl_unfold_words
  rw [View.canon_unit_zero hz2]

/-! ## The blocks -/

theorem pts : ∀ t : Fin grid0.N, ((grid0.coords t) 0).val = t.val / 2 ∧ ((grid0.coords t) 1).val = t.val % 2 := by decide +kernel

theorem lt_pts (t : Fin (cfgA T).N) : t.val < 144 := lt_of_lt_of_eq t.isLt (by decide +kernel : grid0.N = 144)

theorem crd0 (t : Fin (cfgA T).N) : ((crd T t) 0).val = t.val / 2 := (pts t).1
theorem crd1 (t : Fin (cfgA T).N) : ((crd T t) 1).val = t.val % 2 := (pts t).2

abbrev X (c : Dev nD) : Vec Ideal S36864x1024 .f32 := m ((c : Thread nD τ).loc main_arg0)
abbrev W1 (c : Dev nD) : Vec Ideal S8x1024x3584 .bf16 := m ((c : Thread nD τ).loc main_arg3)
abbrev W3 (c : Dev nD) : Vec Ideal S8x1024x3584 .bf16 := m ((c : Thread nD τ).loc main_arg4)
abbrev W2 (c : Dev nD) : Vec Ideal S8x3584x1024 .bf16 := m ((c : Thread nD τ).loc main_arg5)

/-- The block a point works on. -/
abbrev blk (t : Fin (cfgA T).N) : Fin 72 := ⟨t.val / 2, by have := lt_pts T t; omega⟩

/-- A 32-bit word below 72 keeps its value. -/
theorem small (n : Nat) (h : n < 72) : (BitVec.ofNat 32 n).toNat = n := by
  rw [BitVec.toNat_ofNat]; exact Nat.mod_eq_of_lt (by omega)

/-- The expert named by the table, clamped or not. -/
theorem expert_val (j : Fin 72) : (expert T.t0 j).val = (T.t0 (ix1 j)).toNat := by
  have h := T.below (ix1 j)
  show min (T.t0 (ix1 j)).toInt.toNat 7 = _
  rw [BitVec.toInt_eq_toNat_of_lt (by omega), Int.toNat_natCast]
  omega

/-- The weight windows' first index: the expert of the point's block. -/
theorem tr1 (t : Fin (cfgA T).N) : cc0_transform_1 k0_off1_inb numel1_S1 (pf T) (crd T t) 0 = (expert T.t0 (blk T t)).val := by
  rw [expert_val]
  show (T.t0 _).toNat = _
  congr 2
  funext a
  apply Fin.ext
  match a with
  | ⟨0, _⟩ =>
    show (BitVec.ofNat 32 ((crd T t) 0).val).toNat + 1 * 0 = t.val / 2
    rw [crd0, small _ (by have := lt_pts T t; omega)]; rfl

theorem x_apply (c : Dev nD) (t : Fin (cfgA T).N) (r : Fin 512) (k : Fin 1024) :
    (iblk T m ρ c (0 : Fin 5) t : Vec Ideal S512x1024 .f32) (ix2 r k)
      = X m c (ix2 (⟨t.val / 2 * 512 + r.val, by have := lt_pts T t; have := r.isLt; omega⟩ : Fin 36864) k) := by
  unfold iblk
  rw [View.read_apply]
  show m (c.tc.loc main_arg0) _ = m (c.tc.loc main_arg0) _
  congr 1
  funext a
  apply Fin.ext
  match a with
  | ⟨0, _⟩ =>
    show (BitVec.ofNat 32 ((crd T t) 0).val).toNat * 512 + 1 * r.val = t.val / 2 * 512 + r.val
    rw [crd0, small _ (by have := lt_pts T t; omega)]; omega
  | ⟨1, _⟩ => show 0 * 1024 + 1 * k.val = k.val; omega

/-- The same for the down projection's window. -/
theorem tr3 (t : Fin (cfgA T).N) : cc0_transform_3 k0_off1_inb numel1_S1 (pf T) (crd T t) 0 = (expert T.t0 (blk T t)).val := tr1 T t

/-- The half of the hidden width a point works on. -/
abbrev col (t : Fin (cfgA T).N) (f : Fin 1792) : Fin 3584 := ⟨t.val % 2 * 1792 + f.val, by have := f.isLt; omega⟩

theorem half_word (t : Fin (cfgA T).N) : (BitVec.ofNat 32 ((crd T t) 1).val).toNat = t.val % 2 := by
  rw [crd1, small _ (by omega)]

theorem w1_apply (c : Dev nD) (t : Fin (cfgA T).N) (k : Fin 1024) (f : Fin 1792) :
    (iblk T m ρ c (1 : Fin 5) t : Vec Ideal S1x1024x1792 .bf16) (ix3 0 k f) = W1 m c (ix3 (expert T.t0 (blk T t)) k (col T t f)) := by
  unfold iblk
  rw [View.read_apply]
  show m (c.tc.loc main_arg3) _ = m (c.tc.loc main_arg3) _
  congr 1
  funext a
  apply Fin.ext
  match a with
  | ⟨0, _⟩ => show cc0_transform_1 k0_off1_inb numel1_S1 (pf T) (crd T t) 0 * 1 + 1 * 0 = (expert T.t0 (blk T t)).val; rw [tr1]; omega
  | ⟨1, _⟩ => show 0 * 1024 + 1 * k.val = k.val; omega
  | ⟨2, _⟩ => show (BitVec.ofNat 32 ((crd T t) 1).val).toNat * 1792 + 1 * f.val = t.val % 2 * 1792 + f.val; rw [half_word]; omega

theorem w3_apply (c : Dev nD) (t : Fin (cfgA T).N) (k : Fin 1024) (f : Fin 1792) :
    (iblk T m ρ c (2 : Fin 5) t : Vec Ideal S1x1024x1792 .bf16) (ix3 0 k f) = W3 m c (ix3 (expert T.t0 (blk T t)) k (col T t f)) := by
  unfold iblk
  rw [View.read_apply]
  show m (c.tc.loc main_arg4) _ = m (c.tc.loc main_arg4) _
  congr 1
  funext a
  apply Fin.ext
  match a with
  | ⟨0, _⟩ => show cc0_transform_1 k0_off1_inb numel1_S1 (pf T) (crd T t) 0 * 1 + 1 * 0 = (expert T.t0 (blk T t)).val; rw [tr1]; omega
  | ⟨1, _⟩ => show 0 * 1024 + 1 * k.val = k.val; omega
  | ⟨2, _⟩ => show (BitVec.ofNat 32 ((crd T t) 1).val).toNat * 1792 + 1 * f.val = t.val % 2 * 1792 + f.val; rw [half_word]; omega

theorem w2_apply (c : Dev nD) (t : Fin (cfgA T).N) (f : Fin 1792) (n : Fin 1024) :
    (iblk T m ρ c (3 : Fin 5) t : Vec Ideal S1x1792x1024 .bf16) (ix3 0 f n) = W2 m c (ix3 (expert T.t0 (blk T t)) (col T t f) n) := by
  unfold iblk
  rw [View.read_apply]
  show m (c.tc.loc main_arg5) _ = m (c.tc.loc main_arg5) _
  congr 1
  funext a
  apply Fin.ext
  match a with
  | ⟨0, _⟩ => show cc0_transform_3 k0_off1_inb numel1_S1 (pf T) (crd T t) 0 * 1 + 1 * 0 = (expert T.t0 (blk T t)).val; rw [tr3]; omega
  | ⟨1, _⟩ => show (BitVec.ofNat 32 ((crd T t) 1).val).toNat * 1792 + 1 * f.val = t.val % 2 * 1792 + f.val; rw [half_word]; omega
  | ⟨2, _⟩ => show 0 * 1024 + 1 * n.val = n.val; omega

/-! ## A used block's rows -/

/-- The row of the flat input that row `r` of a point's block is. -/
abbrev row (t : Fin (cfgA T).N) (r : Fin 512) : Fin 36864 := ⟨t.val / 2 * 512 + r.val, by have := lt_pts T t; have := r.isLt; omega⟩

theorem block_row (t : Fin (cfgA T).N) (r : Fin 512) : Cert.MoeReferenceIdeal.Value.block (row T t r) = blk T t :=
  Fin.ext (by have := r.isLt; show (t.val / 2 * 512 + r.val) / 512 = t.val / 2; omega)

/-- The hidden element of one half, with the rows stored by a point of the same block. -/
theorem half_apply (c : Dev nD) (s t : Fin (cfgA T).N) (h : s.val / 2 = t.val / 2) (r : Fin 512) (f : Fin 1792) :
    half (k0_pay1 (iblk T m ρ c (0 : Fin 5) s)) (iblk T m ρ c (1 : Fin 5) t) (iblk T m ρ c (2 : Fin 5) t) r f
      = hid (X m c) T.t0 (W1 m c) (W3 m c) (row T t r) (col T t f) := by
  have hr : ∀ p, (⟨s.val / 2 * 512 + r.val, p⟩ : Fin 36864) = row T t r := fun p => Fin.ext (by show s.val / 2 * 512 + r.val = t.val / 2 * 512 + r.val; rw [h])
  have e1 : ∑ k : Fin 1024, k0_pay1 (iblk T m ρ c (0 : Fin 5) s) (ix2 r k) * (iblk T m ρ c (1 : Fin 5) t : Vec Ideal S1x1024x1792 .bf16) (ix3 0 k f)
      = up (X m c) T.t0 (W1 m c) (row T t r) (col T t f) := by
    unfold up
    rw [block_row]
    exact Finset.sum_congr rfl fun k _ => by rw [pay1_apply, x_apply, w1_apply, hr]
  have e3 : ∑ k : Fin 1024, k0_pay1 (iblk T m ρ c (0 : Fin 5) s) (ix2 r k) * (iblk T m ρ c (2 : Fin 5) t : Vec Ideal S1x1024x1792 .bf16) (ix3 0 k f)
      = up (X m c) T.t0 (W3 m c) (row T t r) (col T t f) := by
    unfold up
    rw [block_row]
    exact Finset.sum_congr rfl fun k _ => by rw [pay1_apply, x_apply, w3_apply, hr]
  unfold half hid
  rw [e1, e3]

theorem odd : ∀ t : Fin grid0.N, ¬ (Scalar.cmpi .ne (Scalar.extui (Scalar.cmpi .eq (BitVec.ofNat 32 ((grid0.coords t) 1).val) 0#32)) 0#32) = 1#1 → t.val % 2 = 1 := by
  decide +kernel

theorem sumB_apply (c : Dev nD) (t : Fin (cfgA T).N) (q0 : Used T t) (q1 : ¬ First T t) (r : Fin 512) (n : Fin 1024) :
    sumB T m ρ c t q0 q1 (ix2 r n) = ∑ f : Fin 3584, hid (X m c) T.t0 (W1 m c) (W3 m c) (row T t r) f * W2 m c (ix3 (expert T.t0 (blk T t)) f n) := by
  have ho : t.val % 2 = 1 := odd t q1
  have hp : (pre T t).val = t.val - 1 := rfl
  have hd : (pre T t).val / 2 = t.val / 2 := by omega
  have hm : (pre T t).val % 2 = 0 := by omega
  have hrow : row T (pre T t) r = row T t r := Fin.ext (by show (pre T t).val / 2 * 512 + r.val = t.val / 2 * 512 + r.val; rw [hd])
  have hblk : blk T (pre T t) = blk T t := Fin.ext hd
  rw [sumB_eq, pay3_apply, pay3_apply, pay2_apply, zero_add, Fin.sum_univ_two_halves 1792 1792 rfl]
  refine congrArg₂ (fun a b : EReal => a + b) ?_ ?_
  · refine Finset.sum_congr rfl fun f _ => ?_
    have hc : col T (pre T t) f = ⟨f.val, by have := f.isLt; omega⟩ := Fin.ext (by show (pre T t).val % 2 * 1792 + f.val = f.val; rw [hm]; omega)
    rw [half_apply T m ρ c (pre T t) (pre T t) rfl, w2_apply, hrow, hblk, hc]
  · refine Finset.sum_congr rfl fun f _ => ?_
    have hc : col T t f = ⟨1792 + f.val, by have := f.isLt; omega⟩ := Fin.ext (by show t.val % 2 * 1792 + f.val = 1792 + f.val; rw [ho])
    rw [half_apply T m ρ c (pre T t) t hd, w2_apply, hc]

/-! ## The result array -/

theorem word_val : word T = T.t1 (ix1 0) := congrArg T.t1 (funext fun a => Fin.ext (by match a with | ⟨0, _⟩ => rfl))

/-- The result array as the reference's function of the arguments. -/
abbrev want (c : Dev nD) : Buf (Elt Ideal) ((c : Thread nD τ).loc main_v0) :=
  Cert.MoeReferenceIdeal.Read.val_main_v18 (F := Ideal) (X m c) T.t0 T.t1 (W1 m c) (W3 m c) (W2 m c)

/-- A point whose block is written back leaves the reference's rows. -/
theorem res_apply (c : Dev nD) (t : Fin (cfgA T).N) (hf : ((cfgA T).win (4 : Fin 5)).flush t = true) (r : Fin 512) (n : Fin 1024) :
    res T m ρ c t (ix2 r n) = want T m c (ix2 (row T t r) n) := by
  have q1 : ¬ First T t := fun q => by
    rw [flush_wb] at hf
    exact absurd ((first_pt t q).2.2.symm.trans hf) (by decide)
  have hb : (row T t r).val / 512 = t.val / 2 := congrArg Fin.val (block_row T t r)
  refine Eq.trans ?_ (Cert.MoeReferenceIdeal.Value.ref_apply (X m c) T.t0 T.t1 (W1 m c) (W3 m c) (W2 m c) (row T t r) n).symm
  rw [hb, block_row, ← word_val]
  by_cases q0 : Used T t
  · have hu := (cond1_iff _ _).1 q0
    rw [crd0] at hu
    rw [if_pos hu, res_B T m ρ c t q0 q1, sumB_apply]
  · have hu : ¬ (BitVec.ofNat 32 (t.val / 2)).slt (word T) = true := fun h => q0 ((cond1_iff _ _).2 (by rw [crd0]; exact h))
    by_cases qz : Zeros T t
    · rw [if_neg hu, res_D T m ρ c t q0 qz, zeroD_eq, pay4_apply]
    · exact absurd ((factsC T t q0 qz).2.symm.trans hf) (by decide)

theorem flushed_want (c : Dev nD) (t : Fin (cfgA T).N) (hf : ((cfgA T).win (4 : Fin 5)).flush t = true) :
    (dats T m ρ 0 c).flushed (4 : Fin 5) t = (((cfgA T).win (4 : Fin 5)).blk t).view.read (Elt Ideal) (want T m c) := by
  funext y
  obtain ⟨r, n, rfl⟩ : ∃ (r : Fin 512) (n : Fin 1024), y = ix2 r n := ⟨y 0, y 1, eq_ix2 y⟩
  rw [View.read_apply]
  have hi : (((cfgA T).win (4 : Fin 5)).blk t).view.emb (ix2 r n) = ix2 (row T t r) n := by
    funext a
    apply Fin.ext
    match a with
    | ⟨0, _⟩ =>
      show (BitVec.ofNat 32 ((crd T t) 0).val).toNat * 512 + 1 * r.val = t.val / 2 * 512 + r.val
      rw [crd0, small _ (by have := lt_pts T t; omega)]; omega
    | ⟨1, _⟩ => show 0 * 1024 + 1 * n.val = n.val; omega
  show res T m ρ c t (ix2 r n) = want T m c ((((cfgA T).win (4 : Fin 5)).blk t).view.emb (ix2 r n))
  rw [hi, res_apply T m ρ c t hf]

theorem wb_odd : ∀ j : Fin 72, ∃ t : Fin grid0.N, wb t = true ∧ t.val = 2 * j.val + 1 := by decide +kernel

theorem final_want (c : Dev nD) : (dats T m ρ 0 c).arrAt (4 : Fin 5) (cfgA T).N = want T m c :=
  (dats T m ρ 0 c).arrAt_eq_of_cover (4 : Fin 5) _ (fun t hf => flushed_want T m ρ c t hf) (fun i => by
    have h0 : (i 0).val < 36864 := (i 0).isLt
    have h1 : (i 1).val < 1024 := (i 1).isLt
    obtain ⟨t, hw, ht⟩ := wb_odd ⟨(i 0).val / 512, by omega⟩
    have ht' : t.val / 2 = (i 0).val / 512 := by rw [ht]; show (2 * ((i 0).val / 512) + 1) / 2 = _; omega
    refine ⟨t, (flush_wb T t).trans hw, ?_⟩
    show i ∈ ((View.whole main_v0).slice (((cfgA T).win (4 : Fin 5)).rect t)).set
    rw [View.set_slice_whole, Rect.mem_set_unit]
    intro a
    match a with
    | ⟨0, _⟩ =>
      show (BitVec.ofNat 32 ((crd T t) 0).val).toNat * 512 ≤ (i 0).val ∧ (i 0).val < (BitVec.ofNat 32 ((crd T t) 0).val).toNat * 512 + 512
      rw [crd0, small _ (by omega)]; omega
    | ⟨1, _⟩ => show 0 * 1024 ≤ (i 1).val ∧ (i 1).val < 0 * 1024 + 1024; omega)

end Cert.MoeKernelIdeal.Any

end
-- ==== Proof.ProjValue.lean ====
/-
  The values of the input projection: what the kernel leaves in its result array is, at row `r` and column `n`, the sum over `k` of the
  modulated row's element `x[r,k] * (1 + scale[b,k]) + shift[b,k]` (`b = r / 2048`) times the weight `w[1,k,n]`; the reference's result is
  the same sum.
-/
module

public import proofs.«01_k».proof.Proof.Gen.ProjKernelIdeal.Value
public import proofs.«01_k».proof.Proof.Gen.ProjReferenceIdeal.Run
public import proofs.«01_k».proof.Proof.Gen.ProjReferenceIdeal.Read
public import Idealize.ShloMosaic.Lib.Pointwise

@[expose] public section

set_option maxRecDepth 16384

noncomputable section

namespace Cert.ProjReferenceIdeal.Value

open Cert.ProjReferenceIdeal Cert.ProjReferenceIdeal.Gen Idealize.ShloMosaic Idealize.ShloMosaic.TcCoe Idealize.SL.Sem
open Cert.ProjReferenceIdeal.Read

/-- The reference at row `r`, column `n`. -/
theorem ref_apply (x0 : (⟨S16384x1024, .f32⟩ : BufTy).Contents (Elt Ideal)) (x1 : (⟨S16x8x1024, .f32⟩ : BufTy).Contents (Elt Ideal))
    (x2 : (⟨S2x1024x17408, .f32⟩ : BufTy).Contents (Elt Ideal)) (r : Fin 16384) (n : Fin 17408) :
    val_main_v13 (F := Ideal) x0 x1 x2 (ix2 r n) = ∑ k : Fin 1024,
      (x0 (ix2 r k) * (1 + x1 (ix3 (⟨r.val / 2048, by have := r.isLt; omega⟩ : Fin 16) 1 k)) + x1 (ix3 (⟨r.val / 2048, by have := r.isLt; omega⟩ : Fin 16) 0 k))
        * x2 (ix3 1 k n) := by
  pointwise [val_main_v13, val_main_v12, val_main_v11, val_main_v10, val_main_v9, val_main_v8, val_main_v7, val_main_v6, val_main_v5,
    val_main_v4, val_main_v3, val_main_cst, val_main_v2, val_main_v1, val_main_v0]

end Cert.ProjReferenceIdeal.Value

namespace Cert.ProjKernelIdeal.Value

open Cert.ProjKernelIdeal Cert.ProjKernelIdeal.Gen Idealize.ShloMosaic Idealize.ShloMosaic.TcCoe Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]
variable (c : Dev nD) (i : grid0.Coords) (a2 : Memref sig .tc .vmem S2048x1024 .f32) (h2 : a2.IsWhole)
  (a3 : Memref sig .tc .vmem S1x8x1024 .f32) (h3 : a3.IsWhole) (a4 : Memref sig .tc .vmem S1x1024x1024 .f32) (h4 : a4.IsWhole)
  (a5 : Memref sig .tc .vmem S2048x1024 .bf16) (h5 : a5.IsWhole) (a6 : Memref sig .tc .vmem S2048x1024 .bf16) (h6 : a6.IsWhole)

/-- The first point of a row block leaves the modulated rows in the scratch. -/
theorem scr_A (hc : cond0_0 i) (x : Vec F S2048x1024 .f32) (md : Vec F S1x8x1024 .f32) (w : Vec F S1x1024x1024 .f32) :
    sout0_A_0 c i a2 h2 a3 h3 a4 h4 a5 h5 a6 h6 hc x md w = k0_pay1 md x := by
  unfold sout0_A_0
  rw [View.read_writes_eq_canon _ _ _ (scover0_A_0 c i a2 h2 a3 h3 a4 h4 a5 h5 a6 h6 hc x md w)]
  unfold kernelRun0_A
  dsimp only
  sl_unfold_words
  rw [View.canon_unit_zero hz2]
  simp only [View.readAt_eq_ld, h2.read_unread, h3.read_unread, View.ld_unit_zero (S := S2048x1024) hz2, View.ld_unit_zero (S := S1x8x1024) hz3,
    View.ld_unit_zero (S := S1x1024x1024) hz3]

theorem out_A (hc : cond0_0 i) (x : Vec F S2048x1024 .f32) (md : Vec F S1x8x1024 .f32) (w : Vec F S1x1024x1024 .f32) :
    out0_A_3 c i a2 h2 a3 h3 a4 h4 a5 h5 a6 h6 hc x md w = k0_pay2 (k0_pay1 md x) w := by
  unfold out0_A_3
  rw [View.read_writes_eq_canon _ _ _ (cover0_A_3 c i a2 h2 a3 h3 a4 h4 a5 h5 a6 h6 hc x md w)]
  unfold kernelRun0_A
  dsimp only
  sl_unfold_words
  rw [View.canon_unit_zero hz2, View.readCov_unit_zero (S := S2048x1024) _ hz2]
  simp only [View.readAt_eq_ld, h2.read_unread, h3.read_unread, h4.read_unread, View.ld_unit_zero (S := S2048x1024) hz2, View.ld_unit_zero (S := S1x8x1024) hz3,
    View.ld_unit_zero (S := S1x1024x1024) hz3]

theorem out_B (hc : ¬cond0_0 i) (x : Vec F S2048x1024 .f32) (md : Vec F S1x8x1024 .f32) (w : Vec F S1x1024x1024 .f32) (q : Vec F S2048x1024 .bf16) :
    out0_B_3 c i a2 h2 a3 h3 a4 h4 a5 h5 a6 h6 hc x md w q = k0_pay2 q w := by
  unfold out0_B_3
  rw [View.read_writes_eq_canon _ _ _ (cover0_B_3 c i a2 h2 a3 h3 a4 h4 a5 h5 a6 h6 hc x md w q)]
  unfold kernelRun0_B
  dsimp only
  sl_unfold_words
  rw [View.canon_unit_zero hz2]
  simp only [View.readAt_eq_ld, h4.read_unread, h6.read_unread, View.ld_unit_zero (S := S2048x1024) hz2, View.ld_unit_zero (S := S1x8x1024) hz3,
    View.ld_unit_zero (S := S1x1024x1024) hz3]

theorem scr_B (hc : ¬cond0_0 i) (x : Vec F S2048x1024 .f32) (md : Vec F S1x8x1024 .f32) (w : Vec F S1x1024x1024 .f32) (q : Vec F S2048x1024 .bf16) :
    sout0_B_0 c i a2 h2 a3 h3 a4 h4 a5 h5 a6 h6 hc x md w q = q := by
  unfold sout0_B_0
  rfl

end

/-! ## At the ideal values -/

/-- The modulated row block at an element. -/
theorem pay1_apply (md : Vec Ideal S1x8x1024 .f32) (x : Vec Ideal S2048x1024 .f32) (r : Fin 2048) (k : Fin 1024) :
    k0_pay1 md x (ix2 r k) = x (ix2 r k) * (1 + md (ix3 0 1 k)) + md (ix3 0 0 k) := by
  pointwise [k0_pay1]

/-- The product block at an element. -/
theorem pay2_apply (q : Vec Ideal S2048x1024 .bf16) (w : Vec Ideal S1x1024x1024 .f32) (r : Fin 2048) (n : Fin 1024) :
    k0_pay2 q w (ix2 r n) = ∑ k : Fin 1024, q (ix2 r k) * w (ix3 0 k n) := by
  pointwise [k0_pay2]

variable (m : (ℓ : Loc nD τ sig) → Buf (Elt Ideal) ℓ) (ρ : Dev nD → PrngReg)

/-- The index maps, decided over the grid. -/
theorem maps : ∀ t : Fin cfg0.N, win0_0.index t (0 : Fin 2) = t.val / 17 ∧ win0_0.index t (1 : Fin 2) = 0
    ∧ win0_1.index t (0 : Fin 3) = t.val / 17 ∧ win0_1.index t (1 : Fin 3) = 0 ∧ win0_1.index t (2 : Fin 3) = 0
    ∧ win0_2.index t (0 : Fin 3) = 1 ∧ win0_2.index t (1 : Fin 3) = 0 ∧ win0_2.index t (2 : Fin 3) = t.val % 17
    ∧ win0_3.index t (0 : Fin 2) = t.val / 17 ∧ win0_3.index t (1 : Fin 2) = t.val % 17 :=
  (by decide +kernel : ∀ t : Fin grid0.N, _)

theorem lt_pts (t : Fin cfg0.N) : t.val < 136 := lt_of_lt_of_eq t.isLt N_0

abbrev X (c : Dev nD) : Vec Ideal S16384x1024 .f32 := m ((c : Thread nD τ).loc main_arg0)
abbrev MD (c : Dev nD) : Vec Ideal S16x8x1024 .f32 := m ((c : Thread nD τ).loc main_arg1)
abbrev W (c : Dev nD) : Vec Ideal S2x1024x17408 .f32 := m ((c : Thread nD τ).loc main_arg2)

theorem x_apply (c : Dev nD) (t : Fin cfg0.N) (r : Fin 2048) (k : Fin 1024) :
    (iblk m c 0 t : Vec Ideal S2048x1024 .f32) (ix2 r k)
      = X m c (ix2 (⟨t.val / 17 * 2048 + r.val, by have := lt_pts t; have := r.isLt; omega⟩ : Fin 16384) k) := by
  obtain ⟨e0, e1, -⟩ := maps t
  unfold iblk
  rw [View.read_apply]
  show V m c main_arg0 _ = m (c.tc.loc main_arg0) _
  unfold V
  congr 1
  funext a
  apply Fin.ext
  match a with
  | ⟨0, _⟩ => show win0_0.index t 0 * 2048 + 1 * r.val = t.val / 17 * 2048 + r.val; rw [e0]; omega
  | ⟨1, _⟩ => show win0_0.index t 1 * 1024 + 1 * k.val = k.val; rw [e1]; omega

theorem md_apply (c : Dev nD) (t : Fin cfg0.N) (s : Fin 8) (k : Fin 1024) :
    (iblk m c 1 t : Vec Ideal S1x8x1024 .f32) (ix3 0 s k)
      = MD m c (ix3 (⟨t.val / 17, by have := lt_pts t; omega⟩ : Fin 16) s k) := by
  obtain ⟨-, -, e0, e1, e2, -⟩ := maps t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 17; rw [e0]; omega
  | ⟨1, _⟩ => show win0_1.index t 1 * 8 + 1 * s.val = s.val; rw [e1]; omega
  | ⟨2, _⟩ => show win0_1.index t 2 * 1024 + 1 * k.val = k.val; rw [e2]; omega

theorem w_apply (c : Dev nD) (t : Fin cfg0.N) (k : Fin 1024) (n : Fin 1024) :
    (iblk m c 2 t : Vec Ideal S1x1024x1024 .f32) (ix3 0 k n)
      = W m c (ix3 1 k (⟨t.val % 17 * 1024 + n.val, by have := n.isLt; omega⟩ : Fin 17408)) := by
  obtain ⟨-, -, -, -, -, e0, e1, e2, -⟩ := maps t
  unfold iblk
  rw [View.read_apply]
  show V m c main_arg2 _ = m (c.tc.loc main_arg2) _
  unfold V
  congr 1
  funext a
  apply Fin.ext
  match a with
  | ⟨0, _⟩ => show win0_2.index t 0 * 1 + 1 * 0 = 1; rw [e0]
  | ⟨1, _⟩ => show win0_2.index t 1 * 1024 + 1 * k.val = k.val; rw [e1]; omega
  | ⟨2, _⟩ => show win0_2.index t 2 * 1024 + 1 * n.val = t.val % 17 * 1024 + n.val; rw [e2]; omega

/-- The modulated rows of row block `b`. -/
abbrev hrow (c : Dev nD) (b : Fin 8) (r : Fin 2048) (k : Fin 1024) : EReal :=
  X m c (ix2 (⟨b.val * 2048 + r.val, by have := b.isLt; have := r.isLt; omega⟩ : Fin 16384) k)
    * (1 + MD m c (ix3 (⟨b.val, by have := b.isLt; omega⟩ : Fin 16) 1 k)) + MD m c (ix3 (⟨b.val, by have := b.isLt; omega⟩ : Fin 16) 0 k)

theorem first_apply (c : Dev nD) (t : Fin cfg0.N) (r : Fin 2048) (k : Fin 1024) :
    k0_pay1 (iblk m c 1 t) (iblk m c 0 t) (ix2 r k) = hrow m c ⟨t.val / 17, by have := lt_pts t; omega⟩ r k := by
  rw [pay1_apply, x_apply, md_apply, md_apply]

/-- The scratch holds the modulated rows of the point's row block after every point. -/
theorem carried (c : Dev nD) : ∀ (n : ℕ) (h : n < cfg0.N) (r : Fin 2048) (k : Fin 1024),
    (outsAt0 m c n h).2 (ix2 r k) = hrow m c ⟨n / 17, by have := lt_pts ⟨n, h⟩; dsimp only at this; omega⟩ r k := by
  intro n
  induction n with
  | zero =>
    intro h r k
    have e := outsAt0_A m c ⟨0, h⟩ rfl
    dsimp only at e
    rw [e, scr_A]
    exact first_apply m c ⟨0, h⟩ r k
  | succ n ih =>
    intro h r k
    by_cases h0 : (n + 1) % 17 = 0
    · have e := outsAt0_A m c ⟨n + 1, h⟩ h0
      dsimp only at e
      rw [e, scr_A]
      exact first_apply m c ⟨n + 1, h⟩ r k
    · have e := outsAt0_B m c ⟨n + 1, h⟩ h0
      dsimp only at e
      rw [e, scr_B]
      refine (ih (Nat.lt_of_succ_lt h) r k).trans ?_
      have hb : n / 17 = (n + 1) / 17 := by omega
      simp only [hb]

/-- What a point leaves in the result's block. -/
theorem left_apply (c : Dev nD) (t : Fin cfg0.N) (r : Fin 2048) (n : Fin 1024) :
    (outsAt0 m c t.val t.isLt).1 (ix2 r n) = ∑ k : Fin 1024, hrow m c ⟨t.val / 17, by have := lt_pts t; omega⟩ r k
      * W m c (ix3 1 k (⟨t.val % 17 * 1024 + n.val, by have := n.isLt; omega⟩ : Fin 17408)) := by
  by_cases h0 : t.val % 17 = 0
  · rw [outsAt0_A m c t h0]
    dsimp only
    rw [out_A, pay2_apply]
    exact Finset.sum_congr rfl fun k _ => by rw [first_apply, w_apply]
  · rw [outsAt0_B m c t h0]
    dsimp only
    rw [out_B, pay2_apply]
    have hp : (t.val - 1) / 17 = t.val / 17 := by omega
    refine Finset.sum_congr rfl fun k _ => ?_
    rw [carried, w_apply]
    simp only [hp]

/-- The result array as the reference's function of the arguments. -/
abbrev want (c : Dev nD) : Buf (Elt Ideal) ((c : Thread nD τ).loc main_v0) :=
  Cert.ProjReferenceIdeal.Read.val_main_v13 (F := Ideal) (X m c) (MD m c) (W m c)

theorem flushed_want (c : Dev nD) (t : Fin cfg0.N) (hf : (cfg0.win 3).flush t = true) :
    (dats m 0 c).flushed 3 t = ((cfg0.win 3).blk t).view.read (Elt Ideal) (want m c) := by
  rw [flushed3]
  obtain ⟨-, -, -, -, -, -, -, -, e0, e1⟩ := maps t
  have ht := lt_pts t
  funext y
  obtain ⟨r, n, rfl⟩ : ∃ (r : Fin 2048) (n : Fin 1024), y = ix2 r n := ⟨y 0, y 1, eq_ix2 y⟩
  rw [View.read_apply]
  have hi : ((cfg0.win 3).blk t).view.emb (ix2 r n)
      = ix2 (⟨t.val / 17 * 2048 + r.val, by have := r.isLt; omega⟩ : Fin 16384) (⟨t.val % 17 * 1024 + n.val, by have := n.isLt; omega⟩ : Fin 17408) := by
    funext a
    apply Fin.ext
    match a with
    | ⟨0, _⟩ => show win0_3.index t 0 * 2048 + 1 * r.val = t.val / 17 * 2048 + r.val; rw [e0]; omega
    | ⟨1, _⟩ => show win0_3.index t 1 * 1024 + 1 * n.val = t.val % 17 * 1024 + n.val; rw [e1]; omega
  show (outsAt0 m c t.val t.isLt).1 (ix2 r n) = want m c (((cfg0.win 3).blk t).view.emb (ix2 r n))
  rw [hi, left_apply]
  refine ((Cert.ProjReferenceIdeal.Value.ref_apply (X m c) (MD m c) (W m c) _ _).trans ?_).symm
  have hb : (t.val / 17 * 2048 + r.val) / 2048 = t.val / 17 := by have := r.isLt; omega
  simp only [hb]

theorem final_want (c : Dev nD) : (dats m 0 c).arrAt 3 cfg0.N = want m c :=
  (dats m 0 c).arrAt_eq_of_cover 3 _ (fun t hf => flushed_want m c t hf) (fun i => (covered_iff3 i).2 (by
    have h0 : (i 0).val < 16384 := (i 0).isLt; have h1 : (i 1).val < 17408 := (i 1).isLt; omega))

end Cert.ProjKernelIdeal.Value

end
-- ==== Proof.NormForm.lean ====
/-
  The row normalisation that three of the layer's kernels end with, as a function of the row: subtract the mean, multiply by
  the reciprocal root of the mean square plus a constant, scale and shift.
-/
module

public import Idealize.ShloMosaic.Lib.Pointwise

@[expose] public section

noncomputable section

namespace Cert.NormForm

open Idealize.ShloMosaic

/-- The mean of a row of 1024 elements. -/
abbrev mean (h : Fin 1024 → EReal) : EReal := Ideal.div (∑ k, h k) (Ideal.ofBits FTy.f32 0x44800000#32)

/-- The normalised row at element `n`, scaled by `g` and shifted by `b`. -/
def normed (h : Fin 1024 → EReal) (g b : EReal) (n : Fin 1024) : EReal :=
  (h n - mean h) * Ideal.rsqrt (Ideal.div (∑ k, (h k - mean h) * (h k - mean h)) (Ideal.ofBits FTy.f32 0x44800000#32) + Ideal.ofBits FTy.f32 0x3727C5AC#32)
    * g + b

/-- The residual row: the stream times its constant plus the gate times the update. -/
abbrev resid (x gate f : EReal) : EReal := Ideal.ofBits FTy.f32 0x3FB504F3#32 * x + gate * f

end Cert.NormForm

end
-- ==== Proof.FfnValue.lean ====
/-
  The values of the dense feed-forward block: row `r` of the result is the normalised row `α x[r] + gate[b] * ((silu (h W1) * (h W3)) W2)[r]`
  with `h = x[r] * (1 + scale[b]) + shift[b]` (`b = r / 2048`). The kernel sums the hidden width in two halves, carried in a scratch.
-/
module

public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.NormForm
public import Idealize.ShloMosaic.Lib.Pointwise

@[expose] public section

set_option maxRecDepth 16384

noncomputable section

namespace Cert.FfnReferenceIdeal.Value

open Cert.FfnReferenceIdeal Cert.FfnReferenceIdeal.Gen Idealize.ShloMosaic Idealize.ShloMosaic.TcCoe Idealize.SL.Sem
open Cert.FfnReferenceIdeal.Read Cert.NormForm

/-- The hidden element: one product's silu times the other product. -/
abbrev hid (h w1 w3 : Fin 1024 → EReal) : EReal := (∑ k, h k * w1 k) * Ideal.logistic (∑ k, h k * w1 k) * (∑ k, h k * w3 k)

section
variable (x0 : (⟨S16384x1024, .f32⟩ : BufTy).Contents (Elt Ideal)) (x1 : (⟨S16x8x1024, .f32⟩ : BufTy).Contents (Elt Ideal))
    (x2 x3 : (⟨S1024x2816, .bf16⟩ : BufTy).Contents (Elt Ideal)) (x4 : (⟨S2816x1024, .bf16⟩ : BufTy).Contents (Elt Ideal))
    (x5 x6 : (⟨S1024, .f32⟩ : BufTy).Contents (Elt Ideal)) (r : Fin 16384)

/-- The batch of a row. -/
abbrev bat : Fin 16 := ⟨r.val / 2048, by have := r.isLt; omega⟩

theorem mod_apply (k : Fin 1024) : val_main_v10 (F := Ideal) x0 x1 (ix2 r k) = x0 (ix2 r k) * (1 + x1 (ix3 (bat r) 4 k)) + x1 (ix3 (bat r) 3 k) := by
  pointwise [val_main_v0, val_main_v1, val_main_v2, val_main_v3, val_main_cst, val_main_v4, val_main_v5, val_main_v6, val_main_v7, val_main_v8, val_main_v9, val_main_v10]

theorem up1_apply (f : Fin 2816) : val_main_v12 (F := Ideal) x0 x1 x2 (ix2 r f) = ∑ k, val_main_v10 (F := Ideal) x0 x1 (ix2 r k) * x2 (ix2 k f) := by
  pointwise [val_main_v11, val_main_v12]

theorem up3_apply (f : Fin 2816) : val_main_v15 (F := Ideal) x0 x1 x3 (ix2 r f) = ∑ k, val_main_v10 (F := Ideal) x0 x1 (ix2 r k) * x3 (ix2 k f) := by
  pointwise [val_main_v14, val_main_v15]

theorem act_apply (f : Fin 2816) : val_main_v16 (F := Ideal) x0 x1 x2 x3 (ix2 r f)
    = val_main_v12 (F := Ideal) x0 x1 x2 (ix2 r f) * Ideal.logistic (val_main_v12 (F := Ideal) x0 x1 x2 (ix2 r f)) * val_main_v15 (F := Ideal) x0 x1 x3 (ix2 r f) := by
  pointwise [val_main_call0_v0, val_main_call0_v1, val_main_call0_cst, val_main_call0_v2, val_main_call0_v3, val_main_call0_cst_0, val_main_call0_v4,
    val_main_call0_v5, val_main_v13, val_main_v16]
  rfl

theorem down_apply (n : Fin 1024) : val_main_v18 (F := Ideal) x0 x1 x2 x3 x4 (ix2 r n) = ∑ f : Fin 2816,
    hid (fun k => x0 (ix2 r k) * (1 + x1 (ix3 (bat r) 4 k)) + x1 (ix3 (bat r) 3 k)) (fun k => x2 (ix2 k f)) (fun k => x3 (ix2 k f)) * x4 (ix2 f n) := by
  have e : val_main_v18 (F := Ideal) x0 x1 x2 x3 x4 (ix2 r n) = ∑ f : Fin 2816, val_main_v16 (F := Ideal) x0 x1 x2 x3 (ix2 r f) * x4 (ix2 f n) := by
    pointwise [val_main_v17, val_main_v18]
  rw [e]
  refine Finset.sum_congr rfl fun f _ => ?_
  rw [act_apply, up1_apply, up3_apply]
  simp only [mod_apply]

/-- The reference at row `r`, column `n`. -/
theorem ref_apply (n : Fin 1024) :
    val_main_v49 (F := Ideal) x0 x1 x2 x3 x4 x5 x6 (ix2 r n)
      = normed (fun j => resid (x0 (ix2 r j)) (x1 (ix3 (bat r) 5 j)) (∑ f : Fin 2816,
          hid (fun k => x0 (ix2 r k) * (1 + x1 (ix3 (bat r) 4 k)) + x1 (ix3 (bat r) 3 k)) (fun k => x2 (ix2 k f)) (fun k => x3 (ix2 k f)) * x4 (ix2 f j)))
          (x5 (ix1 n)) (x6 (ix1 n)) n := by
  simp only [← down_apply]
  unfold normed
  pointwise [val_main_v2, val_main_v3, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_cst_0, val_main_cst_1, val_main_cst_2, val_main_cst_3, val_main_cst_4, val_main_cst_5]

end

end Cert.FfnReferenceIdeal.Value

namespace Cert.FfnKernelIdeal.Value

open Cert.FfnKernelIdeal Cert.FfnKernelIdeal.Gen Idealize.ShloMosaic Idealize.ShloMosaic.TcCoe Idealize.SL.Sem
open Idealize.ShloMosaic.Pipeline (Dat)
open Cert.NormForm
open Cert.FfnReferenceIdeal.Value (hid)

theorem hz2 : (![0, 0] : Fin 2 → Nat) = fun _ => 0 := funext fun a => by fin_cases a <;> rfl
theorem hz3 : (![0, 0, 0] : Fin 3 → Nat) = fun _ => 0 := funext fun a => by fin_cases a <;> rfl

section
variable {F : FTy → Type} [FloatOps F]
variable (c : Dev nD) (i : grid0.Coords) (a2 : Memref sig .tc .vmem S1024x1024 .f32) (h2 : a2.IsWhole)
  (a3 : Memref sig .tc .vmem S1x8x1024 .f32) (h3 : a3.IsWhole) (a4 : Memref sig .tc .vmem S1024x1408 .bf16) (h4 : a4.IsWhole)
  (a5 : Memref sig .tc .vmem S1024x1408 .bf16) (h5 : a5.IsWhole) (a6 : Memref sig .tc .vmem S1408x1024 .bf16) (h6 : a6.IsWhole)
  (a7 : Memref sig .tc .vmem S1x1024 .f32) (h7 : a7.IsWhole) (a8 : Memref sig .tc .vmem S1x1024 .f32) (h8 : a8.IsWhole)
  (a9 : Memref sig .tc .vmem S1024x1024 .f32) (h9 : a9.IsWhole) (a10 : Memref sig .tc .vmem S1024x1024 .bf16) (h10 : a10.IsWhole)
  (a11 : Memref sig .tc .vmem S1024x1024 .f32) (h11 : a11.IsWhole)
  (x : Vec F S1024x1024 .f32) (md : Vec F S1x8x1024 .f32) (w1 w3 : Vec F S1024x1408 .bf16) (w2 : Vec F S1408x1024 .bf16) (g b : Vec F S1x1024 .f32)

/-- The first point of a row block leaves the modulated rows in the first scratch. -/
theorem scr0_A (hc : cond0_0 i) (hd : ¬cond0_1 i) :
    sout0_A_0 c i a2 h2 a3 h3 a4 h4 a5 h5 a6 h6 a7 h7 a8 h8 a9 h9 a10 h10 a11 h11 hc hd x md w1 w3 w2 g b = k0_pay2 md x := by
  unfold sout0_A_0
  rw [View.read_writes_eq_canon _ _ _ (scover0_A_0 c i a2 h2 a3 h3 a4 h4 a5 h5 a6 h6 a7 h7 a8 h8 a9 h9 a10 h10 a11 h11 hc hd x md w1 w3 w2 g b)]
  unfold kernelRun0_A
  dsimp only
  sl_unfold_words
  rw [View.canon_unit_zero hz2]
  simp only [View.readAt_eq_ld, h2.read_unread, h3.read_unread, View.ld_unit_zero (S := S1024x1024) hz2, View.ld_unit_zero (S := S1x8x1024) hz3]

/-- … and the first half of the hidden width's products in the second. -/
theorem scr1_A (hc : cond0_0 i) (hd : ¬cond0_1 i) :
    sout0_A_1 c i a2 h2 a3 h3 a4 h4 a5 h5 a6 h6 a7 h7 a8 h8 a9 h9 a10 h10 a11 h11 hc hd x md w1 w3 w2 g b = k0_pay4 (k0_pay2 md x) w1 w3 (k0_pay3 (F := F)) w2 := by
  unfold sout0_A_1
  rw [View.read_writes_eq_canon _ _ _ (scover0_A_1 c i a2 h2 a3 h3 a4 h4 a5 h5 a6 h6 a7 h7 a8 h8 a9 h9 a10 h10 a11 h11 hc hd x md w1 w3 w2 g b)]
  unfold kernelRun0_A
  dsimp only
  sl_unfold_words
  rw [View.canon_cons_unit_zero hz2, View.readCov_unit_zero (S := S1024x1024) _ hz2, View.readCov_unit_zero (S := S1024x1024) _ hz2]
  simp only [View.readAt_eq_ld, h2.read_unread, h3.read_unread, h4.read_unread, h5.read_unread, h6.read_unread, View.ld_unit_zero (S := S1024x1024) hz2,
    View.ld_unit_zero (S := S1x8x1024) hz3, View.ld_unit_zero (S := S1024x1408) hz2, View.ld_unit_zero (S := S1408x1024) hz2]

/-- The second point leaves the normalised rows of the two halves' sum. -/
theorem out_B (hc : ¬cond0_0 i) (hd : cond0_1 i) (q : Vec F S1024x1024 .bf16) (acc : Vec F S1024x1024 .f32) :
    out0_B_7 c i a2 h2 a3 h3 a4 h4 a5 h5 a6 h6 a7 h7 a8 h8 a9 h9 a10 h10 a11 h11 hc hd x md w1 w3 w2 g b q acc = k0_pay5 md x (k0_pay4 q w1 w3 acc w2) g b := by
  unfold out0_B_7
  rw [View.read_writes_eq_canon _ _ _ (cover0_B_7 c i a2 h2 a3 h3 a4 h4 a5 h5 a6 h6 a7 h7 a8 h8 a9 h9 a10 h10 a11 h11 hc hd x md w1 w3 w2 g b q acc)]
  unfold kernelRun0_B
  dsimp only
  sl_unfold_words
  rw [View.canon_unit_zero hz2, View.readCov_unit_zero (S := S1024x1024) _ hz2]
  simp only [View.readAt_eq_ld, h2.read_unread, h3.read_unread, h4.read_unread, h5.read_unread, h6.read_unread, h7.read_unread, h8.read_unread, h10.read_unread,
    h11.read_unread, View.ld_unit_zero (S := S1024x1024) hz2, View.ld_unit_zero (S := S1x1024) hz2,
    View.ld_unit_zero (S := S1x8x1024) hz3, View.ld_unit_zero (S := S1024x1408) hz2, View.ld_unit_zero (S := S1408x1024) hz2]

end

/-! ## At the ideal values -/

theorem pay2_apply (md : Vec Ideal S1x8x1024 .f32) (x : Vec Ideal S1024x1024 .f32) (r k : Fin 1024) :
    k0_pay2 md x (ix2 r k) = x (ix2 r k) * (1 + md (ix3 0 4 k)) + md (ix3 0 3 k) := by
  pointwise [k0_pay1, k0_pay2]

theorem pay3_apply (r n : Fin 1024) : k0_pay3 (F := Ideal) (ix2 r n) = 0 := by
  pointwise [k0_pay3]

theorem pay4_apply (q : Vec Ideal S1024x1024 .bf16) (w1 w3 : Vec Ideal S1024x1408 .bf16) (acc : Vec Ideal S1024x1024 .f32) (w2 : Vec Ideal S1408x1024 .bf16)
    (r n : Fin 1024) : k0_pay4 q w1 w3 acc w2 (ix2 r n)
      = acc (ix2 r n) + ∑ f : Fin 1408, hid (fun k => q (ix2 r k)) (fun k => w1 (ix2 k f)) (fun k => w3 (ix2 k f)) * w2 (ix2 f n) := by
  pointwise [k0_pay4]

theorem pay5_apply (md : Vec Ideal S1x8x1024 .f32) (x acc : Vec Ideal S1024x1024 .f32) (g b : Vec Ideal S1x1024 .f32) (r n : Fin 1024) :
    k0_pay5 md x acc g b (ix2 r n)
      = normed (fun j => resid (x (ix2 r j)) (md (ix3 0 5 j)) (acc (ix2 r j))) (g (ix2 0 n)) (b (ix2 0 n)) n := by
  unfold normed
  pointwise [k0_pay1, k0_pay5]

variable (m : (ℓ : Loc nD τ sig) → Buf (Elt Ideal) ℓ) (ρ : Dev nD → PrngReg)

theorem lt_pts (t : Fin cfg0.N) : t.val < 32 := by have h : t.val < grid0.N := t.isLt; rwa [N_0] at h

abbrev X (c : Dev nD) : Vec Ideal S16384x1024 .f32 := m ((c : Thread nD τ).loc main_arg0)
abbrev MD (c : Dev nD) : Vec Ideal S16x8x1024 .f32 := m ((c : Thread nD τ).loc main_arg1)
abbrev W1 (c : Dev nD) : Vec Ideal S1024x2816 .bf16 := m ((c : Thread nD τ).loc main_arg2)
abbrev W3 (c : Dev nD) : Vec Ideal S1024x2816 .bf16 := m ((c : Thread nD τ).loc main_arg3)
abbrev W2 (c : Dev nD) : Vec Ideal S2816x1024 .bf16 := m ((c : Thread nD τ).loc main_arg4)
abbrev G (c : Dev nD) : Vec Ideal S1024 .f32 := m ((c : Thread nD τ).loc main_arg5)
abbrev B (c : Dev nD) : Vec Ideal S1024 .f32 := m ((c : Thread nD τ).loc main_arg6)

/-! The windows' blocks as entries of the arguments, with the index maps decided over the grid. -/

theorem maps0 : ∀ t : Fin cfg0.N, win0_0.index t (0 : Fin 2) = t.val / 2 ∧ win0_0.index t (1 : Fin 2) = 0 :=
  (by decide +kernel : ∀ t : Fin grid0.N, _)
theorem x_apply (c : Dev nD) (t : Fin cfg0.N) (r : Fin 1024) (k : Fin 1024) :
    (iblk m c 0 t : Vec Ideal S1024x1024 .f32) (ix2 r k) = X m c (ix2 (⟨t.val / 2 * 1024 + r.val, by have := r.isLt; have := lt_pts t; omega⟩ : Fin 16384) k) := by
  have e := maps0 t
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * r.val = t.val / 2 * 1024 + r.val; rw [e.1]; omega
  | ⟨1, _⟩ => show win0_0.index t 1 * 1024 + 1 * k.val = k.val; rw [e.2]; omega
theorem maps1 : ∀ t : Fin cfg0.N, win0_1.index t (0 : Fin 3) = t.val / 2 / 2 ∧ win0_1.index t (1 : Fin 3) = 0 ∧ win0_1.index t (2 : Fin 3) = 0 :=
  (by decide +kernel : ∀ t : Fin grid0.N, _)
theorem md_apply (c : Dev nD) (t : Fin cfg0.N) (s : Fin 8) (k : Fin 1024) :
    (iblk m c 1 t : Vec Ideal S1x8x1024 .f32) (ix3 0 s k) = MD m c (ix3 (⟨t.val / 2 / 2, by have := lt_pts t; omega⟩ : Fin 16) s k) := by
  have e := maps1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 2 / 2; rw [e.1]; omega
  | ⟨1, _⟩ => show win0_1.index t 1 * 8 + 1 * s.val = s.val; rw [e.2.1]; omega
  | ⟨2, _⟩ => show win0_1.index t 2 * 1024 + 1 * k.val = k.val; rw [e.2.2]; omega
theorem maps2 : ∀ t : Fin cfg0.N, win0_2.index t (0 : Fin 2) = 0 ∧ win0_2.index t (1 : Fin 2) = t.val % 2 :=
  (by decide +kernel : ∀ t : Fin grid0.N, _)
theorem w1_apply (c : Dev nD) (t : Fin cfg0.N) (r : Fin 1024) (k : Fin 1408) :
    (iblk m c 2 t : Vec Ideal S1024x1408 .bf16) (ix2 r k) = W1 m c (ix2 r (⟨t.val % 2 * 1408 + k.val, by have := k.isLt; have := lt_pts t; omega⟩ : Fin 2816)) := by
  have e := maps2 t
  unfold iblk
  rw [View.read_apply]
  show V m c main_arg2 _ = m (c.tc.loc main_arg2) _
  rw [V_main_arg2]
  congr 1
  funext a
  apply Fin.ext
  match a with
  | ⟨0, _⟩ => show win0_2.index t 0 * 1024 + 1 * r.val = r.val; rw [e.1]; omega
  | ⟨1, _⟩ => show win0_2.index t 1 * 1408 + 1 * k.val = t.val % 2 * 1408 + k.val; rw [e.2]; omega
theorem maps3 : ∀ t : Fin cfg0.N, win0_3.index t (0 : Fin 2) = 0 ∧ win0_3.index t (1 : Fin 2) = t.val % 2 :=
  (by decide +kernel : ∀ t : Fin grid0.N, _)
theorem w3_apply (c : Dev nD) (t : Fin cfg0.N) (r : Fin 1024) (k : Fin 1408) :
    (iblk m c 3 t : Vec Ideal S1024x1408 .bf16) (ix2 r k) = W3 m c (ix2 r (⟨t.val % 2 * 1408 + k.val, by have := k.isLt; have := lt_pts t; omega⟩ : Fin 2816)) := by
  have e := maps3 t
  unfold iblk
  rw [View.read_apply]
  show V m c main_arg3 _ = m (c.tc.loc main_arg3) _
  rw [V_main_arg3]
  congr 1
  funext a
  apply Fin.ext
  match a with
  | ⟨0, _⟩ => show win0_3.index t 0 * 1024 + 1 * r.val = r.val; rw [e.1]; omega
  | ⟨1, _⟩ => show win0_3.index t 1 * 1408 + 1 * k.val = t.val % 2 * 1408 + k.val; rw [e.2]; omega
theorem maps4 : ∀ t : Fin cfg0.N, win0_4.index t (0 : Fin 2) = t.val % 2 ∧ win0_4.index t (1 : Fin 2) = 0 :=
  (by decide +kernel : ∀ t : Fin grid0.N, _)
theorem w2_apply (c : Dev nD) (t : Fin cfg0.N) (r : Fin 1408) (k : Fin 1024) :
    (iblk m c 4 t : Vec Ideal S1408x1024 .bf16) (ix2 r k) = W2 m c (ix2 (⟨t.val % 2 * 1408 + r.val, by have := r.isLt; have := lt_pts t; omega⟩ : Fin 2816) k) := by
  have e := maps4 t
  unfold iblk
  rw [View.read_apply]
  show V m c main_arg4 _ = m (c.tc.loc main_arg4) _
  rw [V_main_arg4]
  congr 1
  funext a
  apply Fin.ext
  match a with
  | ⟨0, _⟩ => show win0_4.index t 0 * 1408 + 1 * r.val = t.val % 2 * 1408 + r.val; rw [e.1]; omega
  | ⟨1, _⟩ => show win0_4.index t 1 * 1024 + 1 * k.val = k.val; rw [e.2]; omega
theorem maps5 : ∀ t : Fin cfg0.N, win0_5.index t (0 : Fin 2) = 0 ∧ win0_5.index t (1 : Fin 2) = 0 :=
  (by decide +kernel : ∀ t : Fin grid0.N, _)
theorem V_main_v0 (c : Dev nD) : V m c main_v0 = shapeCast S1x1024 (G m c) shapeCasts_S1024_S1x1024 := rfl
theorem g_apply (c : Dev nD) (t : Fin cfg0.N) (n : Fin 1024) :
    (iblk m c 5 t : Vec Ideal S1x1024 .f32) (ix2 0 n) = G m c (ix1 n) := by
  have e := maps5 t
  unfold iblk
  rw [View.read_apply]
  have hi : ((cfg0.win 5).blk t).view.emb (ix2 0 n) = (ix2 0 n : S1x1024.Idx) := by
    funext a
    apply Fin.ext
    match a with
    | ⟨0, _⟩ => show win0_5.index t 0 * 1 + 1 * 0 = 0; rw [e.1]
    | ⟨1, _⟩ => show win0_5.index t 1 * 1024 + 1 * n.val = n.val; rw [e.2]; omega
  show V m c main_v0 (((cfg0.win 5).blk t).view.emb (ix2 0 n)) = _
  rw [hi, V_main_v0]
  pointwise []
theorem maps6 : ∀ t : Fin cfg0.N, win0_6.index t (0 : Fin 2) = 0 ∧ win0_6.index t (1 : Fin 2) = 0 :=
  (by decide +kernel : ∀ t : Fin grid0.N, _)
theorem V_main_v1 (c : Dev nD) : V m c main_v1 = shapeCast S1x1024 (B m c) shapeCasts_S1024_S1x1024 := rfl
theorem b_apply (c : Dev nD) (t : Fin cfg0.N) (n : Fin 1024) :
    (iblk m c 6 t : Vec Ideal S1x1024 .f32) (ix2 0 n) = B m c (ix1 n) := by
  have e := maps6 t
  unfold iblk
  rw [View.read_apply]
  have hi : ((cfg0.win 6).blk t).view.emb (ix2 0 n) = (ix2 0 n : S1x1024.Idx) := by
    funext a
    apply Fin.ext
    match a with
    | ⟨0, _⟩ => show win0_6.index t 0 * 1 + 1 * 0 = 0; rw [e.1]
    | ⟨1, _⟩ => show win0_6.index t 1 * 1024 + 1 * n.val = n.val; rw [e.2]; omega
  show V m c main_v1 (((cfg0.win 6).blk t).view.emb (ix2 0 n)) = _
  rw [hi, V_main_v1]
  pointwise []
theorem maps7 : ∀ t : Fin cfg0.N, win0_7.index t (0 : Fin 2) = t.val / 2 ∧ win0_7.index t (1 : Fin 2) = 0 :=
  (by decide +kernel : ∀ t : Fin grid0.N, _)
theorem flush7 : ∀ t : Fin cfg0.N, (cfg0.win 7).flush t = true → t.val % 2 = 1 := (by decide +kernel : ∀ t : Fin grid0.N, _)

/-- The modulated row `r` of row block `q`. -/
abbrev hrow (c : Dev nD) (q : Fin 16) (r : Fin 1024) (k : Fin 1024) : EReal :=
  X m c (ix2 (⟨q.val * 1024 + r.val, by have := q.isLt; have := r.isLt; omega⟩ : Fin 16384) k)
    * (1 + MD m c (ix3 (⟨q.val / 2, by have := q.isLt; omega⟩ : Fin 16) 4 k)) + MD m c (ix3 (⟨q.val / 2, by have := q.isLt; omega⟩ : Fin 16) 3 k)

/-- The row block of a point. -/
abbrev rb (t : Fin cfg0.N) : Fin 16 := ⟨t.val / 2, by have := lt_pts t; omega⟩

/-- One hidden element of row block `q` times the way back. -/
abbrev term (c : Dev nD) (q : Fin 16) (r n : Fin 1024) (f : Fin 2816) : EReal :=
  hid (fun k => hrow m c q r k) (fun k => W1 m c (ix2 k f)) (fun k => W3 m c (ix2 k f)) * W2 m c (ix2 f n)

theorem first_apply (c : Dev nD) (t : Fin cfg0.N) (r k : Fin 1024) :
    k0_pay2 (iblk m c 1 t) (iblk m c 0 t) (ix2 r k) = hrow m c (rb t) r k := by
  rw [pay2_apply, x_apply, md_apply, md_apply]

/-- A point's half of the sum over the hidden width. -/
theorem half_apply (c : Dev nD) (t : Fin cfg0.N) (q : Vec Ideal S1024x1024 .bf16) (hq : ∀ r k, q (ix2 r k) = hrow m c (rb t) r k)
    (acc : Vec Ideal S1024x1024 .f32) (r n : Fin 1024) :
    k0_pay4 q (iblk m c 2 t) (iblk m c 3 t) acc (iblk m c 4 t) (ix2 r n)
      = acc (ix2 r n) + ∑ f : Fin 1408, term m c (rb t) r n (⟨t.val % 2 * 1408 + f.val, by have := f.isLt; omega⟩ : Fin 2816) := by
  rw [pay4_apply]
  refine congrArg (fun z => acc (ix2 r n) + z) (Finset.sum_congr rfl fun f _ => ?_)
  simp only [hq, w1_apply, w3_apply, w2_apply]

/-- What the second point of a row block leaves. -/
theorem left_apply (c : Dev nD) (t : Fin cfg0.N) (h1 : t.val % 2 = 1) (r n : Fin 1024) :
    (outsAt0 m c t.val t.isLt).1 (ix2 r n)
      = normed (fun j => resid (X m c (ix2 (⟨t.val / 2 * 1024 + r.val, by have := lt_pts t; have := r.isLt; omega⟩ : Fin 16384) j))
          (MD m c (ix3 (⟨t.val / 2 / 2, by have := lt_pts t; omega⟩ : Fin 16) 5 j)) (∑ f : Fin 2816, term m c (rb t) r j f))
          (G m c (ix1 n)) (B m c (ix1 n)) n := by
  have hlt : t.val - 1 < cfg0.N := Nat.lt_of_le_of_lt (Nat.sub_le _ _) t.isLt
  have e0 : (⟨t.val - 1, hlt⟩ : Fin cfg0.N).val % 2 = 0 := by dsimp only; omega
  have eA := outsAt0_A m c ⟨t.val - 1, hlt⟩ e0 (by omega)
  dsimp only at eA
  have hrb : rb ⟨t.val - 1, hlt⟩ = rb t := Fin.ext (by show (t.val - 1) / 2 = t.val / 2; omega)
  rw [outsAt0_B m c t (by omega) h1]
  dsimp only
  rw [out_B, pay5_apply, g_apply, b_apply]
  refine congrArg (fun h => normed h (G m c (ix1 n)) (B m c (ix1 n)) n) (funext fun j => ?_)
  rw [x_apply, md_apply]
  refine congrArg (fun z => resid _ _ z) ?_
  have hq : ∀ r k, (outsAt0 m c (t.val - 1) hlt).2.1 (ix2 r k) = hrow m c (rb t) r k := fun r k => by
    rw [eA, ← hrb]
    dsimp only
    rw [scr0_A]
    exact first_apply m c ⟨t.val - 1, hlt⟩ r k
  have ha : (outsAt0 m c (t.val - 1) hlt).2.2 (ix2 r j)
      = ∑ f : Fin 1408, term m c (rb t) r j (⟨f.val, by have := f.isLt; omega⟩ : Fin 2816) := by
    rw [eA]
    dsimp only
    rw [scr1_A, half_apply m c ⟨t.val - 1, hlt⟩ _ (first_apply m c ⟨t.val - 1, hlt⟩), pay3_apply, zero_add, hrb]
    refine Finset.sum_congr rfl fun f _ => congrArg (term m c (rb t) r j) (Fin.ext ?_)
    show (t.val - 1) % 2 * 1408 + f.val = f.val
    omega
  rw [half_apply m c t _ hq, ha, Fin.sum_univ_two_halves 1408 1408 rfl]
  refine congrArg₂ (fun a b : EReal => a + b) (Finset.sum_congr rfl fun f _ => congrArg (term m c (rb t) r j) (Fin.ext ?_))
    (Finset.sum_congr rfl fun f _ => congrArg (term m c (rb t) r j) (Fin.ext ?_))
  · rfl
  · show t.val % 2 * 1408 + f.val = 1408 + f.val
    omega

/-- The result array as the reference's function of the arguments. -/
abbrev want (c : Dev nD) : Buf (Elt Ideal) ((c : Thread nD τ).loc main_v2) :=
  Cert.FfnReferenceIdeal.Read.val_main_v49 (F := Ideal) (X m c) (MD m c) (W1 m c) (W3 m c) (W2 m c) (G m c) (B m c)

theorem flushed_want (c : Dev nD) (t : Fin cfg0.N) (hf : (cfg0.win 7).flush t = true) :
    (dats m 0 c).flushed 7 t = ((cfg0.win 7).blk t).view.read (Elt Ideal) (want m c) := by
  rw [flushed7]
  have e := maps7 t
  have ht := lt_pts t
  funext y
  obtain ⟨r, n, rfl⟩ : ∃ (r n : Fin 1024), y = ix2 r n := ⟨y 0, y 1, eq_ix2 y⟩
  rw [View.read_apply]
  have hi : ((cfg0.win 7).blk t).view.emb (ix2 r n) = ix2 (⟨t.val / 2 * 1024 + r.val, by have := r.isLt; omega⟩ : Fin 16384) n := by
    funext a
    apply Fin.ext
    match a with
    | ⟨0, _⟩ => show win0_7.index t 0 * 1024 + 1 * r.val = t.val / 2 * 1024 + r.val; rw [e.1]; omega
    | ⟨1, _⟩ => show win0_7.index t 1 * 1024 + 1 * n.val = n.val; rw [e.2]; omega
  show (outsAt0 m c t.val t.isLt).1 (ix2 r n) = want m c (((cfg0.win 7).blk t).view.emb (ix2 r n))
  rw [hi, left_apply m c t (flush7 t hf)]
  refine ((Cert.FfnReferenceIdeal.Value.ref_apply (X m c) (MD m c) (W1 m c) (W3 m c) (W2 m c) (G m c) (B m c) _ _).trans ?_).symm
  have hb : (t.val / 2 * 1024 + r.val) / 2048 = t.val / 2 / 2 := by have := r.isLt; omega
  simp only [Cert.FfnReferenceIdeal.Value.bat, hb]

theorem final_want (c : Dev nD) : (dats m 0 c).arrAt 7 cfg0.N = want m c :=
  (dats m 0 c).arrAt_eq_of_cover 7 _ (fun t hf => flushed_want m c t hf) (fun i => (covered_iff7 i).2 (by
    have h0 : (i 0).val < 16384 := (i 0).isLt; have h1 : (i 1).val < 1024 := (i 1).isLt; omega))

end Cert.FfnKernelIdeal.Value

end
-- ==== Proof.MergeValue.lean ====
/-
  The values of the merge: row `r` of the result is the normalised row `α x[r] + gate[b] * (mixed[r] W_o)` (`b = r / 2048`), where `mixed`
  is the sum of the three mixers' products, each times the logistic of its own gate columns of the projection; the second mixer's rows
  are first divided by the root of their mean square and multiplied by the silu of the output gate columns.
-/
module

public import proofs.«01_k».proof.Proof.Gen.MergeKernelIdeal.Value
public import proofs.«01_k».proof.Proof.Gen.MergeReferenceIdeal.Run
public import proofs.«01_k».proof.Proof.Gen.MergeReferenceIdeal.Read
public import proofs.«01_k».proof.Proof.NormForm
public import Idealize.ShloMosaic.Lib.Pointwise

@[expose] public section

set_option maxRecDepth 16384

noncomputable section

namespace Cert.MergeReferenceIdeal.Value

open Cert.MergeReferenceIdeal Cert.MergeReferenceIdeal.Gen Idealize.ShloMosaic Idealize.ShloMosaic.TcCoe Idealize.SL.Sem
open Cert.MergeReferenceIdeal.Read Cert.NormForm

/-- The second mixer's row: divided by the root of its mean square, scaled, times the silu of the output gate. -/
def rowHg (y og nw : Fin 1024 → EReal) (k : Fin 1024) : EReal :=
  y k * Ideal.rsqrt (Ideal.div (∑ j, y j * y j) (Ideal.ofBits FTy.f32 0x44800000#32) + Ideal.ofBits FTy.f32 0x3727C5AC#32) * nw k
    * (og k * Ideal.logistic (og k))

/-- One mixed element: the three products under their gates. -/
def mixed (ga gb gc : EReal) (a wa : Fin 1024 → EReal) (h wb : Fin 1024 → EReal) (y wc : Fin 2048 → EReal) : EReal :=
  Ideal.logistic ga * (∑ k, a k * wa k) + Ideal.logistic gb * (∑ k, h k * wb k) + Ideal.logistic gc * (∑ k, y k * wc k)

section
variable (x0 : (⟨S16384x1024, .bf16⟩ : BufTy).Contents (Elt Ideal)) (x1 : (⟨S16384x1024, .f32⟩ : BufTy).Contents (Elt Ideal))
    (x2 : (⟨S16384x2048, .bf16⟩ : BufTy).Contents (Elt Ideal)) (x3 : (⟨S16384x17408, .bf16⟩ : BufTy).Contents (Elt Ideal))
    (x4 : (⟨S16384x1024, .f32⟩ : BufTy).Contents (Elt Ideal)) (x5 : (⟨S16x8x1024, .f32⟩ : BufTy).Contents (Elt Ideal))
    (x6 : (⟨S1024, .f32⟩ : BufTy).Contents (Elt Ideal)) (x7 x8 : (⟨S1024x1024, .bf16⟩ : BufTy).Contents (Elt Ideal))
    (x9 : (⟨S2048x1024, .bf16⟩ : BufTy).Contents (Elt Ideal)) (x10 : (⟨S1024x1024, .bf16⟩ : BufTy).Contents (Elt Ideal))
    (x11 x12 : (⟨S1024, .f32⟩ : BufTy).Contents (Elt Ideal)) (r : Fin 16384)

/-- The batch of a row. -/
abbrev bat : Fin 16 := ⟨r.val / 2048, by have := r.isLt; omega⟩

/-- Column `k` of the projection's column block `q`. -/
abbrev colB (q : Fin 17) (k : Fin 1024) : Fin 17408 := ⟨q.val * 1024 + k.val, by have := q.isLt; have := k.isLt; omega⟩

theorem hg_apply (k : Fin 1024) : val_main_v37 (F := Ideal) x1 x3 x6 (ix2 r k)
    = rowHg (fun j => x1 (ix2 r j)) (fun j => x3 (ix2 r (colB 7 j))) (fun j => x6 (ix1 j)) k := by
  unfold rowHg
  pointwise [val_main_v0, val_main_v1, val_main_v23, val_main_cst_5, val_main_v24, val_main_v25, val_main_cst_6, val_main_v26, val_main_v27, val_main_cst_7,
    val_main_v28, val_main_v29, val_main_v30, val_main_v31, val_main_v32, val_main_v33, val_main_v34, val_main_v35, val_main_call0_v0, val_main_call0_v1,
    val_main_call0_cst, val_main_call0_v2, val_main_call0_v3, val_main_call0_cst_0, val_main_call0_v4, val_main_call0_v5, val_main_v36, val_main_v37]
  rfl

theorem gateA_apply (n : Fin 1024) : val_main_v8 (F := Ideal) x3 (ix2 r n) = Ideal.logistic (x3 (ix2 r (colB 14 n))) := by
  pointwise [val_main_v0, val_main_v2, val_main_v3, val_main_v4, val_main_cst, val_main_v5, val_main_v6, val_main_cst_0, val_main_v7, val_main_v8]
  rfl

theorem gateB_apply (n : Fin 1024) : val_main_v15 (F := Ideal) x3 (ix2 r n) = Ideal.logistic (x3 (ix2 r (colB 15 n))) := by
  pointwise [val_main_v0, val_main_v9, val_main_v10, val_main_v11, val_main_cst_1, val_main_v12, val_main_v13, val_main_cst_2, val_main_v14, val_main_v15]
  rfl

theorem gateC_apply (n : Fin 1024) : val_main_v22 (F := Ideal) x3 (ix2 r n) = Ideal.logistic (x3 (ix2 r (colB 16 n))) := by
  pointwise [val_main_v0, val_main_v16, val_main_v17, val_main_v18, val_main_cst_3, val_main_v19, val_main_v20, val_main_cst_4, val_main_v21, val_main_v22]
  rfl

theorem prodA_apply (n : Fin 1024) : val_main_v40 (F := Ideal) x0 x7 (ix2 r n) = ∑ k, x0 (ix2 r k) * x7 (ix2 k n) := by
  pointwise [val_main_v38, val_main_v39, val_main_v40]

theorem prodB_apply (n : Fin 1024) : val_main_v43 (F := Ideal) x1 x3 x6 x8 (ix2 r n) = ∑ k, val_main_v37 (F := Ideal) x1 x3 x6 (ix2 r k) * x8 (ix2 k n) := by
  pointwise [val_main_v42, val_main_v43]

theorem prodC_apply (n : Fin 1024) : val_main_v48 (F := Ideal) x2 x9 (ix2 r n) = ∑ k, x2 (ix2 r k) * x9 (ix2 k n) := by
  pointwise [val_main_v46, val_main_v47, val_main_v48]

theorem mixed_apply (n : Fin 1024) : val_main_v50 (F := Ideal) x0 x1 x2 x3 x6 x7 x8 x9 (ix2 r n)
    = mixed (x3 (ix2 r (colB 14 n))) (x3 (ix2 r (colB 15 n))) (x3 (ix2 r (colB 16 n)))
        (fun k => x0 (ix2 r k)) (fun k => x7 (ix2 k n))
        (rowHg (fun j => x1 (ix2 r j)) (fun j => x3 (ix2 r (colB 7 j))) (fun j => x6 (ix1 j))) (fun k => x8 (ix2 k n))
        (fun k => x2 (ix2 r k)) (fun k => x9 (ix2 k n)) := by
  have e : val_main_v50 (F := Ideal) x0 x1 x2 x3 x6 x7 x8 x9 (ix2 r n)
      = val_main_v8 (F := Ideal) x3 (ix2 r n) * val_main_v40 (F := Ideal) x0 x7 (ix2 r n)
        + val_main_v15 (F := Ideal) x3 (ix2 r n) * val_main_v43 (F := Ideal) x1 x3 x6 x8 (ix2 r n)
        + val_main_v22 (F := Ideal) x3 (ix2 r n) * val_main_v48 (F := Ideal) x2 x9 (ix2 r n) := by
    pointwise [val_main_v41, val_main_v44, val_main_v45, val_main_v49, val_main_v50]
  rw [e, gateA_apply, gateB_apply, gateC_apply, prodA_apply, prodB_apply, prodC_apply]
  simp only [hg_apply]
  rfl

/-- The mixed row times the output weights. -/
theorem out_apply (n : Fin 1024) : val_main_v52 (F := Ideal) x0 x1 x2 x3 x6 x7 x8 x9 x10 (ix2 r n) = ∑ f : Fin 1024,
    mixed (x3 (ix2 r (colB 14 f))) (x3 (ix2 r (colB 15 f))) (x3 (ix2 r (colB 16 f)))
        (fun k => x0 (ix2 r k)) (fun k => x7 (ix2 k f))
        (rowHg (fun j => x1 (ix2 r j)) (fun j => x3 (ix2 r (colB 7 j))) (fun j => x6 (ix1 j))) (fun k => x8 (ix2 k f))
        (fun k => x2 (ix2 r k)) (fun k => x9 (ix2 k f)) * x10 (ix2 f n) := by
  have e : val_main_v52 (F := Ideal) x0 x1 x2 x3 x6 x7 x8 x9 x10 (ix2 r n)
      = ∑ f : Fin 1024, val_main_v50 (F := Ideal) x0 x1 x2 x3 x6 x7 x8 x9 (ix2 r f) * x10 (ix2 f n) := by
    pointwise [val_main_v51, val_main_v52]
  rw [e]
  exact Finset.sum_congr rfl fun f _ => by rw [mixed_apply]

/-- The reference at row `r`, column `n`. -/
theorem ref_apply (n : Fin 1024) :
    val_main_v85 (F := Ideal) x0 x1 x2 x3 x4 x5 x6 x7 x8 x9 x10 x11 x12 (ix2 r n)
      = normed (fun j => resid (x4 (ix2 r j)) (x5 (ix3 (bat r) 2 j)) (∑ f : Fin 1024,
          mixed (x3 (ix2 r (colB 14 f))) (x3 (ix2 r (colB 15 f))) (x3 (ix2 r (colB 16 f)))
            (fun k => x0 (ix2 r k)) (fun k => x7 (ix2 k f))
            (rowHg (fun j => x1 (ix2 r j)) (fun j => x3 (ix2 r (colB 7 j))) (fun j => x6 (ix1 j))) (fun k => x8 (ix2 k f))
            (fun k => x2 (ix2 r k)) (fun k => x9 (ix2 k f)) * x10 (ix2 f j)))
          (x11 (ix1 n)) (x12 (ix1 n)) n := by
  simp only [← out_apply]
  unfold normed
  pointwise [val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_cst_8, val_main_cst_9, val_main_cst_10, val_main_cst_11, val_main_cst_12, val_main_cst_13]

end

end Cert.MergeReferenceIdeal.Value

namespace Cert.MergeKernelIdeal.Value

open Cert.MergeKernelIdeal Cert.MergeKernelIdeal.Gen Idealize.ShloMosaic Idealize.ShloMosaic.TcCoe Idealize.SL.Sem
open Idealize.ShloMosaic.Pipeline (Dat)
open Cert.NormForm
open Cert.MergeReferenceIdeal.Value (rowHg mixed colB)

theorem hz2 : (![0, 0] : Fin 2 → Nat) = fun _ => 0 := funext fun a => by fin_cases a <;> rfl
theorem hz3 : (![0, 0, 0] : Fin 3 → Nat) = fun _ => 0 := funext fun a => by fin_cases a <;> rfl

/-- The first two products under their gates. -/
theorem pay2_apply (v0 : Vec Ideal S512x1024 .f32) (v11 : Vec Ideal S1x1024 .f32) (v15 v20 v23 : Vec Ideal S512x1024 .bf16) (v24 : Vec Ideal S1024x1024 .bf16)
    (v27 : Vec Ideal S512x1024 .bf16) (v31 : Vec Ideal S1024x1024 .bf16) (r : Fin 512) (n : Fin 1024) :
    k0_pay2 v0 v11 v15 v20 v23 v24 v27 v31 (ix2 r n)
      = Ideal.logistic (v20 (ix2 r n)) * (∑ k, v23 (ix2 r k) * v24 (ix2 k n))
        + Ideal.logistic (v27 (ix2 r n)) * (∑ k, rowHg (fun j => v0 (ix2 r j)) (fun j => v15 (ix2 r j)) (fun j => v11 (ix2 0 j)) k * v31 (ix2 k n)) := by
  unfold rowHg
  pointwise [k0_pay2]

/-- The residual row less its mean. -/
theorem pay5_apply (v34 : FVec Ideal S512x1024 .f32) (v35 : Vec Ideal S512x1024 .bf16) (v38 : Vec Ideal S512x2048 .bf16) (v39 : Vec Ideal S2048x1024 .bf16)
    (v44 : Vec Ideal S1024x1024 .bf16) (v46 : Vec Ideal S1x8x1024 .f32) (v49 : Vec Ideal S512x1024 .f32) (r : Fin 512) (n : Fin 1024) :
    k0_pay5 v34 v35 v38 v39 v44 v46 v49 (ix2 r n)
      = (fun h : Fin 1024 → EReal => h n - mean h) (fun j => resid (v49 (ix2 r j)) (v46 (ix3 0 2 j))
          (∑ f : Fin 1024, (v34 (ix2 r f) + Ideal.logistic (v35 (ix2 r f)) * (∑ k : Fin 2048, v38 (ix2 r k) * v39 (ix2 k f))) * v44 (ix2 f j))) := by
  pointwise [k0_pay5]

/-- What a point leaves, at an element of its block, from the pieces before the last store. -/
theorem last_apply (v34 : FVec Ideal S512x1024 .f32) (v35 : Vec Ideal S512x1024 .bf16) (v38 : Vec Ideal S512x2048 .bf16) (v39 : Vec Ideal S2048x1024 .bf16)
    (v44 : Vec Ideal S1024x1024 .bf16) (v46 : Vec Ideal S1x8x1024 .f32) (v49 : Vec Ideal S512x1024 .f32) (g b : Vec Ideal S1x1024 .f32) (r : Fin 512) (n : Fin 1024) :
    k0_pay1 (k0_pay3 g) (k0_pay4 b) (k0_pay5 v34 v35 v38 v39 v44 v46 v49) (k0_pay6 v34 v35 v38 v39 v44 v46 v49) (ix2 r n)
      = normed (fun j => resid (v49 (ix2 r j)) (v46 (ix3 0 2 j))
          (∑ f : Fin 1024, (v34 (ix2 r f) + Ideal.logistic (v35 (ix2 r f)) * (∑ k : Fin 2048, v38 (ix2 r k) * v39 (ix2 k f))) * v44 (ix2 f j)))
          (g (ix2 0 n)) (b (ix2 0 n)) n := by
  have e : k0_pay1 (k0_pay3 g) (k0_pay4 b) (k0_pay5 v34 v35 v38 v39 v44 v46 v49) (k0_pay6 v34 v35 v38 v39 v44 v46 v49) (ix2 r n)
      = k0_pay5 v34 v35 v38 v39 v44 v46 v49 (ix2 r n)
        * Ideal.rsqrt (Ideal.div (∑ k, k0_pay5 v34 v35 v38 v39 v44 v46 v49 (ix2 r k) * k0_pay5 v34 v35 v38 v39 v44 v46 v49 (ix2 r k)) (Ideal.ofBits FTy.f32 0x44800000#32)
            + Ideal.ofBits FTy.f32 0x3727C5AC#32) * g (ix2 0 n) + b (ix2 0 n) := by
    pointwise [k0_pay1, k0_pay3, k0_pay4, k0_pay6]
  rw [e]
  simp only [pay5_apply]
  rfl

/-- What a point leaves, at an element of its block. -/
theorem out_apply (x0 : Vec Ideal S512x1024 .bf16) (x1 : Vec Ideal S512x1024 .f32) (x2 : Vec Ideal S512x1024 .bf16) (x3 : Vec Ideal S512x2048 .bf16)
    (x4 x5 x6 : Vec Ideal S512x1024 .bf16) (x7 : Vec Ideal S512x1024 .f32) (x8 : Vec Ideal S1x8x1024 .f32) (x9 : Vec Ideal S1x1024 .f32)
    (x10 x11 : Vec Ideal S1024x1024 .bf16) (x12 : Vec Ideal S2048x1024 .bf16) (x13 : Vec Ideal S1024x1024 .bf16) (x14 x15 : Vec Ideal S1x1024 .f32)
    (r : Fin 512) (n : Fin 1024) :
    out0_16 x0 x1 x2 x3 x4 x5 x6 x7 x8 x9 x10 x11 x12 x13 x14 x15 (ix2 r n)
      = normed (fun j => resid (x7 (ix2 r j)) (x8 (ix3 0 2 j)) (∑ f : Fin 1024,
          mixed (x4 (ix2 r f)) (x5 (ix2 r f)) (x6 (ix2 r f)) (fun k => x0 (ix2 r k)) (fun k => x10 (ix2 k f))
            (rowHg (fun j => x1 (ix2 r j)) (fun j => x2 (ix2 r j)) (fun j => x9 (ix2 0 j))) (fun k => x11 (ix2 k f))
            (fun k => x3 (ix2 r k)) (fun k => x12 (ix2 k f)) * x13 (ix2 f j)))
          (x14 (ix2 0 n)) (x15 (ix2 0 n)) n := by
  unfold out0_16 k0_pay7
  rw [View.canon_unit_zero hz2]
  simp only [View.ld_unit_zero (S := S512x1024) hz2, View.ld_unit_zero (S := S512x2048) hz2, View.ld_unit_zero (S := S1x1024) hz2,
    View.ld_unit_zero (S := S1024x1024) hz2, View.ld_unit_zero (S := S2048x1024) hz2, View.ld_unit_zero (S := S1x8x1024) hz3]
  rw [last_apply]
  simp only [pay2_apply]
  rfl

variable (m : (ℓ : Loc nD τ sig) → Buf (Elt Ideal) ℓ) (ρ : Dev nD → PrngReg)

theorem lt_pts (t : Fin cfg0.N) : t.val < 32 := by have h : t.val < grid0.N := t.isLt; rwa [N_0] at h

abbrev Yhy (c : Dev nD) : Vec Ideal S16384x1024 .bf16 := m ((c : Thread nD τ).loc main_arg0)
abbrev Ohg (c : Dev nD) : Vec Ideal S16384x1024 .f32 := m ((c : Thread nD τ).loc main_arg1)
abbrev Yrt (c : Dev nD) : Vec Ideal S16384x2048 .bf16 := m ((c : Thread nD τ).loc main_arg2)
abbrev P (c : Dev nD) : Vec Ideal S16384x17408 .bf16 := m ((c : Thread nD τ).loc main_arg3)
abbrev X (c : Dev nD) : Vec Ideal S16384x1024 .f32 := m ((c : Thread nD τ).loc main_arg4)
abbrev MD (c : Dev nD) : Vec Ideal S16x8x1024 .f32 := m ((c : Thread nD τ).loc main_arg5)
abbrev NW (c : Dev nD) : Vec Ideal S1024 .f32 := m ((c : Thread nD τ).loc main_arg6)
abbrev Phy (c : Dev nD) : Vec Ideal S1024x1024 .bf16 := m ((c : Thread nD τ).loc main_arg7)
abbrev Phg (c : Dev nD) : Vec Ideal S1024x1024 .bf16 := m ((c : Thread nD τ).loc main_arg8)
abbrev Prt (c : Dev nD) : Vec Ideal S2048x1024 .bf16 := m ((c : Thread nD τ).loc main_arg9)
abbrev WO (c : Dev nD) : Vec Ideal S1024x1024 .bf16 := m ((c : Thread nD τ).loc main_arg10)
abbrev G (c : Dev nD) : Vec Ideal S1024 .f32 := m ((c : Thread nD τ).loc main_arg11)
abbrev B (c : Dev nD) : Vec Ideal S1024 .f32 := m ((c : Thread nD τ).loc main_arg12)

/-! The windows' blocks as entries of the arguments, with the index maps decided over the grid. -/

theorem maps0 : ∀ t : Fin cfg0.N, win0_0.index t (0 : Fin 2) = t.val ∧ win0_0.index t (1 : Fin 2) = 0 :=
  (by decide +kernel : ∀ t : Fin grid0.N, _)
theorem yhy_apply (c : Dev nD) (t : Fin cfg0.N) (r : Fin 512) (k : Fin 1024) :
    (iblk m c 0 t : Vec Ideal S512x1024 .bf16) (ix2 r k) = Yhy m c (ix2 (⟨t.val * 512 + r.val, by have := r.isLt; have := lt_pts t; omega⟩ : Fin 16384) k) := by
  have e := maps0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega
theorem maps1 : ∀ t : Fin cfg0.N, win0_1.index t (0 : Fin 2) = t.val ∧ win0_1.index t (1 : Fin 2) = 0 :=
  (by decide +kernel : ∀ t : Fin grid0.N, _)
theorem ohg_apply (c : Dev nD) (t : Fin cfg0.N) (r : Fin 512) (k : Fin 1024) :
    (iblk m c 1 t : Vec Ideal S512x1024 .f32) (ix2 r k) = Ohg m c (ix2 (⟨t.val * 512 + r.val, by have := r.isLt; have := lt_pts t; omega⟩ : Fin 16384) k) := by
  have e := maps1 t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = t.val * 512 + r.val; rw [e.1]; omega
  | ⟨1, _⟩ => show win0_1.index t 1 * 1024 + 1 * k.val = k.val; rw [e.2]; omega
theorem maps3 : ∀ t : Fin cfg0.N, win0_3.index t (0 : Fin 2) = t.val ∧ win0_3.index t (1 : Fin 2) = 0 :=
  (by decide +kernel : ∀ t : Fin grid0.N, _)
theorem yrt_apply (c : Dev nD) (t : Fin cfg0.N) (r : Fin 512) (k : Fin 2048) :
    (iblk m c 3 t : Vec Ideal S512x2048 .bf16) (ix2 r k) = Yrt m c (ix2 (⟨t.val * 512 + r.val, by have := r.isLt; have := lt_pts t; omega⟩ : Fin 16384) k) := by
  have e := maps3 t
  unfold iblk
  rw [View.read_apply]
  show V m c main_arg2 _ = m (c.tc.loc main_arg2) _
  rw [V_main_arg2]
  congr 1
  funext a
  apply Fin.ext
  match a with
  | ⟨0, _⟩ => show win0_3.index t 0 * 512 + 1 * r.val = t.val * 512 + r.val; rw [e.1]; omega
  | ⟨1, _⟩ => show win0_3.index t 1 * 2048 + 1 * k.val = k.val; rw [e.2]; omega
theorem maps2 : ∀ t : Fin cfg0.N, win0_2.index t (0 : Fin 2) = t.val ∧ win0_2.index t (1 : Fin 2) = 7 :=
  (by decide +kernel : ∀ t : Fin grid0.N, _)
theorem og_apply (c : Dev nD) (t : Fin cfg0.N) (r : Fin 512) (k : Fin 1024) :
    (iblk m c 2 t : Vec Ideal S512x1024 .bf16) (ix2 r k) = P m c (ix2 (⟨t.val * 512 + r.val, by have := r.isLt; have := lt_pts t; omega⟩ : Fin 16384) (⟨7 * 1024 + k.val, by have := k.isLt; have := lt_pts t; omega⟩ : Fin 17408)) := by
  have e := maps2 t
  unfold iblk
  rw [View.read_apply]
  show V m c main_arg3 _ = m (c.tc.loc main_arg3) _
  rw [V_main_arg3]
  congr 1
  funext a
  apply Fin.ext
  match a with
  | ⟨0, _⟩ => show win0_2.index t 0 * 512 + 1 * r.val = t.val * 512 + r.val; rw [e.1]; omega
  | ⟨1, _⟩ => show win0_2.index t 1 * 1024 + 1 * k.val = 7 * 1024 + k.val; rw [e.2]; omega
theorem maps4 : ∀ t : Fin cfg0.N, win0_4.index t (0 : Fin 2) = t.val ∧ win0_4.index t (1 : Fin 2) = 14 :=
  (by decide +kernel : ∀ t : Fin grid0.N, _)
theorem ga_apply (c : Dev nD) (t : Fin cfg0.N) (r : Fin 512) (k : Fin 1024) :
    (iblk m c 4 t : Vec Ideal S512x1024 .bf16) (ix2 r k) = P m c (ix2 (⟨t.val * 512 + r.val, by have := r.isLt; have := lt_pts t; omega⟩ : Fin 16384) (⟨14 * 1024 + k.val, by have := k.isLt; have := lt_pts t; omega⟩ : Fin 17408)) := by
  have e := maps4 t
  unfold iblk
  rw [View.read_apply]
  show V m c main_arg3 _ = m (c.tc.loc main_arg3) _
  rw [V_main_arg3]
  congr 1
  funext a
  apply Fin.ext
  match a with
  | ⟨0, _⟩ => show win0_4.index t 0 * 512 + 1 * r.val = t.val * 512 + r.val; rw [e.1]; omega
  | ⟨1, _⟩ => show win0_4.index t 1 * 1024 + 1 * k.val = 14 * 1024 + k.val; rw [e.2]; omega
theorem maps5 : ∀ t : Fin cfg0.N, win0_5.index t (0 : Fin 2) = t.val ∧ win0_5.index t (1 : Fin 2) = 15 :=
  (by decide +kernel : ∀ t : Fin grid0.N, _)
theorem gb_apply (c : Dev nD) (t : Fin cfg0.N) (r : Fin 512) (k : Fin 1024) :
    (iblk m c 5 t : Vec Ideal S512x1024 .bf16) (ix2 r k) = P m c (ix2 (⟨t.val * 512 + r.val, by have := r.isLt; have := lt_pts t; omega⟩ : Fin 16384) (⟨15 * 1024 + k.val, by have := k.isLt; have := lt_pts t; omega⟩ : Fin 17408)) := by
  have e := maps5 t
  unfold iblk
  rw [View.read_apply]
  show V m c main_arg3 _ = m (c.tc.loc main_arg3) _
  rw [V_main_arg3]
  congr 1
  funext a
  apply Fin.ext
  match a with
  | ⟨0, _⟩ => show win0_5.index t 0 * 512 + 1 * r.val = t.val * 512 + r.val; rw [e.1]; omega
  | ⟨1, _⟩ => show win0_5.index t 1 * 1024 + 1 * k.val = 15 * 1024 + k.val; rw [e.2]; omega
theorem maps6 : ∀ t : Fin cfg0.N, win0_6.index t (0 : Fin 2) = t.val ∧ win0_6.index t (1 : Fin 2) = 16 :=
  (by decide +kernel : ∀ t : Fin grid0.N, _)
theorem gc_apply (c : Dev nD) (t : Fin cfg0.N) (r : Fin 512) (k : Fin 1024) :
    (iblk m c 6 t : Vec Ideal S512x1024 .bf16) (ix2 r k) = P m c (ix2 (⟨t.val * 512 + r.val, by have := r.isLt; have := lt_pts t; omega⟩ : Fin 16384) (⟨16 * 1024 + k.val, by have := k.isLt; have := lt_pts t; omega⟩ : Fin 17408)) := by
  have e := maps6 t
  unfold iblk
  rw [View.read_apply]
  show V m c main_arg3 _ = m (c.tc.loc main_arg3) _
  rw [V_main_arg3]
  congr 1
  funext a
  apply Fin.ext
  match a with
  | ⟨0, _⟩ => show win0_6.index t 0 * 512 + 1 * r.val = t.val * 512 + r.val; rw [e.1]; omega
  | ⟨1, _⟩ => show win0_6.index t 1 * 1024 + 1 * k.val = 16 * 1024 + k.val; rw [e.2]; omega
theorem maps7 : ∀ t : Fin cfg0.N, win0_7.index t (0 : Fin 2) = t.val ∧ win0_7.index t (1 : Fin 2) = 0 :=
  (by decide +kernel : ∀ t : Fin grid0.N, _)
theorem x_apply (c : Dev nD) (t : Fin cfg0.N) (r : Fin 512) (k : Fin 1024) :
    (iblk m c 7 t : Vec Ideal S512x1024 .f32) (ix2 r k) = X m c (ix2 (⟨t.val * 512 + r.val, by have := r.isLt; have := lt_pts t; omega⟩ : Fin 16384) k) := by
  have e := maps7 t
  unfold iblk
  rw [View.read_apply]
  show V m c main_arg4 _ = m (c.tc.loc main_arg4) _
  rw [V_main_arg4]
  congr 1
  funext a
  apply Fin.ext
  match a with
  | ⟨0, _⟩ => show win0_7.index t 0 * 512 + 1 * r.val = t.val * 512 + r.val; rw [e.1]; omega
  | ⟨1, _⟩ => show win0_7.index t 1 * 1024 + 1 * k.val = k.val; rw [e.2]; omega
theorem maps8 : ∀ t : Fin cfg0.N, win0_8.index t (0 : Fin 3) = t.val / 4 ∧ win0_8.index t (1 : Fin 3) = 0 ∧ win0_8.index t (2 : Fin 3) = 0 :=
  (by decide +kernel : ∀ t : Fin grid0.N, _)
theorem md_apply (c : Dev nD) (t : Fin cfg0.N) (s : Fin 8) (k : Fin 1024) :
    (iblk m c 8 t : Vec Ideal S1x8x1024 .f32) (ix3 0 s k) = MD m c (ix3 (⟨t.val / 4, by have := lt_pts t; omega⟩ : Fin 16) s k) := by
  have e := maps8 t
  unfold iblk
  rw [View.read_apply]
  show V m c main_arg5 _ = m (c.tc.loc main_arg5) _
  rw [V_main_arg5]
  congr 1
  funext a
  apply Fin.ext
  match a with
  | ⟨0, _⟩ => show win0_8.index t 0 * 1 + 1 * 0 = t.val / 4; rw [e.1]; omega
  | ⟨1, _⟩ => show win0_8.index t 1 * 8 + 1 * s.val = s.val; rw [e.2.1]; omega
  | ⟨2, _⟩ => show win0_8.index t 2 * 1024 + 1 * k.val = k.val; rw [e.2.2]; omega
theorem maps9 : ∀ t : Fin cfg0.N, win0_9.index t (0 : Fin 2) = 0 ∧ win0_9.index t (1 : Fin 2) = 0 :=
  (by decide +kernel : ∀ t : Fin grid0.N, _)
theorem V_main_v0 (c : Dev nD) : V m c main_v0 = shapeCast S1x1024 (NW m c) shapeCasts_S1024_S1x1024 := rfl
theorem nw_apply (c : Dev nD) (t : Fin cfg0.N) (n : Fin 1024) :
    (iblk m c 9 t : Vec Ideal S1x1024 .f32) (ix2 0 n) = NW m c (ix1 n) := by
  have e := maps9 t
  unfold iblk
  rw [View.read_apply]
  have hi : ((cfg0.win 9).blk t).view.emb (ix2 0 n) = (ix2 0 n : S1x1024.Idx) := by
    funext a
    apply Fin.ext
    match a with
    | ⟨0, _⟩ => show win0_9.index t 0 * 1 + 1 * 0 = 0; rw [e.1]
    | ⟨1, _⟩ => show win0_9.index t 1 * 1024 + 1 * n.val = n.val; rw [e.2]; omega
  show V m c main_v0 (((cfg0.win 9).blk t).view.emb (ix2 0 n)) = _
  rw [hi, V_main_v0]
  pointwise []
theorem maps10 : ∀ t : Fin cfg0.N, win0_10.index t (0 : Fin 2) = 0 ∧ win0_10.index t (1 : Fin 2) = 0 :=
  (by decide +kernel : ∀ t : Fin grid0.N, _)
theorem phy_apply (c : Dev nD) (t : Fin cfg0.N) (r : Fin 1024) (k : Fin 1024) :
    (iblk m c 10 t : Vec Ideal S1024x1024 .bf16) (ix2 r k) = Phy m c (ix2 r k) := by
  have e := maps10 t
  unfold iblk
  rw [View.read_apply]
  show V m c main_arg7 _ = m (c.tc.loc main_arg7) _
  rw [V_main_arg7]
  congr 1
  funext a
  apply Fin.ext
  match a with
  | ⟨0, _⟩ => show win0_10.index t 0 * 1024 + 1 * r.val = r.val; rw [e.1]; omega
  | ⟨1, _⟩ => show win0_10.index t 1 * 1024 + 1 * k.val = k.val; rw [e.2]; omega
theorem maps11 : ∀ t : Fin cfg0.N, win0_11.index t (0 : Fin 2) = 0 ∧ win0_11.index t (1 : Fin 2) = 0 :=
  (by decide +kernel : ∀ t : Fin grid0.N, _)
theorem phg_apply (c : Dev nD) (t : Fin cfg0.N) (r : Fin 1024) (k : Fin 1024) :
    (iblk m c 11 t : Vec Ideal S1024x1024 .bf16) (ix2 r k) = Phg m c (ix2 r k) := by
  have e := maps11 t
  unfold iblk
  rw [View.read_apply]
  show V m c main_arg8 _ = m (c.tc.loc main_arg8) _
  rw [V_main_arg8]
  congr 1
  funext a
  apply Fin.ext
  match a with
  | ⟨0, _⟩ => show win0_11.index t 0 * 1024 + 1 * r.val = r.val; rw [e.1]; omega
  | ⟨1, _⟩ => show win0_11.index t 1 * 1024 + 1 * k.val = k.val; rw [e.2]; omega
theorem maps12 : ∀ t : Fin cfg0.N, win0_12.index t (0 : Fin 2) = 0 ∧ win0_12.index t (1 : Fin 2) = 0 :=
  (by decide +kernel : ∀ t : Fin grid0.N, _)
theorem prt_apply (c : Dev nD) (t : Fin cfg0.N) (r : Fin 2048) (k : Fin 1024) :
    (iblk m c 12 t : Vec Ideal S2048x1024 .bf16) (ix2 r k) = Prt m c (ix2 r k) := by
  have e := maps12 t
  unfold iblk
  rw [View.read_apply]
  show V m c main_arg9 _ = m (c.tc.loc main_arg9) _
  rw [V_main_arg9]
  congr 1
  funext a
  apply Fin.ext
  match a with
  | ⟨0, _⟩ => show win0_12.index t 0 * 2048 + 1 * r.val = r.val; rw [e.1]; omega
  | ⟨1, _⟩ => show win0_12.index t 1 * 1024 + 1 * k.val = k.val; rw [e.2]; omega
theorem maps13 : ∀ t : Fin cfg0.N, win0_13.index t (0 : Fin 2) = 0 ∧ win0_13.index t (1 : Fin 2) = 0 :=
  (by decide +kernel : ∀ t : Fin grid0.N, _)
theorem wo_apply (c : Dev nD) (t : Fin cfg0.N) (r : Fin 1024) (k : Fin 1024) :
    (iblk m c 13 t : Vec Ideal S1024x1024 .bf16) (ix2 r k) = WO m c (ix2 r k) := by
  have e := maps13 t
  unfold iblk
  rw [View.read_apply]
  show V m c main_arg10 _ = m (c.tc.loc main_arg10) _
  rw [V_main_arg10]
  congr 1
  funext a
  apply Fin.ext
  match a with
  | ⟨0, _⟩ => show win0_13.index t 0 * 1024 + 1 * r.val = r.val; rw [e.1]; omega
  | ⟨1, _⟩ => show win0_13.index t 1 * 1024 + 1 * k.val = k.val; rw [e.2]; omega
theorem maps14 : ∀ t : Fin cfg0.N, win0_14.index t (0 : Fin 2) = 0 ∧ win0_14.index t (1 : Fin 2) = 0 :=
  (by decide +kernel : ∀ t : Fin grid0.N, _)
theorem V_main_v1 (c : Dev nD) : V m c main_v1 = shapeCast S1x1024 (G m c) shapeCasts_S1024_S1x1024 := rfl
theorem g_apply (c : Dev nD) (t : Fin cfg0.N) (n : Fin 1024) :
    (iblk m c 14 t : Vec Ideal S1x1024 .f32) (ix2 0 n) = G m c (ix1 n) := by
  have e := maps14 t
  unfold iblk
  rw [View.read_apply]
  have hi : ((cfg0.win 14).blk t).view.emb (ix2 0 n) = (ix2 0 n : S1x1024.Idx) := by
    funext a
    apply Fin.ext
    match a with
    | ⟨0, _⟩ => show win0_14.index t 0 * 1 + 1 * 0 = 0; rw [e.1]
    | ⟨1, _⟩ => show win0_14.index t 1 * 1024 + 1 * n.val = n.val; rw [e.2]; omega
  show V m c main_v1 (((cfg0.win 14).blk t).view.emb (ix2 0 n)) = _
  rw [hi, V_main_v1]
  pointwise []
theorem maps15 : ∀ t : Fin cfg0.N, win0_15.index t (0 : Fin 2) = 0 ∧ win0_15.index t (1 : Fin 2) = 0 :=
  (by decide +kernel : ∀ t : Fin grid0.N, _)
theorem V_main_v2 (c : Dev nD) : V m c main_v2 = shapeCast S1x1024 (B m c) shapeCasts_S1024_S1x1024 := rfl
theorem b_apply (c : Dev nD) (t : Fin cfg0.N) (n : Fin 1024) :
    (iblk m c 15 t : Vec Ideal S1x1024 .f32) (ix2 0 n) = B m c (ix1 n) := by
  have e := maps15 t
  unfold iblk
  rw [View.read_apply]
  have hi : ((cfg0.win 15).blk t).view.emb (ix2 0 n) = (ix2 0 n : S1x1024.Idx) := by
    funext a
    apply Fin.ext
    match a with
    | ⟨0, _⟩ => show win0_15.index t 0 * 1 + 1 * 0 = 0; rw [e.1]
    | ⟨1, _⟩ => show win0_15.index t 1 * 1024 + 1 * n.val = n.val; rw [e.2]; omega
  show V m c main_v2 (((cfg0.win 15).blk t).view.emb (ix2 0 n)) = _
  rw [hi, V_main_v2]
  pointwise []
theorem maps16 : ∀ t : Fin cfg0.N, win0_16.index t (0 : Fin 2) = t.val ∧ win0_16.index t (1 : Fin 2) = 0 :=
  (by decide +kernel : ∀ t : Fin grid0.N, _)
theorem flush16 : ∀ t : Fin cfg0.N, (cfg0.win 16).flush t = true := (by decide +kernel : ∀ t : Fin grid0.N, _)

/-- The result array as the reference's function of the arguments. -/
abbrev want (c : Dev nD) : Buf (Elt Ideal) ((c : Thread nD τ).loc main_v3) :=
  Cert.MergeReferenceIdeal.Read.val_main_v85 (F := Ideal) (Yhy m c) (Ohg m c) (Yrt m c) (P m c) (X m c) (MD m c) (NW m c) (Phy m c) (Phg m c) (Prt m c) (WO m c) (G m c) (B m c)

theorem flushed_want (c : Dev nD) (t : Fin cfg0.N) (hf : (cfg0.win 16).flush t = true) :
    (dats m 0 c).flushed 16 t = ((cfg0.win 16).blk t).view.read (Elt Ideal) (want m c) := by
  rw [flushed16]
  have e := maps16 t
  have ht := lt_pts t
  funext y
  obtain ⟨r, n, rfl⟩ : ∃ (r : Fin 512) (n : Fin 1024), y = ix2 r n := ⟨y 0, y 1, eq_ix2 y⟩
  rw [View.read_apply]
  have hi : ((cfg0.win 16).blk t).view.emb (ix2 r n) = ix2 (⟨t.val * 512 + r.val, by have := r.isLt; omega⟩ : Fin 16384) n := by
    funext a
    apply Fin.ext
    match a with
    | ⟨0, _⟩ => show win0_16.index t 0 * 512 + 1 * r.val = t.val * 512 + r.val; rw [e.1]; omega
    | ⟨1, _⟩ => show win0_16.index t 1 * 1024 + 1 * n.val = n.val; rw [e.2]; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r n)
    = want m c (((cfg0.win 16).blk t).view.emb (ix2 r n))
  rw [hi, out_apply]
  refine ((Cert.MergeReferenceIdeal.Value.ref_apply (Yhy m c) (Ohg m c) (Yrt m c) (P m c) (X m c) (MD m c) (NW m c) (Phy m c) (Phg m c) (Prt m c) (WO m c) (G m c) (B m c) _ _).trans ?_).symm
  have hb : (t.val * 512 + r.val) / 2048 = t.val / 4 := by have := r.isLt; omega
  simp only [Cert.MergeReferenceIdeal.Value.bat, hb, x_apply, md_apply, g_apply, b_apply, yhy_apply, ohg_apply, yrt_apply, og_apply, ga_apply, gb_apply, gc_apply,
    nw_apply, phy_apply, phg_apply, prt_apply, wo_apply]
  rfl

theorem final_want (c : Dev nD) : (dats m 0 c).arrAt 16 cfg0.N = want m c :=
  (dats m 0 c).arrAt_eq_of_cover 16 _ (fun t hf => flushed_want m c t hf) (fun i => by
    have h0 : (i 0).val < 16384 := (i 0).isLt
    have h1 : (i 1).val < 1024 := (i 1).isLt
    have hN : (i 0).val / 512 < cfg0.N := by show _ < grid0.N; rw [N_0]; omega
    refine ⟨⟨(i 0).val / 512, hN⟩, flush16 _, ?_⟩
    have e := maps16 ⟨(i 0).val / 512, hN⟩
    show i ∈ ((View.whole main_v3).slice (win0_16.rect ⟨(i 0).val / 512, hN⟩)).set
    rw [View.set_slice_whole, Rect.mem_set_unit]
    intro a
    match a with
    | ⟨0, _⟩ =>
      show win0_16.index ⟨(i 0).val / 512, hN⟩ 0 * 512 ≤ (i 0).val ∧ (i 0).val < win0_16.index ⟨(i 0).val / 512, hN⟩ 0 * 512 + 512
      rw [e.1]; dsimp only; omega
    | ⟨1, _⟩ =>
      show win0_16.index ⟨(i 0).val / 512, hN⟩ 1 * 1024 ≤ (i 1).val ∧ (i 1).val < win0_16.index ⟨(i 0).val / 512, hN⟩ 1 * 1024 + 1024
      rw [e.2]; omega)

end Cert.MergeKernelIdeal.Value

end
-- ==== Proof.CombValue.lean ====
/-
  The values of the expert combination: row `r` of the result is the normalised row
  `α x[r] + gate[b] * (g[r,0] y0[r] + g[r,1] y1[r])` (`b = r / 2048`), in the kernel block by block and in the reference at once.
-/
module

public import proofs.«01_k».proof.Proof.Gen.CombKernelIdeal.Value
public import proofs.«01_k».proof.Proof.Gen.CombReferenceIdeal.Run
public import proofs.«01_k».proof.Proof.Gen.CombReferenceIdeal.Read
public import proofs.«01_k».proof.Proof.NormForm
public import Idealize.ShloMosaic.Lib.Pointwise

@[expose] public section

set_option maxRecDepth 16384

noncomputable section

namespace Cert.CombReferenceIdeal.Value

open Cert.CombReferenceIdeal Cert.CombReferenceIdeal.Gen Idealize.ShloMosaic Idealize.ShloMosaic.TcCoe Idealize.SL.Sem
open Cert.CombReferenceIdeal.Read Cert.NormForm

/-- The reference at row `r`, column `n`. -/
theorem ref_apply (x0 : (⟨S16384x1024, .f32⟩ : BufTy).Contents (Elt Ideal)) (x1 : (⟨S16x8x1024, .f32⟩ : BufTy).Contents (Elt Ideal))
    (x2 x3 : (⟨S16384x1024, .f32⟩ : BufTy).Contents (Elt Ideal)) (x4 : (⟨S16384x128, .f32⟩ : BufTy).Contents (Elt Ideal))
    (x5 x6 : (⟨S1024, .f32⟩ : BufTy).Contents (Elt Ideal)) (r : Fin 16384) (n : Fin 1024) :
    val_main_v39 (F := Ideal) x0 x1 x2 x3 x4 x5 x6 (ix2 r n)
      = normed (fun k => resid (x0 (ix2 r k)) (x1 (ix3 (⟨r.val / 2048, by have := r.isLt; omega⟩ : Fin 16) 5 k)) (x4 (ix2 r 0) * x2 (ix2 r k) + x4 (ix2 r 1) * x3 (ix2 r k)))
          (x5 (ix1 n)) (x6 (ix1 n)) n := by
  unfold normed
  pointwise [val_main_v0, val_main_v1, val_main_v2, val_main_v3, val_main_v4, val_main_v5, val_main_v6, val_main_v7, val_main_v8, val_main_v9, val_main_cst,
    val_main_v10, val_main_v11, val_main_v12, val_main_v13, val_main_v14, val_main_cst_0, val_main_v15, val_main_v16, val_main_cst_1, val_main_v17, val_main_v18,
    val_main_v19, val_main_v20, val_main_v21, val_main_cst_2, val_main_v22, val_main_v23, val_main_cst_3, val_main_v24, val_main_v25, val_main_v26, val_main_v27,
    val_main_cst_4, val_main_v28, val_main_v29, val_main_v30, val_main_v31, val_main_v32, val_main_v33, val_main_v34, val_main_v35, val_main_v36, val_main_v37,
    val_main_v38, val_main_v39]

end Cert.CombReferenceIdeal.Value

namespace Cert.CombKernelIdeal.Value

open Cert.CombKernelIdeal Cert.CombKernelIdeal.Gen Idealize.ShloMosaic Idealize.ShloMosaic.TcCoe Idealize.SL.Sem
open Idealize.ShloMosaic.Pipeline (Dat)
open Cert.NormForm

theorem hz2 : (![0, 0] : Fin 2 → Nat) = fun _ => 0 := funext fun a => by fin_cases a <;> rfl
theorem hz3 : (![0, 0, 0] : Fin 3 → Nat) = fun _ => 0 := funext fun a => by fin_cases a <;> rfl

/-- What a point leaves, at an element of its block. -/
theorem out_apply (x0 : Vec Ideal S512x1024 .f32) (x1 : Vec Ideal S1x8x1024 .f32) (x2 x3 : Vec Ideal S512x1024 .f32) (x4 : Vec Ideal S512x128 .f32)
    (x5 x6 : Vec Ideal S1x1024 .f32) (r : Fin 512) (n : Fin 1024) :
    out0_7 x0 x1 x2 x3 x4 x5 x6 (ix2 r n)
      = normed (fun k => resid (x0 (ix2 r k)) (x1 (ix3 0 5 k)) (x4 (ix2 r 0) * x2 (ix2 r k) + x4 (ix2 r 1) * x3 (ix2 r k))) (x5 (ix2 0 n)) (x6 (ix2 0 n)) n := by
  unfold out0_7
  rw [View.canon_unit_zero hz2]
  simp only [View.ld_unit_zero (S := S512x1024) hz2, View.ld_unit_zero (S := S512x128) hz2, View.ld_unit_zero (S := S1x1024) hz2, View.ld_unit_zero (S := S1x8x1024) hz3]
  unfold normed
  pointwise [k0_pay1, k0_pay2, k0_pay3, k0_pay4, k0_pay5]

variable (m : (ℓ : Loc nD τ sig) → Buf (Elt Ideal) ℓ) (ρ : Dev nD → PrngReg)

theorem lt_pts (t : Fin cfg0.N) : t.val < 32 := by have h : t.val < grid0.N := t.isLt; rwa [N_0] at h

abbrev X (c : Dev nD) : Buf (Elt Ideal) ((c : Thread nD τ).loc main_arg0) := m ((c : Thread nD τ).loc main_arg0)
abbrev MD (c : Dev nD) : Buf (Elt Ideal) ((c : Thread nD τ).loc main_arg1) := m ((c : Thread nD τ).loc main_arg1)
abbrev Y0 (c : Dev nD) : Buf (Elt Ideal) ((c : Thread nD τ).loc main_arg2) := m ((c : Thread nD τ).loc main_arg2)
abbrev Y1 (c : Dev nD) : Buf (Elt Ideal) ((c : Thread nD τ).loc main_arg3) := m ((c : Thread nD τ).loc main_arg3)
abbrev GT (c : Dev nD) : Buf (Elt Ideal) ((c : Thread nD τ).loc main_arg4) := m ((c : Thread nD τ).loc main_arg4)
abbrev G (c : Dev nD) : Buf (Elt Ideal) ((c : Thread nD τ).loc main_arg5) := m ((c : Thread nD τ).loc main_arg5)
abbrev B (c : Dev nD) : Buf (Elt Ideal) ((c : Thread nD τ).loc main_arg6) := m ((c : Thread nD τ).loc main_arg6)

/-! The windows' blocks as entries of the arguments, with the index maps decided over the grid. -/

theorem maps0 : ∀ t : Fin cfg0.N, win0_0.index t (0 : Fin 2) = t.val ∧ win0_0.index t (1 : Fin 2) = 0 :=
  (by decide +kernel : ∀ t : Fin grid0.N, _)
theorem x_apply (c : Dev nD) (t : Fin cfg0.N) (r : Fin 512) (k : Fin 1024) :
    (iblk m c 0 t : Vec Ideal S512x1024 .f32) (ix2 r k) = X m c (ix2 (⟨t.val * 512 + r.val, by have := r.isLt; have := lt_pts t; omega⟩ : Fin 16384) k) := by
  have e := maps0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val * 512 + r.val; rw [e.1]; omega
  | ⟨1, _⟩ => show win0_0.index t 1 * 1024 + 1 * k.val = k.val; rw [e.2]; omega
theorem maps2 : ∀ t : Fin cfg0.N, win0_2.index t (0 : Fin 2) = t.val ∧ win0_2.index t (1 : Fin 2) = 0 :=
  (by decide +kernel : ∀ t : Fin grid0.N, _)
theorem y0_apply (c : Dev nD) (t : Fin cfg0.N) (r : Fin 512) (k : Fin 1024) :
    (iblk m c 2 t : Vec Ideal S512x1024 .f32) (ix2 r k) = Y0 m c (ix2 (⟨t.val * 512 + r.val, by have := r.isLt; have := lt_pts t; omega⟩ : Fin 16384) k) := by
  have e := maps2 t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = t.val * 512 + r.val; rw [e.1]; omega
  | ⟨1, _⟩ => show win0_2.index t 1 * 1024 + 1 * k.val = k.val; rw [e.2]; omega
theorem maps3 : ∀ t : Fin cfg0.N, win0_3.index t (0 : Fin 2) = t.val ∧ win0_3.index t (1 : Fin 2) = 0 :=
  (by decide +kernel : ∀ t : Fin grid0.N, _)
theorem y1_apply (c : Dev nD) (t : Fin cfg0.N) (r : Fin 512) (k : Fin 1024) :
    (iblk m c 3 t : Vec Ideal S512x1024 .f32) (ix2 r k) = Y1 m c (ix2 (⟨t.val * 512 + r.val, by have := r.isLt; have := lt_pts t; omega⟩ : Fin 16384) k) := by
  have e := maps3 t
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = t.val * 512 + r.val; rw [e.1]; omega
  | ⟨1, _⟩ => show win0_3.index t 1 * 1024 + 1 * k.val = k.val; rw [e.2]; omega
theorem maps4 : ∀ t : Fin cfg0.N, win0_4.index t (0 : Fin 2) = t.val ∧ win0_4.index t (1 : Fin 2) = 0 :=
  (by decide +kernel : ∀ t : Fin grid0.N, _)
theorem gt_apply (c : Dev nD) (t : Fin cfg0.N) (r : Fin 512) (k : Fin 128) :
    (iblk m c 4 t : Vec Ideal S512x128 .f32) (ix2 r k) = GT m c (ix2 (⟨t.val * 512 + r.val, by have := r.isLt; have := lt_pts t; omega⟩ : Fin 16384) k) := by
  have e := maps4 t
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * r.val = t.val * 512 + r.val; rw [e.1]; omega
  | ⟨1, _⟩ => show win0_4.index t 1 * 128 + 1 * k.val = k.val; rw [e.2]; omega
theorem maps1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem md_apply (c : Dev nD) (t : Fin cfg0.N) (s : Fin 8) (k : Fin 1024) :
    (iblk m c 1 t : Vec Ideal S1x8x1024 .f32) (ix3 0 s k) = MD m c (ix3 (⟨t.val / 4, by have := lt_pts t; omega⟩ : Fin 16) s k) := by
  have e := maps1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 4; rw [e.1]; omega
  | ⟨1, _⟩ => show win0_1.index t 1 * 8 + 1 * s.val = s.val; rw [e.2.1]; omega
  | ⟨2, _⟩ => show win0_1.index t 2 * 1024 + 1 * k.val = k.val; rw [e.2.2]; omega
theorem maps5 : ∀ t : Fin cfg0.N, win0_5.index t (0 : Fin 2) = 0 ∧ win0_5.index t (1 : Fin 2) = 0 :=
  (by decide +kernel : ∀ t : Fin grid0.N, _)
theorem V_main_v0 (c : Dev nD) : V m c main_v0 = shapeCast S1x1024 (G m c) shapeCasts_S1024_S1x1024 := rfl
theorem g_apply (c : Dev nD) (t : Fin cfg0.N) (n : Fin 1024) :
    (iblk m c 5 t : Vec Ideal S1x1024 .f32) (ix2 0 n) = G m c (ix1 n) := by
  have e := maps5 t
  unfold iblk
  rw [View.read_apply]
  have hi : ((cfg0.win 5).blk t).view.emb (ix2 0 n) = (ix2 0 n : S1x1024.Idx) := by
    funext a
    apply Fin.ext
    match a with
    | ⟨0, _⟩ => show win0_5.index t 0 * 1 + 1 * 0 = 0; rw [e.1]
    | ⟨1, _⟩ => show win0_5.index t 1 * 1024 + 1 * n.val = n.val; rw [e.2]; omega
  show V m c main_v0 (((cfg0.win 5).blk t).view.emb (ix2 0 n)) = _
  rw [hi, V_main_v0]
  pointwise []
theorem maps6 : ∀ t : Fin cfg0.N, win0_6.index t (0 : Fin 2) = 0 ∧ win0_6.index t (1 : Fin 2) = 0 :=
  (by decide +kernel : ∀ t : Fin grid0.N, _)
theorem V_main_v1 (c : Dev nD) : V m c main_v1 = shapeCast S1x1024 (B m c) shapeCasts_S1024_S1x1024 := rfl
theorem b_apply (c : Dev nD) (t : Fin cfg0.N) (n : Fin 1024) :
    (iblk m c 6 t : Vec Ideal S1x1024 .f32) (ix2 0 n) = B m c (ix1 n) := by
  have e := maps6 t
  unfold iblk
  rw [View.read_apply]
  have hi : ((cfg0.win 6).blk t).view.emb (ix2 0 n) = (ix2 0 n : S1x1024.Idx) := by
    funext a
    apply Fin.ext
    match a with
    | ⟨0, _⟩ => show win0_6.index t 0 * 1 + 1 * 0 = 0; rw [e.1]
    | ⟨1, _⟩ => show win0_6.index t 1 * 1024 + 1 * n.val = n.val; rw [e.2]; omega
  show V m c main_v1 (((cfg0.win 6).blk t).view.emb (ix2 0 n)) = _
  rw [hi, V_main_v1]
  pointwise []
theorem maps7 : ∀ t : Fin cfg0.N, win0_7.index t (0 : Fin 2) = t.val ∧ win0_7.index t (1 : Fin 2) = 0 :=
  (by decide +kernel : ∀ t : Fin grid0.N, _)
theorem flush7 : ∀ t : Fin cfg0.N, (cfg0.win 7).flush t = true := (by decide +kernel : ∀ t : Fin grid0.N, _)

/-- The result array as the reference's function of the arguments. -/
abbrev want (c : Dev nD) : Buf (Elt Ideal) ((c : Thread nD τ).loc main_v2) :=
  Cert.CombReferenceIdeal.Read.val_main_v39 (F := Ideal) (X m c) (MD m c) (Y0 m c) (Y1 m c) (GT m c) (G m c) (B m c)

theorem flushed_want (c : Dev nD) (t : Fin cfg0.N) (hf : (cfg0.win 7).flush t = true) :
    (dats m 0 c).flushed 7 t = ((cfg0.win 7).blk t).view.read (Elt Ideal) (want m c) := by
  rw [flushed7]
  have e := maps7 t
  have ht := lt_pts t
  funext y
  obtain ⟨r, n, rfl⟩ : ∃ (r : Fin 512) (n : Fin 1024), y = ix2 r n := ⟨y 0, y 1, eq_ix2 y⟩
  rw [View.read_apply]
  have hi : ((cfg0.win 7).blk t).view.emb (ix2 r n) = ix2 (⟨t.val * 512 + r.val, by have := r.isLt; omega⟩ : Fin 16384) n := by
    funext a
    apply Fin.ext
    match a with
    | ⟨0, _⟩ => show win0_7.index t 0 * 512 + 1 * r.val = t.val * 512 + r.val; rw [e.1]; omega
    | ⟨1, _⟩ => show win0_7.index t 1 * 1024 + 1 * n.val = n.val; rw [e.2]; omega
  show out0_7 (iblk m c 0 t) (iblk m c 1 t) (iblk m c 2 t) (iblk m c 3 t) (iblk m c 4 t) (iblk m c 5 t) (iblk m c 6 t) (ix2 r n)
    = want m c (((cfg0.win 7).blk t).view.emb (ix2 r n))
  rw [hi, out_apply]
  refine ((Cert.CombReferenceIdeal.Value.ref_apply (X m c) (MD m c) (Y0 m c) (Y1 m c) (GT m c) (G m c) (B m c) _ _).trans ?_).symm
  have hb : (t.val * 512 + r.val) / 2048 = t.val / 4 := by have := r.isLt; omega
  simp only [hb, x_apply, md_apply, y0_apply, y1_apply, gt_apply, g_apply, b_apply]

theorem final_want (c : Dev nD) : (dats m 0 c).arrAt 7 cfg0.N = want m c :=
  (dats m 0 c).arrAt_eq_of_cover 7 _ (fun t hf => flushed_want m c t hf) (fun i => by
    have h0 : (i 0).val < 16384 := (i 0).isLt
    have h1 : (i 1).val < 1024 := (i 1).isLt
    have hN : (i 0).val / 512 < cfg0.N := by show _ < grid0.N; rw [N_0]; omega
    refine ⟨⟨(i 0).val / 512, hN⟩, flush7 _, ?_⟩
    have e := maps7 ⟨(i 0).val / 512, hN⟩
    show i ∈ ((View.whole main_v2).slice (win0_7.rect ⟨(i 0).val / 512, hN⟩)).set
    rw [View.set_slice_whole, Rect.mem_set_unit]
    intro a
    match a with
    | ⟨0, _⟩ =>
      show win0_7.index ⟨(i 0).val / 512, hN⟩ 0 * 512 ≤ (i 0).val ∧ (i 0).val < win0_7.index ⟨(i 0).val / 512, hN⟩ 0 * 512 + 512
      rw [e.1]; dsimp only; omega
    | ⟨1, _⟩ =>
      show win0_7.index ⟨(i 0).val / 512, hN⟩ 1 * 1024 ≤ (i 1).val ∧ (i 1).val < win0_7.index ⟨(i 0).val / 512, hN⟩ 1 * 1024 + 1024
      rw [e.2]; omega)

end Cert.CombKernelIdeal.Value

end
-- ==== Proof.Claims.lean ====
/-
  The claims, one theorem each: the runs of the kernels and of the references, set side by side.
-/
module

public import proofs.«01_k».proof.Defs
public import proofs.«01_k».proof.Proof.MoeRunBits
public import proofs.«01_k».proof.Proof.MoeValue
public import proofs.«01_k».proof.Proof.ProjValue
public import proofs.«01_k».proof.Proof.FfnValue
public import proofs.«01_k».proof.Proof.MergeValue
public import proofs.«01_k».proof.Proof.CombValue
public import proofs.«01_k».proof.Proof.Gen.Pre_experts_in_range

@[expose] public section

set_option maxRecDepth 16384

noncomputable section

namespace Cert.Proof

open Idealize.ShloMosaic Idealize.SL.Sem

/-- The precondition, all ones: every table entry lies in 0..7. -/
theorem below_of_pre {F : FTy → Type} [FloatOps F] (x0 : FVec F Cert.Pre_experts_in_range.S36864x1024 .f32) (t : IVec Cert.Pre_experts_in_range.S72 32)
    (x2 : IVec Cert.Pre_experts_in_range.S1 32) (x3 x4 : FVec F Cert.Pre_experts_in_range.S8x1024x3584 .bf16) (x5 : FVec F Cert.Pre_experts_in_range.S8x3584x1024 .bf16)
    (h : Cert.Pre_experts_in_range.fn (F := F) x0 t x2 x3 x4 x5 = fun _ => 1#1) (w : Cert.Pre_experts_in_range.S72.Idx) : (t w).toNat < 8 := by
  have both (a b : BitVec 1) : IntOp.andi a b = 1#1 ↔ a = 1#1 ∧ b = 1#1 := by revert a b; decide
  have one (p : Bool) : (BitVec.ofBool p = 1#1) ↔ p = true := by cases p <;> decide
  have e := congrFun h w
  simp only [Cert.Pre_experts_in_range.fn, constantI, broadcastInDim, cmpi, andi, both] at e
  obtain ⟨h0, h8⟩ := e
  simp only [one, IntOp.cmpi, BitVec.sle, BitVec.slt, decide_eq_true_eq, BitVec.toInt, BitVec.toNat_ofNat] at h0 h8
  omega

/-- The tables of a memory that meets the precondition, at any values: the kernel as printed. -/
def tabB (m : (ℓ : Loc Cert.MoeKernel.nD Cert.MoeKernel.τ Cert.MoeKernel.sig) → Buf (Elt Bits) ℓ) (h : Cert.Pre_MoeKernel m) : Cert.MoeKernel.Any.Tab :=
  ⟨m (((0 : Dev Cert.MoeKernel.nD).tc : Thread Cert.MoeKernel.nD Cert.MoeKernel.τ).loc Cert.MoeKernel.main_arg1),
    m (((0 : Dev Cert.MoeKernel.nD).tc : Thread Cert.MoeKernel.nD Cert.MoeKernel.τ).loc Cert.MoeKernel.main_arg2), below_of_pre _ _ _ _ _ _ (h 0)⟩

theorem holdsB (m : (ℓ : Loc Cert.MoeKernel.nD Cert.MoeKernel.τ Cert.MoeKernel.sig) → Buf (Elt Bits) ℓ) (h : Cert.Pre_MoeKernel m) :
    Cert.MoeKernel.Any.Holds (tabB m h) m :=
  ⟨fun c => by obtain rfl : c = 0 := Subsingleton.elim _ _; rfl, fun c => by obtain rfl : c = 0 := Subsingleton.elim _ _; rfl⟩

/-- … and the kernel at the ideal values. -/
def tabI (m : (ℓ : Loc Cert.MoeKernelIdeal.nD Cert.MoeKernelIdeal.τ Cert.MoeKernelIdeal.sig) → Buf (Elt Ideal) ℓ) (h : Cert.Pre_MoeKernelIdeal m) :
    Cert.MoeKernelIdeal.Any.Tab :=
  ⟨m (((0 : Dev Cert.MoeKernelIdeal.nD).tc : Thread Cert.MoeKernelIdeal.nD Cert.MoeKernelIdeal.τ).loc Cert.MoeKernelIdeal.main_arg1),
    m (((0 : Dev Cert.MoeKernelIdeal.nD).tc : Thread Cert.MoeKernelIdeal.nD Cert.MoeKernelIdeal.τ).loc Cert.MoeKernelIdeal.main_arg2), below_of_pre _ _ _ _ _ _ (h 0)⟩

theorem holdsI (m : (ℓ : Loc Cert.MoeKernelIdeal.nD Cert.MoeKernelIdeal.τ Cert.MoeKernelIdeal.sig) → Buf (Elt Ideal) ℓ) (h : Cert.Pre_MoeKernelIdeal m) :
    Cert.MoeKernelIdeal.Any.Holds (tabI m h) m :=
  ⟨fun c => by obtain rfl : c = 0 := Subsingleton.elim _ _; rfl, fun c => by obtain rfl : c = 0 := Subsingleton.elim _ _; rfl⟩

theorem frame_moe : Cert.quiescent_MoeKernel := fun m ρ h => Cert.MoeKernel.Any.frame (tabB m h) m ρ (holdsB m h)

theorem frame_moe_ideal : Cert.quiescent_MoeKernelIdeal := fun m ρ h => Cert.MoeKernelIdeal.Any.frame (tabI m h) m ρ (holdsI m h)

theorem frame_moe_ref_pre : Cert.quiescent_MoeReferenceIdeal_pre_experts_in_range := fun m ρ _ =>
  (θ_run Cert.MoeReferenceIdeal.defs _ _).mono (fun r h => ⟨fun c => (h c).2, Idealize.ShloMosaic.sem_eq_zero_of_no_sems (by decide) r.2⟩)
    (Cert.MoeReferenceIdeal.Value.run (F := Ideal) m ρ)

theorem frame_moe_ref : Cert.quiescent_MoeReferenceIdeal := fun m ρ _ =>
  (θ_run Cert.MoeReferenceIdeal.defs _ _).mono (fun r h => ⟨fun c => (h c).2, Idealize.ShloMosaic.sem_eq_zero_of_no_sems (by decide) r.2⟩)
    (Cert.MoeReferenceIdeal.Value.run (F := Ideal) m ρ)

theorem frame_proj_ref : Cert.quiescent_ProjReferenceIdeal := fun m ρ _ =>
  (θ_run Cert.ProjReferenceIdeal.defs _ _).mono (fun r h => ⟨fun c => (h c).2, Idealize.ShloMosaic.sem_eq_zero_of_no_sems (by decide) r.2⟩)
    (Cert.ProjReferenceIdeal.Value.run (F := Ideal) m ρ)

theorem frame_ffn_ref : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

theorem frame_merge_ref : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

theorem frame_comb_ref : Cert.quiescent_CombReferenceIdeal := fun m ρ _ =>
  (θ_run Cert.CombReferenceIdeal.defs _ _).mono (fun r h => ⟨fun c => (h c).2, Idealize.ShloMosaic.sem_eq_zero_of_no_sems (by decide) r.2⟩)
    (Cert.CombReferenceIdeal.Value.run (F := Ideal) m ρ)

/-- The expert blocks: the kernel's result array is the reference's function of its arguments. -/
theorem algebraic_moe : Cert.algebraic_MoeKernelIdeal_MoeReferenceIdeal := by
  intro m ρ m' ρ' hp hagree
  refine ⟨fun c => Cert.MoeKernelIdeal.Any.want (tabI m hp) m c,
    (θ_run Cert.MoeKernelIdeal.defs _ _).mono (fun _ h c => ⟨(h.1 c).1.trans (Cert.MoeKernelIdeal.Any.final_want (tabI m hp) m ρ c), (h.1 c).2⟩)
      (Cert.MoeKernelIdeal.Any.run_args (tabI m hp) m ρ (holdsI m hp)), ?_⟩
  refine (θ_run Cert.MoeReferenceIdeal.defs _ _).mono (fun _ h c => ⟨(h c).1.trans ?_, (h c).2⟩) (Cert.MoeReferenceIdeal.Value.run (F := Ideal) m' ρ')
  obtain ⟨e0, e1, e2, e3, e4, e5⟩ := hagree c
  obtain ⟨t1, t2⟩ := holdsI m hp
  refine (Cert.MoeReferenceIdeal.Read.val_main_v18_eq (F := Ideal) _ _ _ _ _ _).trans ?_
  rw [e0, e1, e2, e3, e4, e5, t1 c, t2 c]

theorem algebraic_proj : Cert.algebraic_ProjKernelIdeal_ProjReferenceIdeal := by
  intro m ρ m' ρ' _ hagree
  refine ⟨fun c => Cert.ProjKernelIdeal.Value.want m c,
    (θ_run Cert.ProjKernelIdeal.defs _ _).mono (fun _ h c => ⟨(h c).1.trans (Cert.ProjKernelIdeal.Value.final_want m c), (h c).2⟩)
      (Cert.ProjKernelIdeal.Value.run_blocks m ρ), ?_⟩
  refine (θ_run Cert.ProjReferenceIdeal.defs _ _).mono (fun _ h c => ⟨(h c).1.trans ?_, (h c).2⟩) (Cert.ProjReferenceIdeal.Value.run (F := Ideal) m' ρ')
  obtain ⟨e0, e1, e2⟩ := hagree c
  refine (Cert.ProjReferenceIdeal.Read.val_main_v13_eq (F := Ideal) _ _ _).trans ?_
  rw [e0, e1, e2]

theorem algebraic_ffn : Cert.algebraic_FfnKernelIdeal_FfnReferenceIdeal := by
  intro m ρ m' ρ' _ hagree
  refine ⟨fun c => Cert.FfnKernelIdeal.Value.want m c,
    (θ_run Cert.FfnKernelIdeal.defs _ _).mono (fun _ h c => ⟨(h c).1.trans (Cert.FfnKernelIdeal.Value.final_want m c), (h c).2⟩)
      (Cert.FfnKernelIdeal.Value.run_blocks m ρ), ?_⟩
  refine (θ_run Cert.FfnReferenceIdeal.defs _ _).mono (fun _ h c => ⟨(h c).1.trans ?_, (h c).2⟩) (Cert.FfnReferenceIdeal.Value.run (F := Ideal) m' ρ')
  obtain ⟨e0, e1, e2, e3, e4, e5, e6⟩ := hagree c
  refine (Cert.FfnReferenceIdeal.Read.val_main_v49_eq (F := Ideal) m' c).trans ?_
  rw [e0, e1, e2, e3, e4, e5, e6]

theorem algebraic_merge : Cert.algebraic_MergeKernelIdeal_MergeReferenceIdeal := by
  intro m ρ m' ρ' _ hagree
  refine ⟨fun c => Cert.MergeKernelIdeal.Value.want m c,
    (θ_run Cert.MergeKernelIdeal.defs _ _).mono (fun _ h c => ⟨(h c).1.trans (Cert.MergeKernelIdeal.Value.final_want m c), (h c).2⟩)
      (Cert.MergeKernelIdeal.Value.run_blocks m ρ), ?_⟩
  refine (θ_run Cert.MergeReferenceIdeal.defs _ _).mono (fun _ h c => ⟨(h c).1.trans ?_, (h c).2⟩) (Cert.MergeReferenceIdeal.Value.run (F := Ideal) m' ρ')
  obtain ⟨e0, e1, e2, e3, e4, e5, e6, e7, e8, e9, e10, e11, e12⟩ := hagree c
  refine (Cert.MergeReferenceIdeal.Read.val_main_v85_eq (F := Ideal) m' c).trans ?_
  rw [e0, e1, e2, e3, e4, e5, e6, e7, e8, e9, e10, e11, e12]

theorem algebraic_comb : Cert.algebraic_CombKernelIdeal_CombReferenceIdeal := by
  intro m ρ m' ρ' _ hagree
  refine ⟨fun c => Cert.CombKernelIdeal.Value.want m c,
    (θ_run Cert.CombKernelIdeal.defs _ _).mono (fun _ h c => ⟨(h c).1.trans (Cert.CombKernelIdeal.Value.final_want m c), (h c).2⟩)
      (Cert.CombKernelIdeal.Value.run_blocks m ρ), ?_⟩
  refine (θ_run Cert.CombReferenceIdeal.defs _ _).mono (fun _ h c => ⟨(h c).1.trans ?_, (h c).2⟩) (Cert.CombReferenceIdeal.Value.run (F := Ideal) m' ρ')
  obtain ⟨e0, e1, e2, e3, e4, e5, e6⟩ := hagree c
  refine (Cert.CombReferenceIdeal.Read.val_main_v39_eq (F := Ideal) m' c).trans ?_
  rw [e0, e1, e2, e3, e4, e5, e6]

end Cert.Proof

end
-- ==== Proof.RetRun.lean ====
/-
  The whole body's run: the skeletons executed, each buffer's stores listed. The two rotated buffers are filled by loops,
  each trip storing its block of rows; the blocks cover the buffer, so what it held before is nowhere read.
-/
module

public import proofs.«01_k».proof.Proof.Gen.RetKernelIdeal.Frame.Runs

@[expose] public section

set_option maxRecDepth 16384

noncomputable section

namespace Cert.RetKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Stores that cover a whole buffer leave nothing of what it held. -/
theorem writes_cover {κ : Kind} {sp : Space} {s : Shape} {e : EltTy} {b : Memref sig κ sp s e} (hw : b.IsWhole) (f : b.view.ty.Contents (Elt F)) (L : List (View.Piece (Elt F) s e))
    (hc : ∀ y : s.Idx, ∃ p ∈ L, y ∈ p.1.set) : b.view.writes (Elt F) f L = b.view.writes (Elt F) b.view.junk L := by
  obtain ⟨r, rfl, rfl, rfl, h⟩ := hw; cases h
  funext y
  exact View.read_writes_apply_eq (View.whole r) f (View.whole r) (View.whole r).junk y L (hc y)

theorem cover_t1 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (X3 : BufTy.Contents (Elt F) arg3.view.ty) (X8 : BufTy.Contents (Elt F) arg8.view.ty) (X9 : BufTy.Contents (Elt F) arg9.view.ty) (y : S2048x256.Idx) :
    ∃ p ∈ pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 (Scf.trips k0_t1_loop.lb k0_t1_loop.ub k0_t1_loop.st), y ∈ p.1.set :=
  View.cover_of_tiledL (pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 (Scf.trips k0_t1_loop.lb k0_t1_loop.ub k0_t1_loop.st)) S256x256.size (by sl_kernel_rfl) y

theorem cover_t2 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (X2 : BufTy.Contents (Elt F) arg2.view.ty) (X8 : BufTy.Contents (Elt F) arg8.view.ty) (X9 : BufTy.Contents (Elt F) arg9.view.ty) (y : S2048x256.Idx) :
    ∃ p ∈ pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 (Scf.trips k0_t2_loop.lb k0_t2_loop.ub k0_t2_loop.st), y ∈ p.1.set :=
  View.cover_of_tiledL (pb_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 (Scf.trips k0_t2_loop.lb k0_t2_loop.ub k0_t2_loop.st)) S256x256.size (by sl_kernel_rfl) y

set_option maxHeartbeats 2000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (x0 : Vec F S2048x256 .bf16) (x1 : Vec F S2048x256 .bf16) (x2 : Vec F S2048x512 .bf16) (x3 : Vec F S2048x512 .bf16) (x4 : Vec F S256x256 .bf16) (x5 : Vec F S256x512 .bf16) (x6 : Vec F S2304x128 .f32) (x7 : Vec F S2304x128 .f32) (x8 : Vec F S2x1x256x256 .f32) (x9 : Vec F S2x1x512x128 .f32) (x10 : Vec F S2x1x8x128 .f32) :
    { L11 : List (View.Piece (Elt F) S2048x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
          ⊢ wp frame (wpE (defs₀ (F := F)) Variants.none c none) E (cc0_retention_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_retention_scan_eq_skeleton]; unfold cc0_retention_scan_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec
    sl_step
    rw [writes_cover harg14 fs0 _ (cover_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x0) (harg8.unread x6) (harg9.unread x7)),
      writes_cover harg15 fs1 _ (cover_t1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg8.unread x6) (harg9.unread x7))]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.RetKernelIdeal.Gen

end
-- ==== Proof.RetFrame.lean ====
/-
  What the outputs hold after each point, the proof data, the body obligation, the run and the frame.
-/
module

public import proofs.«01_k».proof.Proof.RetRun
public import Idealize.ShloMosaic.Lib.Claim

@[expose] public section

set_option maxRecDepth 16384

noncomputable section

namespace Cert.RetKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 11 tile its block (8 stores of `S256x512`, checked by the kernel's evaluation: Lib/Ring.lean `Piece.tiledL`, linear in the pieces, through a loop's `@[irreducible]` trip theorem too), so they cover it. -/
theorem cover0_A_11 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (x0 : Vec F S2048x256 .bf16) (x1 : Vec F S2048x256 .bf16) (x2 : Vec F S2048x512 .bf16) (x3 : Vec F S2048x512 .bf16) (x4 : Vec F S256x256 .bf16) (x5 : Vec F S256x512 .bf16) (x6 : Vec F S2304x128 .f32) (x7 : Vec F S2304x128 .f32) (x8 : Vec F S2x1x256x256 .f32) (x9 : Vec F S2x1x512x128 .f32) (x10 : Vec F S2x1x8x128 .f32) (y : S2048x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).1 S256x512.size (by sl_kernel_rfl) y

/-- What the run leaves in output 11's staging buffer: its pieces read back over junk. -/
def out0_A_11 (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (x0 : Vec F S2048x256 .bf16) (x1 : Vec F S2048x256 .bf16) (x2 : Vec F S2048x512 .bf16) (x3 : Vec F S2048x512 .bf16) (x4 : Vec F S256x256 .bf16) (x5 : Vec F S256x512 .bf16) (x6 : Vec F S2304x128 .f32) (x7 : Vec F S2304x128 .f32) (x8 : Vec F S2x1x256x256 .f32) (x9 : Vec F S2x1x512x128 .f32) (x10 : Vec F S2x1x8x128 .f32) : Vec F S2048x512 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).1)

/-! ## What the outputs hold after each point -/

/-- What the outputs' staging buffers hold after the body at point `t`: the run's contents at
    the point's memrefs and input blocks. -/
def outsAt0 (c : Dev nD) (t : Fin cfg0.N) : Vec F S2048x512 .bf16 :=
  out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t)
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_11
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, ⟨%e11, H11⟩, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- THE FRAME: `Cert.quiescent_RetKernelIdeal`'s statement (Defs.lean) at any `F` — Proof.lean cites it at `Bits`:
    `theorem Cert.Proof.claim : Cert.Claim := ⟨Cert.RetKernelIdeal.Gen.facts, fun m ρ _ => Cert.RetKernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.RetKernelIdeal.Gen

end
-- ==== Proof.RetPay.lean ====
module

public import proofs.«01_k».proof.Proof.Gen.RetKernelIdeal.Skeleton
public import Idealize.ShloMosaic.Lib.Pointwise

@[expose] public section
set_option maxRecDepth 16384
noncomputable section

namespace Cert.RetKernelIdeal.RetScan
open Cert.RetKernelIdeal Cert.RetKernelIdeal.Gen Idealize.ShloMosaic

/-- A column of the first half of a head's 256. -/
abbrev lo (e : Fin 128) : Fin 256 := ⟨e.val, by have := e.isLt; omega⟩
/-- A column of the second half. -/
abbrev hi (e : Fin 128) : Fin 256 := ⟨128 + e.val, by have := e.isLt; omega⟩

theorem pay10_lo (x : Vec Ideal S256x256 .bf16) (cs sn : Vec Ideal S256x128 .f32) (r : Fin 256) (e : Fin 128) :
    k0_pay10 x cs sn (ix2 r (lo e)) = (x (ix2 r (lo e)) * cs (ix2 r e) - x (ix2 r (hi e)) * sn (ix2 r e)) * Ideal.ofBits FTy.f32 0x3D800000#32 := by
  pointwise [k0_pay10]

theorem pay10_hi (x : Vec Ideal S256x256 .bf16) (cs sn : Vec Ideal S256x128 .f32) (r : Fin 256) (e : Fin 128) :
    k0_pay10 x cs sn (ix2 r (hi e)) = (x (ix2 r (lo e)) * sn (ix2 r e) + x (ix2 r (hi e)) * cs (ix2 r e)) * Ideal.ofBits FTy.f32 0x3D800000#32 := by
  pointwise [k0_pay10]

theorem pay11_eq (x : Vec Ideal S256x256 .bf16) (cs sn : Vec Ideal S256x128 .f32) : k0_pay11 x cs sn = k0_pay10 x cs sn := rfl

theorem pay12_lo (x : Vec Ideal S256x256 .bf16) (cs sn : Vec Ideal S256x128 .f32) (r : Fin 256) (e : Fin 128) :
    k0_pay12 x cs sn (ix2 r (lo e)) = (x (ix2 r (lo e)) * cs (ix2 r e) - x (ix2 r (hi e)) * sn (ix2 r e)) * Ideal.ofBits FTy.f32 0x3F800000#32 := by
  pointwise [k0_pay12]

theorem pay12_hi (x : Vec Ideal S256x256 .bf16) (cs sn : Vec Ideal S256x128 .f32) (r : Fin 256) (e : Fin 128) :
    k0_pay12 x cs sn (ix2 r (hi e)) = (x (ix2 r (lo e)) * sn (ix2 r e) + x (ix2 r (hi e)) * cs (ix2 r e)) * Ideal.ofBits FTy.f32 0x3F800000#32 := by
  pointwise [k0_pay12]

/-- The state's update: the old state decayed, and the block's keys, each decayed, against its values. The key-decay table
    has one column repeated, and so has the state's. -/
theorem upd_apply (kd : Vec Ideal S1x1x256x128 .f32) (sd : Vec Ideal S1x1x1x128 .f32) (k : Vec Ideal S256x256 .bf16) (s : Vec Ideal S256x512 .f32)
    (v : Vec Ideal S256x512 .bf16) (fk fs : Fin 256 → EReal) (d : Fin 256) (e : Fin 512)
    (hk : ∀ i e, kd (ix4 0 0 i e) = fk i) (w : EReal) (hs : ∀ e, sd (ix4 0 0 0 e) = w) :
    k0_pay1 kd sd k s v (ix2 d e) = s (ix2 d e) * w + ∑ i : Fin 256, k (ix2 i d) * fk i * v (ix2 i e) := by
  pointwise [k0_pay1]
  simp only [hs, hk, dite_eq_ite, ite_self]

theorem pay9_eq (kd : Vec Ideal S1x1x256x128 .f32) (sd : Vec Ideal S1x1x1x128 .f32) (k : Vec Ideal S256x256 .bf16) (s : Vec Ideal S256x512 .f32)
    (v : Vec Ideal S256x512 .bf16) : k0_pay9 kd sd k s v = k0_pay1 kd sd k s v := rfl
theorem pay17_eq (kd : Vec Ideal S1x1x256x128 .f32) (sd : Vec Ideal S1x1x1x128 .f32) (k : Vec Ideal S256x256 .bf16) (s : Vec Ideal S256x512 .f32)
    (v : Vec Ideal S256x512 .bf16) : k0_pay17 kd sd k s v = k0_pay1 kd sd k s v := rfl
theorem pay5_eq (kd : Vec Ideal S1x1x256x128 .f32) (sd : Vec Ideal S1x1x1x128 .f32) (k : Vec Ideal S256x256 .bf16) (s : Vec Ideal S256x512 .f32)
    (v : Vec Ideal S256x512 .bf16) : k0_pay5 (k0_pay4 kd) sd k s v = k0_pay1 kd sd k s v := rfl

/-- A block's outputs added to what was there. -/
theorem pay3_apply (qd : Vec Ideal S1x1x256x128 .f32) (q k : Vec Ideal S256x256 .bf16) (im : Vec Ideal S1x1x256x256 .f32) (o s : Vec Ideal S256x512 .f32)
    (v : Vec Ideal S256x512 .bf16) (fq : Fin 256 → EReal) (hq : ∀ i e, qd (ix4 0 0 i e) = fq i) (i : Fin 256) (e : Fin 512) :
    k0_pay3 qd q k im o s v (ix2 i e) = o (ix2 i e) + ((∑ d : Fin 256, q (ix2 i d) * fq i * s (ix2 d e))
      + ∑ j : Fin 256, ((∑ d : Fin 256, q (ix2 i d) * k (ix2 j d)) * im (ix4 0 0 i j)) * v (ix2 j e)) := by
  pointwise [k0_pay3]
  simp only [hq]
  rw [Fin.sum_univ_two_halves 128 128 rfl (f := fun d : Fin 256 => q (ix2 i d) * fq i * s (ix2 d e))]

theorem pay8_eq (qd : Vec Ideal S1x1x256x128 .f32) (q k : Vec Ideal S256x256 .bf16) (im : Vec Ideal S1x1x256x256 .f32) (o s : Vec Ideal S256x512 .f32)
    (v : Vec Ideal S256x512 .bf16) : k0_pay8 (k0_pay6 q k im) (k0_pay7 qd q) o s v = k0_pay3 qd q k im o s v := rfl

theorem pay14_apply (d : Fin 256) (e : Fin 512) : k0_pay14 (F := Ideal) k0_pay13 (ix2 d e) = 0 := by pointwise [k0_pay13, k0_pay14]
theorem pay15_apply (d : Fin 256) (e : Fin 512) : k0_pay15 (F := Ideal) (ix2 d e) = 0 := by pointwise [k0_pay15]
theorem pay16_apply (d : Fin 2048) (e : Fin 512) : k0_pay16 (F := Ideal) (ix2 d e) = 0 := by pointwise [k0_pay16]

theorem pay2_apply (o : Vec Ideal S256x512 .f32) (g : Vec Ideal S256x512 .bf16) (r : Fin 256) (e : Fin 512) :
    k0_pay2 o g (ix2 r e) = o (ix2 r e) * Ideal.rsqrt (Ideal.div (∑ j : Fin 512, o (ix2 r j) * o (ix2 r j)) (Ideal.ofBits FTy.f32 0x44000000#32) + Ideal.ofBits FTy.f32 0x3727C5AC#32)
      * (g (ix2 r e) * Ideal.logistic (g (ix2 r e))) := by
  pointwise [k0_pay2]

end Cert.RetKernelIdeal.RetScan
end
-- ==== Proof.RetBody.lean ====
module

public import proofs.«01_k».proof.Proof.Gen.RetKernelIdeal.Frame.Runs
public import proofs.«01_k».proof.Proof.RetPay
public import Idealize.ShloMosaic.Lib.WritesUnit
public import Idealize.ShloMosaic.Lib.VecWindow
public import Idealize.ShloMosaic.Lib.Pipeline.Value
public import Idealize.ShloMosaic.Lib.Pipeline.ValueKit.Tiles
public import Idealize.ShloMosaic.Lib.Tactic

@[expose] public section
set_option maxRecDepth 16384
noncomputable section

namespace Cert.RetKernelIdeal.RetScan
open Cert.RetKernelIdeal Cert.RetKernelIdeal.Gen
open Idealize.ShloMosaic Idealize.ShloMosaic.TcCoe Idealize.SL.Sem

/-- The 256 rows of a two-dimensional array from row `o` on. -/
def rows {α : Type} {n C : ℕ} (o : ℕ) (h : o + 256 ≤ n) (X : (⟨2, ![n, C]⟩ : Shape).Idx → α) : (⟨2, ![256, C]⟩ : Shape).Idx → α :=
  fun y => X (ix2 (⟨o + (y 0).val, by have h0 : (y 0).val < 256 := (y 0).isLt; omega⟩ : Fin n) (y 1 : Fin C))

theorem rows_apply {α : Type} {n C : ℕ} (o : ℕ) (h : o + 256 ≤ n) (X : (⟨2, ![n, C]⟩ : Shape).Idx → α) (i : Fin 256) (d : Fin C) :
    rows o h X (ix2 i d) = X (ix2 (⟨o + i.val, by have := i.isLt; omega⟩ : Fin n) d) := rfl

theorem ld_rows {e : EltTy} {n C : ℕ} (X : (⟨2, ![n, C]⟩ : Shape).Idx → Elt Ideal e) (off : Fin 2 → ℕ) (o : ℕ)
    (inb : ∀ a : Fin 2, off a + (![256, C] : Fin 2 → ℕ) a ≤ (![n, C] : Fin 2 → ℕ) a) (hoff : off = ![o, 0]) (h : o + 256 ≤ n) :
    View.ld X (Rect.unit (s := ⟨2, ![n, C]⟩) off ![256, C] inb) = rows o h X := by
  subst hoff
  funext y
  refine View.ld_unit_apply_of X _ _ _ y _ fun a => ?_
  match a with
  | ⟨0, _⟩ => rfl
  | ⟨1, _⟩ => show (y 1).val = 0 + (y 1).val; omega

theorem off1 : ∀ k : Fin k0_t1_loop.trips, k0_off1 k = ![256 * k.val, 0] := by decide +kernel
theorem off2 : ∀ k : Fin k0_t1_loop.trips, k0_off2 k = ![256 + 256 * k.val, 0] := by decide +kernel
theorem off5 : ∀ k : Fin k0_t2_loop.trips, k0_off5 k = ![256 * k.val, 0] := by decide +kernel
theorem off6 : ∀ k : Fin k0_t2_loop.trips, k0_off6 k = ![256 + 256 * k.val, 0] := by decide +kernel
theorem off10 : ∀ k : Fin k0_t3_loop.trips, k0_off10 k = ![256 * k.val, 0] := by decide +kernel
theorem off11 : ∀ k : Fin k0_t3_loop.trips, k0_off11 k = ![256 * k.val, 0] := by decide +kernel
theorem off12 : ∀ k : Fin k0_t3_loop.trips, k0_off12 k = ![256 * (7 - k.val), 0] := by decide +kernel
theorem off13 : ∀ k : Fin k0_t3_loop.trips, k0_off13 k = ![256 * (7 - k.val), 0] := by decide +kernel
theorem off14 : ∀ k : Fin k0_t4_loop.trips, k0_off14 k = ![256 * k.val, 0] := by decide +kernel

theorem lt1 (k : Fin k0_t1_loop.trips) : k.val < 8 := k.isLt
theorem lt2 (k : Fin k0_t2_loop.trips) : k.val < 8 := k.isLt
theorem lt3 (k : Fin k0_t3_loop.trips) : k.val < 8 := k.isLt
theorem lt4 (k : Fin k0_t4_loop.trips) : k.val < 8 := k.isLt

/-- Block `j` of 256 rows out of 2048. -/
abbrev blk {α : Type} {C : ℕ} (j : Fin 8) (X : (⟨2, ![2048, C]⟩ : Shape).Idx → α) : (⟨2, ![256, C]⟩ : Shape).Idx → α :=
  rows (256 * j.val) (by have := j.isLt; omega) X
/-- Block `j + 1` of 256 rows out of 2304. -/
abbrev tab {α : Type} {C : ℕ} (j : Fin 8) (X : (⟨2, ![2304, C]⟩ : Shape).Idx → α) : (⟨2, ![256, C]⟩ : Shape).Idx → α :=
  rows (256 + 256 * j.val) (by have := j.isLt; omega) X

/-- A store of a block of rows, read back: the block itself. -/
theorem blk_hit {e : EltTy} {C : ℕ} (v : View sig .tc .vmem (⟨2, ![2048, C]⟩ : Shape) e) (f : v.ty.Contents (Elt Ideal)) (off : Fin 2 → ℕ) (j : Fin 8)
    (inb : ∀ a : Fin 2, off a + (![256, C] : Fin 2 → ℕ) a ≤ (![2048, C] : Fin 2 → ℕ) a) (hoff : off = ![256 * j.val, 0])
    (w : (⟨2, ![256, C]⟩ : Shape).Idx → Elt Ideal e) (L : List (View.Piece (Elt Ideal) (⟨2, ![2048, C]⟩ : Shape) e)) :
    blk j (v.read (Elt Ideal) (v.writes (Elt Ideal) f ((⟨Rect.unit (s := ⟨2, ![2048, C]⟩) off ![256, C] inb, w⟩ : View.Piece (Elt Ideal) (⟨2, ![2048, C]⟩ : Shape) e) :: L))) = w := by
  funext y
  exact View.read_writes_cons_rows_of_mem v f inb w L _ y hoff rfl rfl

/-- … and every other block is as it was. -/
theorem blk_miss {e : EltTy} {C : ℕ} (v : View sig .tc .vmem (⟨2, ![2048, C]⟩ : Shape) e) (f : v.ty.Contents (Elt Ideal)) (off : Fin 2 → ℕ) (j j' : Fin 8) (hj : j' ≠ j)
    (inb : ∀ a : Fin 2, off a + (![256, C] : Fin 2 → ℕ) a ≤ (![2048, C] : Fin 2 → ℕ) a) (hoff : off = ![256 * j.val, 0])
    (w : (⟨2, ![256, C]⟩ : Shape).Idx → Elt Ideal e) (L : List (View.Piece (Elt Ideal) (⟨2, ![2048, C]⟩ : Shape) e)) :
    blk j' (v.read (Elt Ideal) (v.writes (Elt Ideal) f ((⟨Rect.unit (s := ⟨2, ![2048, C]⟩) off ![256, C] inb, w⟩ : View.Piece (Elt Ideal) (⟨2, ![2048, C]⟩ : Shape) e) :: L)))
      = blk j' (v.read (Elt Ideal) (v.writes (Elt Ideal) f L)) := by
  funext y
  refine View.read_writes_cons_rows_of_not_mem v f (W := 256) inb w L _ hoff rfl ?_
  have hne : j'.val ≠ j.val := fun h => hj (Fin.ext h)
  have h0 : (y 0).val < 256 := (y 0).isLt
  show 256 * j'.val + (y 0).val < 256 * j.val ∨ 256 * j.val + 256 ≤ 256 * j'.val + (y 0).val
  omega

section
variable (𝒱 : Variants) (c : Dev nD) (bd : Option 𝒱.V) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)

theorem trip1 (X3 : BufTy.Contents (Elt Ideal) arg3.view.ty) (X8 : BufTy.Contents (Elt Ideal) arg8.view.ty) (X9 : BufTy.Contents (Elt Ideal) arg9.view.ty) (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 k
      = [⟨Rect.unit (k0_off1 k) S256x256.size (k0_off1_inb k), k0_pay10 (blk ⟨k.val, lt1 k⟩ (arg3.view.read (Elt Ideal) X3))
          (tab ⟨k.val, lt1 k⟩ (arg8.view.read (Elt Ideal) X8)) (tab ⟨k.val, lt1 k⟩ (arg9.view.read (Elt Ideal) X9))⟩] := by
  rw [show blk ⟨k.val, lt1 k⟩ (arg3.view.read (Elt Ideal) X3) = _ from (ld_rows _ _ _ (k0_off1_inb k) (off1 k) _).symm,
    show tab ⟨k.val, lt1 k⟩ (arg8.view.read (Elt Ideal) X8) = _ from (ld_rows _ _ _ (k0_off2_inb k) (off2 k) _).symm,
    show tab ⟨k.val, lt1 k⟩ (arg9.view.read (Elt Ideal) X9) = _ from (ld_rows _ _ _ (k0_off2_inb k) (off2 k) _).symm]
  unfold tripL_k0_t1 trip_k0_t1
  rfl

theorem krl_blk (X3 : BufTy.Contents (Elt Ideal) arg3.view.ty) (X8 : BufTy.Contents (Elt Ideal) arg8.view.ty) (X9 : BufTy.Contents (Elt Ideal) arg9.view.ty)
    (G : BufTy.Contents (Elt Ideal) arg15.view.ty) (n : ℕ) (hn : n ≤ k0_t1_loop.trips) (j : Fin 8) (hj : j.val < n) :
    blk j (arg15.view.read (Elt Ideal) (arg15.view.writes (Elt Ideal) G (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 n)))
      = k0_pay10 (blk j (arg3.view.read (Elt Ideal) X3)) (tab j (arg8.view.read (Elt Ideal) X8)) (tab j (arg9.view.read (Elt Ideal) X9)) := by
  induction n with
  | zero => omega
  | succ n ih =>
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 ⟨n, hn⟩
    rw [trip1] at e
    rw [show pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X3 X8 X9 (n + 1) = _ from e, List.singleton_append]
    by_cases h : j.val = n
    · obtain rfl : j = ⟨n, lt1 ⟨n, hn⟩⟩ := Fin.ext h
      exact blk_hit arg15.view G (k0_off1 ⟨n, hn⟩) _ (k0_off1_inb ⟨n, hn⟩) (off1 ⟨n, hn⟩) _ _
    · refine (blk_miss arg15.view G (k0_off1 ⟨n, hn⟩) ⟨n, lt1 ⟨n, hn⟩⟩ j (fun h' => h (congrArg Fin.val h')) (k0_off1_inb ⟨n, hn⟩) (off1 ⟨n, hn⟩) _ _).trans ?_
      exact ih (by omega) (by omega)

theorem trip2 (X2 : BufTy.Contents (Elt Ideal) arg2.view.ty) (X8 : BufTy.Contents (Elt Ideal) arg8.view.ty) (X9 : BufTy.Contents (Elt Ideal) arg9.view.ty) (k : Fin k0_t2_loop.trips) :
    tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 k
      = [⟨Rect.unit (k0_off5 k) S256x256.size (k0_off5_inb k), k0_pay12 (blk ⟨k.val, lt2 k⟩ (arg2.view.read (Elt Ideal) X2))
          (tab ⟨k.val, lt2 k⟩ (arg8.view.read (Elt Ideal) X8)) (tab ⟨k.val, lt2 k⟩ (arg9.view.read (Elt Ideal) X9))⟩] := by
  rw [show blk ⟨k.val, lt2 k⟩ (arg2.view.read (Elt Ideal) X2) = _ from (ld_rows _ _ _ (k0_off5_inb k) (off5 k) _).symm,
    show tab ⟨k.val, lt2 k⟩ (arg8.view.read (Elt Ideal) X8) = _ from (ld_rows _ _ _ (k0_off6_inb k) (off6 k) _).symm,
    show tab ⟨k.val, lt2 k⟩ (arg9.view.read (Elt Ideal) X9) = _ from (ld_rows _ _ _ (k0_off6_inb k) (off6 k) _).symm]
  unfold tripL_k0_t2 trip_k0_t2
  rfl

theorem qrl_blk (X2 : BufTy.Contents (Elt Ideal) arg2.view.ty) (X8 : BufTy.Contents (Elt Ideal) arg8.view.ty) (X9 : BufTy.Contents (Elt Ideal) arg9.view.ty)
    (G : BufTy.Contents (Elt Ideal) arg14.view.ty) (n : ℕ) (hn : n ≤ k0_t2_loop.trips) (j : Fin 8) (hj : j.val < n) :
    blk j (arg14.view.read (Elt Ideal) (arg14.view.writes (Elt Ideal) G (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 n)))
      = k0_pay12 (blk j (arg2.view.read (Elt Ideal) X2)) (tab j (arg8.view.read (Elt Ideal) X8)) (tab j (arg9.view.read (Elt Ideal) X9)) := by
  induction n with
  | zero => omega
  | succ n ih =>
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 ⟨n, hn⟩
    rw [trip2] at e
    rw [show pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X2 X8 X9 (n + 1) = _ from e, List.singleton_append]
    by_cases h : j.val = n
    · obtain rfl : j = ⟨n, lt2 ⟨n, hn⟩⟩ := Fin.ext h
      exact blk_hit arg14.view G (k0_off5 ⟨n, hn⟩) _ (k0_off5_inb ⟨n, hn⟩) (off5 ⟨n, hn⟩) _ _
    · refine (blk_miss arg14.view G (k0_off5 ⟨n, hn⟩) ⟨n, lt2 ⟨n, hn⟩⟩ j (fun h' => h (congrArg Fin.val h')) (k0_off5_inb ⟨n, hn⟩) (off5 ⟨n, hn⟩) _ _).trans ?_
      exact ih (by omega) (by omega)

end

end Cert.RetKernelIdeal.RetScan
end
-- ==== Proof.RetLoop.lean ====
module

public import proofs.«01_k».proof.Proof.Gen.RetKernelIdeal.Frame.Runs
public import proofs.«01_k».proof.Proof.RetBody
public import Idealize.ShloMosaic.Lib.WritesUnit
public import Idealize.ShloMosaic.Lib.VecWindow
public import Idealize.ShloMosaic.Lib.Pipeline.Value
public import Idealize.ShloMosaic.Lib.Pipeline.ValueKit.Tiles
public import Idealize.ShloMosaic.Lib.Pointwise
public import Idealize.ShloMosaic.Lib.Tactic

@[expose] public section
set_option maxRecDepth 16384
noncomputable section

namespace Cert.RetKernelIdeal.RetScan
open Cert.RetKernelIdeal Cert.RetKernelIdeal.Gen
open Idealize.ShloMosaic Idealize.ShloMosaic.TcCoe Idealize.SL.Sem

/-- One direction's decay mask. -/
def imv (d : Fin 2) (T : Vec Ideal S2x1x256x256 .f32) : Vec Ideal S1x1x256x256 .f32 := fun y => T (ix4 d 0 (y 2 : Fin 256) (y 3 : Fin 256))
/-- One direction's query decay. -/
def qdv (d : Fin 2) (T : Vec Ideal S2x1x512x128 .f32) : Vec Ideal S1x1x256x128 .f32 :=
  fun y => T (ix4 d 0 (⟨(y 2).val, by have h : (y 2).val < 256 := (y 2).isLt; omega⟩ : Fin 512) (y 3 : Fin 128))
/-- One direction's key decay. -/
def kdv (d : Fin 2) (T : Vec Ideal S2x1x512x128 .f32) : Vec Ideal S1x1x256x128 .f32 :=
  fun y => T (ix4 d 0 (⟨256 + (y 2).val, by have h : (y 2).val < 256 := (y 2).isLt; omega⟩ : Fin 512) (y 3 : Fin 128))
/-- One direction's state decay. -/
def sdv (d : Fin 2) (T : Vec Ideal S2x1x8x128 .f32) : Vec Ideal S1x1x1x128 .f32 := fun y => T (ix4 d 0 0 (y 3 : Fin 128))

theorem ld_imv (d : Fin 2) (T : Vec Ideal S2x1x256x256 .f32) (inb : ∀ a : Fin 4, (![d.val, 0, 0, 0] : Fin 4 → ℕ) a + S1x1x256x256.size a ≤ S2x1x256x256.size a) :
    View.ld (Val := Elt Ideal) (e' := .f32) T (Rect.unit (s := S2x1x256x256) ![d.val, 0, 0, 0] S1x1x256x256.size inb) = imv d T := by
  funext y
  refine View.ld_unit_apply_of T _ _ _ y _ fun a => ?_
  match a with
  | ⟨0, _⟩ => show d.val = d.val + (y 0).val; have : (y 0).val < 1 := (y 0).isLt; omega
  | ⟨1, _⟩ => show 0 = 0 + (y 1).val; have : (y 1).val < 1 := (y 1).isLt; omega
  | ⟨2, _⟩ => show (y 2).val = 0 + (y 2).val; omega
  | ⟨3, _⟩ => show (y 3).val = 0 + (y 3).val; omega

theorem ld_qdv (d : Fin 2) (T : Vec Ideal S2x1x512x128 .f32) (inb : ∀ a : Fin 4, (![d.val, 0, 0, 0] : Fin 4 → ℕ) a + S1x1x256x128.size a ≤ S2x1x512x128.size a) :
    View.ld (Val := Elt Ideal) (e' := .f32) T (Rect.unit (s := S2x1x512x128) ![d.val, 0, 0, 0] S1x1x256x128.size inb) = qdv d T := by
  funext y
  refine View.ld_unit_apply_of T _ _ _ y _ fun a => ?_
  match a with
  | ⟨0, _⟩ => show d.val = d.val + (y 0).val; have : (y 0).val < 1 := (y 0).isLt; omega
  | ⟨1, _⟩ => show 0 = 0 + (y 1).val; have : (y 1).val < 1 := (y 1).isLt; omega
  | ⟨2, _⟩ => show (y 2).val = 0 + (y 2).val; omega
  | ⟨3, _⟩ => show (y 3).val = 0 + (y 3).val; omega

theorem ld_kdv (d : Fin 2) (T : Vec Ideal S2x1x512x128 .f32) (inb : ∀ a : Fin 4, (![d.val, 0, 256, 0] : Fin 4 → ℕ) a + S1x1x256x128.size a ≤ S2x1x512x128.size a) :
    View.ld (Val := Elt Ideal) (e' := .f32) T (Rect.unit (s := S2x1x512x128) ![d.val, 0, 256, 0] S1x1x256x128.size inb) = kdv d T := by
  funext y
  refine View.ld_unit_apply_of T _ _ _ y _ fun a => ?_
  match a with
  | ⟨0, _⟩ => show d.val = d.val + (y 0).val; have : (y 0).val < 1 := (y 0).isLt; omega
  | ⟨1, _⟩ => show 0 = 0 + (y 1).val; have : (y 1).val < 1 := (y 1).isLt; omega
  | ⟨2, _⟩ => show 256 + (y 2).val = 256 + (y 2).val; omega
  | ⟨3, _⟩ => show (y 3).val = 0 + (y 3).val; omega

theorem ld_sdv (d : Fin 2) (T : Vec Ideal S2x1x8x128 .f32) (inb : ∀ a : Fin 4, (![d.val, 0, 0, 0] : Fin 4 → ℕ) a + S1x1x1x128.size a ≤ S2x1x8x128.size a) :
    View.ld (Val := Elt Ideal) (e' := .f32) T (Rect.unit (s := S2x1x8x128) ![d.val, 0, 0, 0] S1x1x1x128.size inb) = sdv d T := by
  funext y
  refine View.ld_unit_apply_of T _ _ _ y _ fun a => ?_
  match a with
  | ⟨0, _⟩ => show d.val = d.val + (y 0).val; have : (y 0).val < 1 := (y 0).isLt; omega
  | ⟨1, _⟩ => show 0 = 0 + (y 1).val; have : (y 1).val < 1 := (y 1).isLt; omega
  | ⟨2, _⟩ => show 0 = 0 + (y 2).val; have : (y 2).val < 1 := (y 2).isLt; omega
  | ⟨3, _⟩ => show (y 3).val = 0 + (y 3).val; omega

theorem pay3_add (qd : Vec Ideal S1x1x256x128 .f32) (q k : Vec Ideal S256x256 .bf16) (im : Vec Ideal S1x1x256x256 .f32) (o s : Vec Ideal S256x512 .f32)
    (v : Vec Ideal S256x512 .bf16) (y : S256x512.Idx) :
    k0_pay3 qd q k im o s v y = o y + k0_pay3 qd q k im (fun _ => (0 : EReal)) s v y := by
  obtain ⟨i, e, rfl⟩ : ∃ (i : Fin 256) (e : Fin 512), y = ix2 i e := ⟨y 0, y 1, by funext a; match a with | ⟨0, _⟩ => rfl | ⟨1, _⟩ => rfl⟩
  have h : ∀ o' : Vec Ideal S256x512 .f32, k0_pay3 qd q k im o' s v (ix2 i e) = o' (ix2 i e) + (k0_pay3 qd q k im (fun _ => (0 : EReal)) s v (ix2 i e) : EReal) := by
    intro o'
    pointwise [k0_pay3]
  exact h o

/-- The block the reverse direction takes at step `j`. -/
abbrev rv (j : Fin 8) : Fin 8 := ⟨7 - j.val, by omega⟩

theorem hz2 : (![0, 0] : Fin 2 → ℕ) = fun _ => 0 := by funext a; match a with | ⟨0, _⟩ => rfl | ⟨1, _⟩ => rfl

/-- What one direction adds to block `j`'s outputs, from the state before it. -/
def con (d : Fin 2) (T10 : Vec Ideal S2x1x256x256 .f32) (T11 : Vec Ideal S2x1x512x128 .f32) (Q K : Vec Ideal S2048x256 .bf16) (W : Vec Ideal S2048x512 .bf16)
    (j : Fin 8) (o s : Vec Ideal S256x512 .f32) : Vec Ideal S256x512 .f32 :=
  k0_pay3 (qdv d T11) (blk j Q) (blk j K) (imv d T10) o s (blk j W)
/-- One direction's state after block `j`. -/
def upd (d : Fin 2) (T11 : Vec Ideal S2x1x512x128 .f32) (T12 : Vec Ideal S2x1x8x128 .f32) (K : Vec Ideal S2048x256 .bf16) (W : Vec Ideal S2048x512 .bf16)
    (j : Fin 8) (s : Vec Ideal S256x512 .f32) : Vec Ideal S256x512 .f32 :=
  k0_pay1 (kdv d T11) (sdv d T12) (blk j K) s (blk j W)

section
variable (𝒱 : Variants) (c : Dev nD) (bd : Option 𝒱.V) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
  (X4 : BufTy.Contents (Elt Ideal) arg4.view.ty) (X10 : BufTy.Contents (Elt Ideal) arg10.view.ty) (X11 : BufTy.Contents (Elt Ideal) arg11.view.ty)
  (X12 : BufTy.Contents (Elt Ideal) arg12.view.ty) (X14 : BufTy.Contents (Elt Ideal) arg14.view.ty) (X15 : BufTy.Contents (Elt Ideal) arg15.view.ty)

theorem trip3 (k : Fin k0_t3_loop.trips) (f17 : BufTy.Contents (Elt Ideal) arg17.view.ty) (f18 : BufTy.Contents (Elt Ideal) arg18.view.ty) (f19 : BufTy.Contents (Elt Ideal) arg19.view.ty)
    (kb : Fin 8) (hk : kb = ⟨k.val, lt3 k⟩) (p1 : View.Piece (Elt Ideal) S2048x512 .f32)
    (hp1 : p1 = ⟨Rect.unit (k0_off11 k) S256x512.size (k0_off11_inb k),
        con 0 (arg10.view.read (Elt Ideal) X10) (arg11.view.read (Elt Ideal) X11) (arg14.view.read (Elt Ideal) X14) (arg15.view.read (Elt Ideal) X15) (arg4.view.read (Elt Ideal) X4) kb
          (blk kb (arg17.view.read (Elt Ideal) f17)) (arg18.view.read (Elt Ideal) f18)⟩) :
    tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 k f17 f18 f19
      = ([⟨Rect.unit (k0_off13 k) S256x512.size (k0_off13_inb k),
            con 1 (arg10.view.read (Elt Ideal) X10) (arg11.view.read (Elt Ideal) X11) (arg14.view.read (Elt Ideal) X14) (arg15.view.read (Elt Ideal) X15) (arg4.view.read (Elt Ideal) X4) (rv kb)
              (blk (rv kb) (arg17.view.read (Elt Ideal) (arg17.view.writes (Elt Ideal) f17 [p1]))) (arg19.view.read (Elt Ideal) f19)⟩, p1],
         [⟨Rect.unit ![0, 0] S256x512.size (by decide +kernel), upd 0 (arg11.view.read (Elt Ideal) X11) (arg12.view.read (Elt Ideal) X12) (arg15.view.read (Elt Ideal) X15) (arg4.view.read (Elt Ideal) X4) kb (arg18.view.read (Elt Ideal) f18)⟩],
         [⟨Rect.unit ![0, 0] S256x512.size (by decide +kernel), upd 1 (arg11.view.read (Elt Ideal) X11) (arg12.view.read (Elt Ideal) X12) (arg15.view.read (Elt Ideal) X15) (arg4.view.read (Elt Ideal) X4) (rv kb) (arg19.view.read (Elt Ideal) f19)⟩]) := by
  subst hk
  have hp := hp1
  unfold con at hp1 ⊢
  unfold upd
  rw [← ld_imv 0 _ (by decide +kernel), ← ld_qdv 0 _ (by decide +kernel),
    show blk ⟨k.val, lt3 k⟩ (arg14.view.read (Elt Ideal) X14) = _ from (ld_rows _ _ _ (k0_off10_inb k) (off10 k) _).symm,
    show blk ⟨k.val, lt3 k⟩ (arg15.view.read (Elt Ideal) X15) = _ from (ld_rows _ _ _ (k0_off10_inb k) (off10 k) _).symm,
    show blk ⟨k.val, lt3 k⟩ (arg4.view.read (Elt Ideal) X4) = _ from (ld_rows _ _ _ (k0_off11_inb k) (off11 k) _).symm,
    show blk ⟨k.val, lt3 k⟩ (arg17.view.read (Elt Ideal) f17) = _ from (ld_rows _ _ _ (k0_off11_inb k) (off11 k) _).symm] at hp1
  rw [← ld_imv 1 _ (by decide +kernel), ← ld_qdv 1 _ (by decide +kernel), ← ld_kdv 0 _ (by decide +kernel), ← ld_kdv 1 _ (by decide +kernel),
    ← ld_sdv 0 _ (by decide +kernel), ← ld_sdv 1 _ (by decide +kernel),
    show blk ⟨k.val, lt3 k⟩ (arg15.view.read (Elt Ideal) X15) = _ from (ld_rows _ _ _ (k0_off10_inb k) (off10 k) _).symm,
    show blk ⟨k.val, lt3 k⟩ (arg4.view.read (Elt Ideal) X4) = _ from (ld_rows _ _ _ (k0_off11_inb k) (off11 k) _).symm,
    show blk (rv ⟨k.val, lt3 k⟩) (arg14.view.read (Elt Ideal) X14) = _ from (ld_rows _ _ _ (k0_off12_inb k) (off12 k) _).symm,
    show blk (rv ⟨k.val, lt3 k⟩) (arg15.view.read (Elt Ideal) X15) = _ from (ld_rows _ _ _ (k0_off12_inb k) (off12 k) _).symm,
    show blk (rv ⟨k.val, lt3 k⟩) (arg4.view.read (Elt Ideal) X4) = _ from (ld_rows _ _ _ (k0_off13_inb k) (off13 k) _).symm,
    show blk (rv ⟨k.val, lt3 k⟩) (arg17.view.read (Elt Ideal) (arg17.view.writes (Elt Ideal) f17 [p1])) = _ from (ld_rows _ _ _ (k0_off13_inb k) (off13 k) _).symm]
  rw [← View.ld_unit_zero (S := S256x512) hz2 (by decide +kernel) (arg18.view.read (Elt Ideal) f18), ← View.ld_unit_zero (S := S256x512) hz2 (by decide +kernel) (arg19.view.read (Elt Ideal) f19)]
  rw [← View.ld_unit_zero (S := S256x512) hz2 (by decide +kernel) (arg18.view.read (Elt Ideal) f18)] at hp1
  subst hp1
  unfold tripL_k0_t3 trip_k0_t3
  rfl

/-- One direction's state before step `n`, from its state before the first. -/
def st (d : Fin 2) (T11 : Vec Ideal S2x1x512x128 .f32) (T12 : Vec Ideal S2x1x8x128 .f32) (K : Vec Ideal S2048x256 .bf16) (W : Vec Ideal S2048x512 .bf16)
    (g : Fin 8 → Fin 8) (s : Vec Ideal S256x512 .f32) : ℕ → Vec Ideal S256x512 .f32
  | 0 => s
  | n + 1 => if h : n < 8 then upd d T11 T12 K W (g ⟨n, h⟩) (st d T11 T12 K W g s n) else st d T11 T12 K W g s n

theorem con_add (d : Fin 2) (T10 : Vec Ideal S2x1x256x256 .f32) (T11 : Vec Ideal S2x1x512x128 .f32) (Q K : Vec Ideal S2048x256 .bf16) (W : Vec Ideal S2048x512 .bf16)
    (j : Fin 8) (o s : Vec Ideal S256x512 .f32) (y : S256x512.Idx) :
    con d T10 T11 Q K W j o s y = o y + (con d T10 T11 Q K W j (fun _ => (0 : EReal)) s y : EReal) := pay3_add _ _ _ _ _ _ _ _

theorem loop3 (G17 : BufTy.Contents (Elt Ideal) arg17.view.ty) (G18 : BufTy.Contents (Elt Ideal) arg18.view.ty) (G19 : BufTy.Contents (Elt Ideal) arg19.view.ty)
    (A10 : Vec Ideal S2x1x256x256 .f32) (A11 : Vec Ideal S2x1x512x128 .f32) (A12 : Vec Ideal S2x1x8x128 .f32) (Q K : Vec Ideal S2048x256 .bf16) (W : Vec Ideal S2048x512 .bf16)
    (sf sr : Vec Ideal S256x512 .f32)
    (h10 : arg10.view.read (Elt Ideal) X10 = A10) (h11 : arg11.view.read (Elt Ideal) X11 = A11) (h12 : arg12.view.read (Elt Ideal) X12 = A12)
    (h14 : arg14.view.read (Elt Ideal) X14 = Q) (h15 : arg15.view.read (Elt Ideal) X15 = K) (h4 : arg4.view.read (Elt Ideal) X4 = W)
    (h18 : arg18.view.read (Elt Ideal) G18 = sf) (h19 : arg19.view.read (Elt Ideal) G19 = sr) (h17 : ∀ y, arg17.view.read (Elt Ideal) G17 y = (0 : EReal))
    (n : ℕ) (hn : n ≤ k0_t3_loop.trips) :
    arg18.view.read (Elt Ideal) (arg18.view.writes (Elt Ideal) G18 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 G17 G18 G19 n).2.1) = st 0 A11 A12 K W id sf n
    ∧ arg19.view.read (Elt Ideal) (arg19.view.writes (Elt Ideal) G19 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 G17 G18 G19 n).2.2) = st 1 A11 A12 K W rv sr n
    ∧ ∀ (j : Fin 8) (y : S256x512.Idx), (blk j (arg17.view.read (Elt Ideal) (arg17.view.writes (Elt Ideal) G17 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 G17 G18 G19 n).1)) y : EReal)
        = (if j.val < n then (con 0 A10 A11 Q K W j (fun _ => (0 : EReal)) (st 0 A11 A12 K W id sf j.val) y : EReal) else 0)
          + (if 7 - j.val < n then (con 1 A10 A11 Q K W j (fun _ => (0 : EReal)) (st 1 A11 A12 K W rv sr (7 - j.val)) y : EReal) else 0) := by
  induction n with
  | zero =>
    refine ⟨h18, h19, fun j y => ?_⟩
    rw [if_neg (Nat.not_lt_zero _), if_neg (Nat.not_lt_zero _), add_zero]
    exact h17 _
  | succ n ih =>
    have hn8 : n < 8 := hn
    obtain ⟨ih18, ih19, ih17⟩ := ih (Nat.le_of_succ_le hn)
    have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 G17 G18 G19 ⟨n, hn⟩
    rw [trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 ⟨n, hn⟩ _ _ _ ⟨n, hn8⟩ rfl _ rfl, h10, h11, h12, h14, h15, h4, ih18, ih19] at e
    rw [show pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X4 X10 X11 X12 X14 X15 G17 G18 G19 (n + 1) = _ from e]
    refine ⟨?_, ?_, fun j y => ?_⟩
    · refine (View.read_writes_full _ _ _ _ _).trans ?_
      show _ = dite _ _ _
      rw [dif_pos hn8]; rfl
    · refine (View.read_writes_full _ _ _ _ _).trans ?_
      show _ = dite _ _ _
      rw [dif_pos hn8]
    · have hne : (⟨n, hn8⟩ : Fin 8) ≠ rv ⟨n, hn8⟩ := fun h => by have := congrArg Fin.val h; simp only at this; omega
      have hi : (n = 7 - n) = False := by simp only [eq_iff_iff, iff_false]; omega
      have hw : ∀ p L, arg17.view.writes (Elt Ideal) (arg17.view.writes (Elt Ideal) G17 L) [p] = arg17.view.writes (Elt Ideal) G17 (p :: L) := fun p L => rfl
      by_cases hr : j = rv ⟨n, hn8⟩
      · subst hr
        refine (congrFun (blk_hit arg17.view G17 (k0_off13 ⟨n, hn⟩) (rv ⟨n, hn8⟩) (k0_off13_inb ⟨n, hn⟩) (off13 ⟨n, hn⟩) _ _) y).trans ?_
        rw [con_add, hw]
        rw [show blk (rv ⟨n, hn8⟩) (arg17.view.read (Elt Ideal) (arg17.view.writes (Elt Ideal) G17 (_ :: _))) = _ from
          blk_miss arg17.view G17 (k0_off11 ⟨n, hn⟩) ⟨n, hn8⟩ (rv ⟨n, hn8⟩) hne.symm (k0_off11_inb ⟨n, hn⟩) (off11 ⟨n, hn⟩) _ _, ih17]
        have e1 : 7 - (7 - n) = n := by omega
        simp only [e1, lt_irrefl, if_false, add_zero, Nat.lt_succ_self, if_true]
        have e2 : (7 - n < n + 1) = (7 - n < n) := propext ⟨fun h => by omega, fun h => by omega⟩
        simp only [e2]
      · refine (congrFun (blk_miss arg17.view G17 (k0_off13 ⟨n, hn⟩) (rv ⟨n, hn8⟩) j hr (k0_off13_inb ⟨n, hn⟩) (off13 ⟨n, hn⟩) _ _) y).trans ?_
        by_cases hf : j = ⟨n, hn8⟩
        · subst hf
          refine (congrFun (blk_hit arg17.view G17 (k0_off11 ⟨n, hn⟩) ⟨n, hn8⟩ (k0_off11_inb ⟨n, hn⟩) (off11 ⟨n, hn⟩) _ _) y).trans ?_
          rw [con_add, ih17]
          have e2 : (7 - n < n + 1) = (7 - n < n) := propext ⟨fun h => by omega, fun h => by omega⟩
          simp only [lt_irrefl, if_false, zero_add, Nat.lt_succ_self, if_true, e2]
          exact add_comm _ _
        · refine (congrFun (blk_miss arg17.view G17 (k0_off11 ⟨n, hn⟩) ⟨n, hn8⟩ j hf (k0_off11_inb ⟨n, hn⟩) (off11 ⟨n, hn⟩) _ _) y).trans ?_
          have hf' : j.val ≠ n := fun h => hf (Fin.ext h)
          have hr' : j.val ≠ 7 - n := fun h => hr (Fin.ext h)
          have hj := j.isLt
          refine (ih17 j y).trans ?_
          have e1 : (j.val < n + 1) = (j.val < n) := propext ⟨fun h => by omega, fun h => by omega⟩
          have e2 : (7 - j.val < n + 1) = (7 - j.val < n) := propext ⟨fun h => by omega, fun h => by omega⟩
          simp only [e1, e2]

theorem trip4 (X5 : BufTy.Contents (Elt Ideal) arg5.view.ty) (X17 : BufTy.Contents (Elt Ideal) arg17.view.ty) (k : Fin k0_t4_loop.trips) :
    tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X17 k
      = [⟨Rect.unit (k0_off14 k) S256x512.size (k0_off14_inb k), k0_pay2 (blk ⟨k.val, lt4 k⟩ (arg17.view.read (Elt Ideal) X17)) (blk ⟨k.val, lt4 k⟩ (arg5.view.read (Elt Ideal) X5))⟩] := by
  rw [show blk ⟨k.val, lt4 k⟩ (arg17.view.read (Elt Ideal) X17) = _ from (ld_rows _ _ _ (k0_off14_inb k) (off14 k) _).symm,
    show blk ⟨k.val, lt4 k⟩ (arg5.view.read (Elt Ideal) X5) = _ from (ld_rows _ _ _ (k0_off14_inb k) (off14 k) _).symm]
  unfold tripL_k0_t4 trip_k0_t4
  rfl

theorem out_blk (X5 : BufTy.Contents (Elt Ideal) arg5.view.ty) (X17 : BufTy.Contents (Elt Ideal) arg17.view.ty)
    (G : BufTy.Contents (Elt Ideal) arg13.view.ty) (n : ℕ) (hn : n ≤ k0_t4_loop.trips) (j : Fin 8) (hj : j.val < n) :
    blk j (arg13.view.read (Elt Ideal) (arg13.view.writes (Elt Ideal) G (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X17 n)))
      = k0_pay2 (blk j (arg17.view.read (Elt Ideal) X17)) (blk j (arg5.view.read (Elt Ideal) X5)) := by
  induction n with
  | zero => omega
  | succ n ih =>
    have e := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X17 ⟨n, hn⟩
    rw [trip4] at e
    rw [show pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X5 X17 (n + 1) = _ from e, List.singleton_append]
    by_cases h : j.val = n
    · obtain rfl : j = ⟨n, lt4 ⟨n, hn⟩⟩ := Fin.ext h
      exact blk_hit arg13.view G (k0_off14 ⟨n, hn⟩) _ (k0_off14_inb ⟨n, hn⟩) (off14 ⟨n, hn⟩) _ _
    · refine (blk_miss arg13.view G (k0_off14 ⟨n, hn⟩) ⟨n, lt4 ⟨n, hn⟩⟩ j (fun h' => h (congrArg Fin.val h')) (k0_off14_inb ⟨n, hn⟩) (off14 ⟨n, hn⟩) _ _).trans ?_
      exact ih (by omega) (by omega)

end

end Cert.RetKernelIdeal.RetScan
end
-- ==== Proof.RetOut.lean ====
/-
  What a point leaves in its block, in terms of its input blocks: per 256 rows, both directions' sums, normalised and gated.
-/
module

public import proofs.«01_k».proof.Proof.RetFrame
public import proofs.«01_k».proof.Proof.RetLoop
public import proofs.«01_k».proof.Proof.RetPay

@[expose] public section
set_option maxRecDepth 16384
set_option maxHeartbeats 1000000
noncomputable section

namespace Cert.RetKernelIdeal.RetScan
open Cert.RetKernelIdeal Cert.RetKernelIdeal.Gen
open Idealize.ShloMosaic Idealize.ShloMosaic.TcCoe Idealize.ShloMosaic.Tactic Idealize.SL.Sem

/-- A load of a buffer whose contents are known. -/
theorem rd {κ : Kind} {sp : Space} {s : Shape} {e : EltTy} (v : View sig κ sp s e) (X : v.ty.Contents (Elt Ideal)) (A : s.Idx → Elt Ideal e)
    (h : v.read (Elt Ideal) X = A) (B : Rect s) : v.readAt (Elt Ideal) B.toLoadRect X = View.ld A B := by
  rw [View.readAt_eq_ld, h]

theorem pay1_congr {kd kd' : Vec Ideal S1x1x256x128 .f32} {sd sd' : Vec Ideal S1x1x1x128 .f32} {k k' : Vec Ideal S256x256 .bf16} {s s' : Vec Ideal S256x512 .f32}
    {v v' : Vec Ideal S256x512 .bf16} (h1 : kd = kd') (h2 : sd = sd') (h3 : k = k') (h4 : s = s') (h5 : v = v') : k0_pay1 kd sd k s v = k0_pay1 kd' sd' k' s' v' := by
  subst h1 h2 h3 h4 h5; rfl
theorem pay11_congr {x x' : Vec Ideal S256x256 .bf16} {cs cs' sn sn' : Vec Ideal S256x128 .f32} (h1 : x = x') (h2 : cs = cs') (h3 : sn = sn') :
    k0_pay11 x cs sn = k0_pay11 x' cs' sn' := by
  subst h1 h2 h3; rfl

section
variable (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (x0 : Vec Ideal S2048x256 .bf16) (x1 : Vec Ideal S2048x256 .bf16) (x2 : Vec Ideal S2048x512 .bf16) (x3 : Vec Ideal S2048x512 .bf16) (x4 : Vec Ideal S256x256 .bf16) (x5 : Vec Ideal S256x512 .bf16) (x6 : Vec Ideal S2304x128 .f32) (x7 : Vec Ideal S2304x128 .f32) (x8 : Vec Ideal S2x1x256x256 .f32) (x9 : Vec Ideal S2x1x512x128 .f32) (x10 : Vec Ideal S2x1x8x128 .f32)

/-- The context's keys, turned. -/
def kc0 : Vec Ideal S256x256 .bf16 := k0_pay11 x4 (rows 0 (by decide) x6) (rows 0 (by decide) x7)

theorem fwd_start : arg18.view.read (Elt Ideal) (arg18.view.writes (Elt Ideal) arg18.view.junk
      (kernelRun0_A.sl.HS4_2 (F := Ideal) c arg6 harg6 arg7 harg7 arg8 harg8 arg9 harg9 arg11 harg11 arg12 harg12 arg16 arg18 x4 x5 x6 x7 x9 x10))
    = k0_pay1 (kdv 0 x9) (sdv 0 x10) (kc0 x4 x6 x7) (k0_pay14 (F := Ideal) k0_pay13) x5 := by
  sl_unfold_words
  refine (View.read_writes_full _ _ _ _ _).trans ?_
  refine (pay17_eq _ _ _ _ _).trans ?_
  refine pay1_congr ?_ ?_ ?_ ?_ ?_
  · exact (rd _ _ _ (harg11.read_unread x9) _).trans (ld_kdv 0 x9 _)
  · exact (rd _ _ _ (harg12.read_unread x10) _).trans (ld_sdv 0 x10 _)
  · refine (View.readCov_full _ _ _ _ _).trans (pay11_congr ?_ ?_ ?_)
    · exact (rd _ _ _ (harg6.read_unread x4) _).trans (View.ld_unit_zero (S := S256x256) (by funext a; match a with | ⟨0, _⟩ => rfl | ⟨1, _⟩ => rfl) _ x4)
    · exact (rd _ _ _ (harg8.read_unread x6) _).trans (ld_rows _ _ 0 _ rfl _)
    · exact (rd _ _ _ (harg9.read_unread x7) _).trans (ld_rows _ _ 0 _ rfl _)
  · exact View.readCov_full _ _ _ _ _
  · exact (rd _ _ _ (harg7.read_unread x5) _).trans (View.ld_unit_zero (S := S256x512) (by funext a; match a with | ⟨0, _⟩ => rfl | ⟨1, _⟩ => rfl) _ x5)

theorem bwd_start : arg19.view.read (Elt Ideal) (arg19.view.writes (Elt Ideal) arg19.view.junk
      (kernelRun0_A.sl.HS5_2 (F := Ideal) c arg6 harg6 arg7 harg7 arg8 harg8 arg9 harg9 arg11 harg11 arg12 harg12 arg16 arg19 x4 x5 x6 x7 x9 x10))
    = k0_pay1 (kdv 1 x9) (sdv 1 x10) (kc0 x4 x6 x7) (k0_pay15 (F := Ideal)) x5 := by
  sl_unfold_words
  refine (View.read_writes_full _ _ _ _ _).trans ?_
  refine pay1_congr ?_ ?_ ?_ ?_ ?_
  · exact (rd _ _ _ (harg11.read_unread x9) _).trans (ld_kdv 1 x9 _)
  · exact (rd _ _ _ (harg12.read_unread x10) _).trans (ld_sdv 1 x10 _)
  · refine (View.readCov_full _ _ _ _ _).trans (pay11_congr ?_ ?_ ?_)
    · exact (rd _ _ _ (harg6.read_unread x4) _).trans (View.ld_unit_zero (S := S256x256) (by funext a; match a with | ⟨0, _⟩ => rfl | ⟨1, _⟩ => rfl) _ x4)
    · exact (rd _ _ _ (harg8.read_unread x6) _).trans (ld_rows _ _ 0 _ rfl _)
    · exact (rd _ _ _ (harg9.read_unread x7) _).trans (ld_rows _ _ 0 _ rfl _)
  · exact View.readCov_full _ _ _ _ _
  · exact (rd _ _ _ (harg7.read_unread x5) _).trans (View.ld_unit_zero (S := S256x512) (by funext a; match a with | ⟨0, _⟩ => rfl | ⟨1, _⟩ => rfl) _ x5)

theorem out_start (y : S2048x512.Idx) : arg17.view.read (Elt Ideal) (arg17.view.writes (Elt Ideal) arg17.view.junk (kernelRun0_A.sl.HS3_1 (F := Ideal))) y = (0 : EReal) := by
  sl_unfold_words
  refine (congrFun (View.read_writes_full _ _ _ _ _) y).trans ?_
  rw [eq_ix2 y]
  exact pay16_apply _ _

/-- What a point leaves, per block of 256 rows: both directions' contributions, normalised and gated. -/
theorem out_val : ∃ (Q K : Vec Ideal S2048x256 .bf16), (∀ j, blk j Q = k0_pay12 (blk j x0) (tab j x6) (tab j x7)) ∧ (∀ j, blk j K = k0_pay10 (blk j x1) (tab j x6) (tab j x7))
    ∧ ∀ j : Fin 8, ∃ o : Vec Ideal S256x512 .f32,
      blk j (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10) = k0_pay2 o (blk j x3)
      ∧ ∀ y, o y = (con 0 x8 x9 Q K x2 j (fun _ => (0 : EReal)) (st 0 x9 x10 K x2 id (k0_pay1 (kdv 0 x9) (sdv 0 x10) (kc0 x4 x6 x7) (k0_pay14 (F := Ideal) k0_pay13) x5) j.val) y : EReal)
          + (con 1 x8 x9 Q K x2 j (fun _ => (0 : EReal)) (st 1 x9 x10 K x2 rv (k0_pay1 (kdv 1 x9) (sdv 1 x10) (kc0 x4 x6 x7) (k0_pay15 (F := Ideal)) x5) (7 - j.val)) y : EReal) := by
  have e0 : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
      = arg13.view.read (Elt Ideal) (arg13.view.writes (Elt Ideal) arg13.view.junk (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10).1) :=
    Memref.IsWhole.read_writes_junk (Memref.isWhole_whole _) harg13 _
  rw [e0]
  unfold kernelRun0_A
  dsimp only
  have hq := fun j : Fin 8 => qrl_blk Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x0) (harg8.unread x6) (harg9.unread x7) arg14.view.junk _ le_rfl j j.isLt
  have hk := fun j : Fin 8 => krl_blk Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg8.unread x6) (harg9.unread x7) arg15.view.junk _ le_rfl j j.isLt
  rw [harg8.read_unread, harg9.read_unread] at hq hk
  simp only [harg2.read_unread, harg3.read_unread] at hq hk
  refine ⟨_, _, hq, hk, fun j => ⟨_, (out_blk Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg5.unread x3) _ _ _ le_rfl j j.isLt).trans (by rw [harg5.read_unread]), fun y => ?_⟩⟩
  have h := (loop3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg4.unread x2) (harg10.unread x8) (harg11.unread x9) (harg12.unread x10)
    (arg14.view.writes (Elt Ideal) arg14.view.junk (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg2.unread x0) (harg8.unread x6) (harg9.unread x7) k0_t2_loop.trips))
    (arg15.view.writes (Elt Ideal) arg15.view.junk (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg3.unread x1) (harg8.unread x6) (harg9.unread x7) k0_t1_loop.trips)) _ _ _ x8 x9 x10 _ _ x2 _ _
    (harg10.read_unread x8) (harg11.read_unread x9) (harg12.read_unread x10) rfl rfl (harg4.read_unread x2)
    (fwd_start c arg6 harg6 arg7 harg7 arg8 harg8 arg9 harg9 arg11 harg11 arg12 harg12 arg16 arg18 x4 x5 x6 x7 x9 x10)
    (bwd_start c arg6 harg6 arg7 harg7 arg8 harg8 arg9 harg9 arg11 harg11 arg12 harg12 arg16 arg19 x4 x5 x6 x7 x9 x10)
    (out_start arg17) k0_t3_loop.trips le_rfl).2.2 j y
  have h8 : j.val < k0_t3_loop.trips := j.isLt
  have h7 : 7 - j.val < k0_t3_loop.trips := by show 7 - j.val < 8; omega
  rw [if_pos h8, if_pos h7] at h
  rw [← View.writes_append] at h
  exact h
end

end Cert.RetKernelIdeal.RetScan
end
-- ==== Proof.RetMath.lean ====
/-
  The chunked scan against the plain sum, over the reals: a decayed state carried over blocks of 256 positions, the block's
  own positions masked, is the decayed sum over all of them.
-/
module

public import Mathlib.Analysis.SpecialFunctions.Exp
public import Mathlib.Algebra.BigOperators.Fin
public import Mathlib.Tactic.Ring
public import Mathlib.Tactic.Linarith

@[expose] public section
noncomputable section

namespace Cert.RetMath
open Finset

/-- The decay at a distance, zero for what lies ahead. -/
def dec (L z : ℝ) : ℝ := if 0 ≤ z then Real.exp (z * L) else 0

/-- A state carried over the first `n` blocks: block `n` at position `256 n + p i`. -/
def state (L : ℝ) (p : Fin 256 → ℝ) (f : ℕ → Fin 256 → ℝ) : ℕ → ℝ
  | 0 => 0
  | n + 1 => state L p f n * Real.exp (256 * L) + ∑ i : Fin 256, f n i * Real.exp ((255 - p i) * L)

theorem state_eq (L : ℝ) (p : Fin 256 → ℝ) (f : ℕ → Fin 256 → ℝ) (n : ℕ) :
    state L p f n = ∑ b ∈ range n, ∑ i : Fin 256, f b i * Real.exp ((256 * (n : ℝ) - 1 - (256 * (b : ℝ) + p i)) * L) := by
  induction n with
  | zero => rfl
  | succ n ih =>
    rw [state, ih, sum_range_succ, sum_mul]
    congr 1
    · refine sum_congr rfl fun b _ => ?_
      rw [sum_mul]
      refine sum_congr rfl fun i _ => ?_
      rw [mul_assoc, ← Real.exp_add]
      congr 2
      push_cast
      ring
    · refine sum_congr rfl fun i _ => ?_
      congr 2
      push_cast
      ring

/-- One row's output: the state before its block, and the block's own rows, masked. -/
theorem out_eq (L : ℝ) (p : Fin 256 → ℝ) (hp0 : ∀ i, 0 ≤ p i) (hp1 : ∀ i, p i ≤ 255) {D : Type} [Fintype D] (q : D → ℝ) (K : ℕ → Fin 256 → D → ℝ) (W : ℕ → Fin 256 → ℝ)
    (m : ℕ) (N : ℕ) (hm : m < N) (i : Fin 256) :
    (∑ d, q d * Real.exp ((p i + 1) * L) * state L p (fun n j => K n j d * W n j) m)
      + ∑ j : Fin 256, (∑ d, q d * K m j d) * dec L (p i - p j) * W m j
    = ∑ n ∈ range N, ∑ j : Fin 256, (∑ d, q d * K n j d) * dec L (256 * (m : ℝ) + p i - (256 * (n : ℝ) + p j)) * W n j := by
  obtain ⟨r, rfl⟩ : ∃ r, N = (m + 1) + r := ⟨N - (m + 1), by omega⟩
  rw [sum_range_add, sum_range_succ]
  have hz : ∑ x ∈ range r, ∑ j : Fin 256, (∑ d, q d * K (m + 1 + x) j d) * dec L (256 * (m : ℝ) + p i - (256 * ((m + 1 + x : ℕ) : ℝ) + p j)) * W (m + 1 + x) j = 0 := by
    refine sum_eq_zero fun x _ => sum_eq_zero fun j _ => ?_
    have h : ¬ (0 : ℝ) ≤ 256 * (m : ℝ) + p i - (256 * ((m + 1 + x : ℕ) : ℝ) + p j) := by
      have := hp0 j; have := hp1 i; have hx : (0 : ℝ) ≤ x := Nat.cast_nonneg x
      push_cast
      linarith
    rw [dec, if_neg h, mul_zero, zero_mul]
  rw [hz, add_zero]
  congr 1
  · simp only [state_eq, mul_sum]
    rw [sum_comm]
    refine sum_congr rfl fun b hb => ?_
    rw [sum_comm]
    refine sum_congr rfl fun j _ => ?_
    have hbm : (b : ℝ) + 1 ≤ m := by exact_mod_cast mem_range.mp hb
    have h : (0 : ℝ) ≤ 256 * (m : ℝ) + p i - (256 * (b : ℝ) + p j) := by have := hp0 i; have := hp1 j; linarith
    rw [dec, if_pos h, sum_mul, sum_mul]
    refine sum_congr rfl fun d _ => ?_
    have e : Real.exp ((256 * (m : ℝ) + p i - (256 * (b : ℝ) + p j)) * L) = Real.exp ((p i + 1) * L) * Real.exp ((256 * (m : ℝ) - 1 - (256 * (b : ℝ) + p j)) * L) := by
      rw [← Real.exp_add]; congr 1; ring
    rw [e]; ring
  · refine sum_congr rfl fun j _ => ?_
    congr 3
    ring

end Cert.RetMath
end
-- ==== Proof.RetLift.lean ====
/-
  The kernel's recursion over blocks on real data: each direction's state, and what it adds to a block's outputs, as the
  decayed sum over all positions.
-/
module

public import proofs.«01_k».proof.Proof.RetLoop
public import proofs.«01_k».proof.Proof.RetPay
public import proofs.«01_k».proof.Proof.RetMath

@[expose] public section
set_option maxRecDepth 16384
noncomputable section

namespace Cert.RetKernelIdeal.RetScan
open Cert.RetKernelIdeal Cert.RetKernelIdeal.Gen Cert.RetMath
open Idealize.ShloMosaic Idealize.ShloMosaic.TcCoe Idealize.SL.Sem

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (d : Fin 2) (T10 : Vec Ideal S2x1x256x256 .f32) (T11 : Vec Ideal S2x1x512x128 .f32) (T12 : Vec Ideal S2x1x8x128 .f32)
  (Q K : Vec Ideal S2048x256 .bf16) (W : Vec Ideal S2048x512 .bf16) (krc : Vec Ideal S256x256 .bf16) (vc : Vec Ideal S256x512 .bf16)
  (L : ℝ) (p : Fin 256 → ℝ) (g : Fin 8 → Fin 8)
  (him : ∀ i j : Fin 256, imv d T10 (ix4 0 0 i j) = ((dec L (p i - p j) : ℝ) : EReal))
  (hqd : ∀ (i : Fin 256) (e : Fin 128), qdv d T11 (ix4 0 0 i e) = ((Real.exp ((p i + 1) * L) : ℝ) : EReal))
  (hkd : ∀ (i : Fin 256) (e : Fin 128), kdv d T11 (ix4 0 0 i e) = ((Real.exp ((255 - p i) * L) : ℝ) : EReal))
  (hsd : ∀ e : Fin 128, sdv d T12 (ix4 0 0 0 e) = ((Real.exp (256 * L) : ℝ) : EReal))
  (Kr : ℕ → Fin 256 → Fin 256 → ℝ) (Wr : ℕ → Fin 256 → Fin 512 → ℝ) (Qr : Fin 8 → Fin 256 → Fin 256 → ℝ)
  (hK : ∀ (n : Fin 8) (i a : Fin 256), blk (g n) K (ix2 i a) = ((Kr (n.val + 1) i a : ℝ) : EReal))
  (hW : ∀ (n : Fin 8) (i : Fin 256) (e : Fin 512), blk (g n) W (ix2 i e) = ((Wr (n.val + 1) i e : ℝ) : EReal))
  (hQ : ∀ (n : Fin 8) (i a : Fin 256), blk (g n) Q (ix2 i a) = ((Qr n i a : ℝ) : EReal))
  (hkc : ∀ i a : Fin 256, krc (ix2 i a) = ((Kr 0 i a : ℝ) : EReal))
  (hvc : ∀ (i : Fin 256) (e : Fin 512), vc (ix2 i e) = ((Wr 0 i e : ℝ) : EReal))

include hkd hsd in
/-- One update on real data. -/
theorem upd_real (k : Vec Ideal S256x256 .bf16) (v : Vec Ideal S256x512 .bf16) (s : Vec Ideal S256x512 .f32) (k' : Fin 256 → Fin 256 → ℝ) (v' : Fin 256 → Fin 512 → ℝ)
    (hk : ∀ i a : Fin 256, k (ix2 i a) = ((k' i a : ℝ) : EReal)) (hv : ∀ (i : Fin 256) (e : Fin 512), v (ix2 i e) = ((v' i e : ℝ) : EReal))
    (a : Fin 256) (e : Fin 512) (w : ℝ) (hs : s (ix2 a e) = (w : EReal)) :
    k0_pay1 (kdv d T11) (sdv d T12) k s v (ix2 a e)
      = ((w * Real.exp (256 * L) + ∑ i : Fin 256, k' i a * v' i e * Real.exp ((255 - p i) * L) : ℝ) : EReal) := by
  rw [upd_apply _ _ _ _ _ _ (fun _ => 0) a e hkd _ hsd, hs, EReal.coe_add, EReal.coe_mul, coe_sum]
  congr 1
  refine Finset.sum_congr rfl fun i _ => ?_
  rw [hk, hv, ← EReal.coe_mul, ← EReal.coe_mul]
  congr 1
  ring

include hkd hsd hK hW hkc hvc in
/-- The state before step `n`: the context's block first, then the first `n` blocks of the latents. -/
theorem st_real (z : Vec Ideal S256x512 .f32) (hz : ∀ (a : Fin 256) (e : Fin 512), z (ix2 a e) = 0) (n : ℕ) (hn : n ≤ 8) (a : Fin 256) (e : Fin 512) :
    st d T11 T12 K W g (k0_pay1 (kdv d T11) (sdv d T12) krc z vc) n (ix2 a e)
      = ((state L p (fun n i => Kr n i a * Wr n i e) (n + 1) : ℝ) : EReal) := by
  induction n with
  | zero =>
    rw [st, upd_real d T11 T12 L p hkd hsd krc vc z (Kr 0) (Wr 0) hkc hvc a e 0 (by rw [hz]; rfl)]
    rfl
  | succ n ih =>
    have h : n < 8 := by omega
    rw [st, dif_pos h, upd, upd_real d T11 T12 L p hkd hsd _ _ _ (Kr (n + 1)) (Wr (n + 1)) (hK ⟨n, h⟩) (hW ⟨n, h⟩) a e _ (ih (by omega))]
    rfl

include him hqd hkd hsd hK hW hkc hvc hQ in
/-- What a direction adds to the block of step `n`. -/
theorem con_real (hp0 : ∀ i, 0 ≤ p i) (hp1 : ∀ i, p i ≤ 255) (z o : Vec Ideal S256x512 .f32) (hz : ∀ (a : Fin 256) (e : Fin 512), z (ix2 a e) = 0)
    (ho : ∀ (a : Fin 256) (e : Fin 512), o (ix2 a e) = 0) (n : Fin 8) (i : Fin 256) (e : Fin 512) :
    con d T10 T11 Q K W (g n) o (st d T11 T12 K W g (k0_pay1 (kdv d T11) (sdv d T12) krc z vc) n.val) (ix2 i e)
      = ((∑ b ∈ Finset.range 9, ∑ j : Fin 256, (∑ a, Qr n i a * Kr b j a) * dec L (256 * ((n.val + 1 : ℕ) : ℝ) + p i - (256 * (b : ℝ) + p j)) * Wr b j e : ℝ) : EReal) := by
  rw [← out_eq L p hp0 hp1 (Qr n i) Kr (fun b j => Wr b j e) (n.val + 1) 9 (by omega) i, con, pay3_apply _ _ _ _ _ _ _ _ hqd, ho, zero_add,
    EReal.coe_add, coe_sum, coe_sum]
  congr 1
  · refine Finset.sum_congr rfl fun a _ => ?_
    rw [hQ, st_real d T11 T12 K W krc vc L p g hkd hsd Kr Wr hK hW hkc hvc z hz n.val (by omega) a e, ← EReal.coe_mul, ← EReal.coe_mul]
  · refine Finset.sum_congr rfl fun j _ => ?_
    rw [EReal.coe_mul, EReal.coe_mul, coe_sum, him, hW]
    simp only [hQ, hK, ← EReal.coe_mul]
end

end Cert.RetKernelIdeal.RetScan
end
-- ==== Proof.RetScalar.lean ====
/-
  The scalars of the retention's tables, as reals: a position, a decay's logarithm, a rotation's angle, a decayed distance.
-/
module

public import proofs.«01_k».proof.Proof.RetMath
public import Idealize.ShloMosaic.Lib.Pointwise
public import Idealize.ShloMosaic.Lib.IdealHost

@[expose] public section
noncomputable section

namespace Cert.RetScalar
open Cert.RetMath Idealize.ShloMosaic

/-- A position, as the programs count it. -/
abbrev posE (n : ℕ) : EReal := FloatOps.sitofp (F := Ideal) FTy.f32 (BitVec.ofNat 32 n)

theorem posE_eq (n : ℕ) (h : n < 2 ^ 31) : posE n = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    omega
  rw [e]
  norm_cast

theorem w_255 : Ideal.ofBits FTy.f32 1132396544#32 = ((255 : ℝ) : EReal) := by simp [Ideal.ofBits, Ideal.ieee, -EReal.coe_mul]; norm_num
theorem w_256 : Ideal.ofBits FTy.f32 1132462080#32 = ((256 : ℝ) : EReal) := by simp [Ideal.ofBits, Ideal.ieee, -EReal.coe_mul]; norm_num
theorem w_m5 : Ideal.ofBits FTy.f32 3231711232#32 = ((-5 : ℝ) : EReal) := by simp [Ideal.ofBits, Ideal.ieee, -EReal.coe_mul]; norm_num
theorem w_127 : Ideal.ofBits FTy.f32 1123942400#32 = ((127 : ℝ) : EReal) := by simp [Ideal.ofBits, Ideal.ieee, -EReal.coe_mul]; norm_num
theorem w_1e4 : Ideal.ofBits FTy.f32 1176256512#32 = ((10000 : ℝ) : EReal) := by simp [Ideal.ofBits, Ideal.ieee, -EReal.coe_mul]; norm_num
theorem w_16th : Ideal.ofBits FTy.f32 0x3D800000#32 = ((1 / 16 : ℝ) : EReal) := by simp [Ideal.ofBits, Ideal.ieee, -EReal.coe_mul]; norm_num
theorem w_ln2 : Ideal.ofBits FTy.f32 1060205080#32 = ((11629080 * 2 ^ (-24 : ℤ) : ℝ) : EReal) := by simp [Ideal.ofBits, Ideal.ieee, -EReal.coe_mul]

/-- The logarithm of a head's decay, as the programs compute it. -/
abbrev lgE (j : ℕ) : EReal :=
  Ideal.log1p (-Ideal.exp (Ideal.ofBits FTy.f32 1060205080#32 * (Ideal.ofBits FTy.f32 3231711232#32 - posE j)))
/-- The same, a real. -/
def lgR (j : ℕ) : ℝ := Real.log (1 + -Real.exp (11629080 * 2 ^ (-24 : ℤ) * (-5 - (j : ℝ))))

theorem lgE_eq (j : ℕ) (h : j < 2 ^ 31) : lgE j = ((lgR j : ℝ) : EReal) := by
  unfold lgE lgR
  rw [w_ln2, w_m5, posE_eq j h, ← EReal.coe_sub, ← EReal.coe_mul, Ideal.exp_coe, ← EReal.coe_neg]
  unfold Ideal.log1p
  rw [← EReal.coe_one, ← EReal.coe_add, Ideal.log_coe, if_neg]
  have hx : Real.exp (11629080 * 2 ^ (-24 : ℤ) * (-5 - (j : ℝ))) < 1 := by
    rw [Real.exp_lt_one_iff]
    have hj : (0 : ℝ) ≤ j := Nat.cast_nonneg j
    have hc : (0 : ℝ) < 11629080 * 2 ^ (-24 : ℤ) := by positivity
    exact mul_neg_of_pos_of_neg hc (by linarith)
  linarith

/-- A rotation's angle, as the programs compute it. -/
abbrev angE (s e : ℕ) : EReal :=
  posE s * Ideal.div 1 (Ideal.pow (Ideal.ofBits FTy.f32 1176256512#32)
    (if e < 127 then 0 * (1 - Ideal.div (posE e) (Ideal.ofBits FTy.f32 1123942400#32)) + 1 * Ideal.div (posE e) (Ideal.ofBits FTy.f32 1123942400#32) else 1))

theorem ang_real (s e : ℕ) (hs : s < 2 ^ 31) (he : e < 2 ^ 31) : ∃ r : ℝ, angE s e = (r : EReal) := by
  unfold angE
  have h : ∃ t : ℝ, (if e < 127 then 0 * (1 - Ideal.div (posE e) (Ideal.ofBits FTy.f32 1123942400#32)) + 1 * Ideal.div (posE e) (Ideal.ofBits FTy.f32 1123942400#32) else (1 : EReal)) = (t : EReal) := by
    split
    · refine ⟨(e : ℝ) * (1 / 127), ?_⟩
      rw [zero_mul, zero_add, one_mul, w_127, posE_eq e he, Ideal.div_coe (by norm_num), ← EReal.coe_mul]
    · exact ⟨1, rfl⟩
  obtain ⟨t, ht⟩ := h
  have hp : Real.rpow 10000 t ≠ 0 := (Real.rpow_pos_of_pos (by norm_num) t).ne'
  refine ⟨(s : ℝ) * (1 / Real.rpow 10000 t), ?_⟩
  rw [ht, w_1e4, Ideal.pow_coe_coe, Ideal.div_coe hp, posE_eq s hs, one_mul, ← EReal.coe_mul]

/-- The angle, a real. -/
def angR (s e : ℕ) (hs : s < 2 ^ 31) (he : e < 2 ^ 31) : ℝ := (ang_real s e hs he).choose
theorem angE_eq (s e : ℕ) (hs : s < 2 ^ 31) (he : e < 2 ^ 31) : angE s e = ((angR s e hs he : ℝ) : EReal) := (ang_real s e hs he).choose_spec

/-- A decay at a distance, as the programs compute it. -/
theorem dec_real (x y L : ℝ) :
    (if (0 : EReal) ≤ (x : EReal) - (y : EReal) then Ideal.exp (max ((x : EReal) - (y : EReal)) 0 * (L : EReal)) else 0) = ((dec L (x - y) : ℝ) : EReal) := by
  rw [← EReal.coe_sub]
  unfold dec
  by_cases h : 0 ≤ x - y
  · have h' : (0 : EReal) ≤ ((x - y : ℝ) : EReal) := by exact_mod_cast h
    rw [if_pos h, if_pos h', max_eq_left h', ← EReal.coe_mul, Ideal.exp_coe]
  · have h' : ¬ (0 : EReal) ≤ ((x - y : ℝ) : EReal) := by exact_mod_cast h
    rw [if_neg h, if_neg h']
    rfl

end Cert.RetScalar
end
-- ==== Proof.RetData.lean ====
/-
  The retention's data as reals, by position: keys, values and queries of a head, rotated; and the sum over the positions,
  taken a block at a time in either direction's order.
-/
module

public import proofs.«01_k».proof.Proof.RetScalar

@[expose] public section
noncomputable section

namespace Cert.RetData
open Cert.RetMath Cert.RetScalar Idealize.ShloMosaic

/-- A row's place in its block, in a direction's order. -/
def pl (d : Fin 2) (i : Fin 256) : ℝ := if d = 0 then (i.val : ℝ) else 255 - (i.val : ℝ)
theorem pl_zero (i : Fin 256) : pl 0 i = (i.val : ℝ) := rfl
theorem pl_one (i : Fin 256) : pl 1 i = 255 - (i.val : ℝ) := rfl
theorem pl_nonneg (d : Fin 2) (i : Fin 256) : 0 ≤ pl d i := by
  have h : (i.val : ℝ) ≤ 255 := by exact_mod_cast Nat.le_of_lt_succ i.isLt
  have h0 : (0 : ℝ) ≤ i.val := Nat.cast_nonneg _
  unfold pl
  split <;> linarith
theorem pl_le (d : Fin 2) (i : Fin 256) : pl d i ≤ 255 := by
  have h : (i.val : ℝ) ≤ 255 := by exact_mod_cast Nat.le_of_lt_succ i.isLt
  have h0 : (0 : ℝ) ≤ i.val := Nat.cast_nonneg _
  unfold pl
  split <;> linarith

/-- A position's place in a direction's order. -/
def ord (d : Fin 2) (s : ℕ) : ℝ := if d = 0 then (s : ℝ) else if s < 256 then 255 - (s : ℝ) else 2559 - (s : ℝ)
/-- The block a direction takes at a step, the context's first. -/
def bl (d : Fin 2) (n : ℕ) : ℕ := if d = 0 then n else if n = 0 then 0 else 9 - n

theorem bl_lt (d : Fin 2) (n : ℕ) (h : n < 9) : bl d n < 9 := by unfold bl; split_ifs <;> omega

theorem ord_bl (d : Fin 2) (n : ℕ) (h : n < 9) (i : Fin 256) : ord d (256 * bl d n + i.val) = 256 * (n : ℝ) + pl d i := by
  have hi := i.isLt
  unfold ord bl pl
  by_cases hd : d = 0
  · simp only [hd, if_true]
    push_cast
    ring
  · simp only [hd, if_false]
    by_cases hn : n = 0
    · subst hn
      simp only [if_true, Nat.mul_zero, Nat.zero_add, hi]
      push_cast
      ring
    · rw [if_neg hn, if_neg (by omega)]
      push_cast [Nat.cast_sub (show n ≤ 9 by omega)]
      ring

theorem sum_blocks (F : ℕ → ℝ) (n : ℕ) : ∑ s ∈ Finset.range (256 * n), F s = ∑ b ∈ Finset.range n, ∑ j : Fin 256, F (256 * b + j.val) := by
  induction n with
  | zero => simp
  | succ n ih => rw [Nat.mul_succ, Finset.sum_range_add, ih, Finset.sum_range (f := fun x => F (256 * n + x)), Finset.sum_range_succ]

theorem sum_bl (d : Fin 2) (H : ℕ → ℝ) : ∑ b ∈ Finset.range 9, H (bl d b) = ∑ b ∈ Finset.range 9, H b := by
  unfold bl
  by_cases hd : d = 0
  · simp only [hd, if_true]
  · simp [hd, Finset.sum_range_succ]
    ring

/-- The sum over the positions, by steps and rows. -/
theorem sum_order (d : Fin 2) (F : ℕ → ℝ) : ∑ b ∈ Finset.range 9, ∑ j : Fin 256, F (256 * bl d b + j.val) = ∑ s : Fin 2304, F s.val := by
  rw [sum_bl d (fun b => ∑ j : Fin 256, F (256 * b + j.val)), ← sum_blocks F 9, Finset.sum_range]

/-- Data by position, zero past the last. -/
def ext {α : Type} [Zero α] (f : Fin 2304 → α) (s : ℕ) : α := if h : s < 2304 then f ⟨s, h⟩ else 0
theorem ext_fin {α : Type} [Zero α] (f : Fin 2304 → α) (s : Fin 2304) : ext f s.val = f s := by rw [ext, dif_pos s.isLt]
theorem ext_of {α : Type} [Zero α] (f : Fin 2304 → α) (s : ℕ) (t : Fin 2304) (h : t.val = s) : ext f s = f t := by subst h; exact ext_fin f t

/-- The decayed sum over all positions, by a direction's steps. -/
theorem total (L : ℝ) (d : Fin 2) (q : Fin 256 → ℝ) (K : Fin 2304 → Fin 256 → ℝ) (V : Fin 2304 → ℝ) (n : ℕ) (hn : n < 8) (i : Fin 256) :
    ∑ b ∈ Finset.range 9, ∑ j : Fin 256, (∑ a, q a * ext K (256 * bl d b + j.val) a) * dec L (256 * ((n + 1 : ℕ) : ℝ) + pl d i - (256 * (b : ℝ) + pl d j)) * ext V (256 * bl d b + j.val)
      = ∑ s : Fin 2304, (∑ a, q a * K s a) * dec L (ord d (256 * bl d (n + 1) + i.val) - ord d s.val) * V s := by
  rw [ord_bl d (n + 1) (by omega) i]
  have e := sum_order d (fun s => (∑ a, q a * ext K s a) * dec L (256 * ((n + 1 : ℕ) : ℝ) + pl d i - ord d s) * ext V s)
  simp only [ext_fin] at e
  rw [← e]
  refine Finset.sum_congr rfl fun b hb => Finset.sum_congr rfl fun j _ => ?_
  rw [ord_bl d b (Finset.mem_range.mp hb) j]

/-- A column of the first half of a head's 256. -/
abbrev lo (e : Fin 128) : Fin 256 := ⟨e.val, by have := e.isLt; omega⟩
/-- A column of the second half. -/
abbrev hi (e : Fin 128) : Fin 256 := ⟨128 + e.val, by have := e.isLt; omega⟩

/-- A row rotated by its position's angles. -/
def rot (x : Fin 256 → ℝ) (s : ℕ) (hs : s < 2 ^ 31) (a : Fin 256) : ℝ :=
  if h : a.val < 128 then x a * Real.cos (angR s a.val hs (by omega)) - x ⟨128 + a.val, by omega⟩ * Real.sin (angR s a.val hs (by omega))
  else x ⟨a.val - 128, by omega⟩ * Real.sin (angR s (a.val - 128) hs (by omega)) + x a * Real.cos (angR s (a.val - 128) hs (by omega))

theorem rot_real (f : Fin 256 → EReal) (x : Fin 256 → ℝ) (s : ℕ) (hs : s < 2 ^ 31) (w : ℝ)
    (hlo : ∀ e : Fin 128, f (lo e) = ((x (lo e) : EReal) * Ideal.cos (angE s e.val) - (x (hi e) : EReal) * Ideal.sin (angE s e.val)) * (w : EReal))
    (hhi : ∀ e : Fin 128, f (hi e) = ((x (lo e) : EReal) * Ideal.sin (angE s e.val) + (x (hi e) : EReal) * Ideal.cos (angE s e.val)) * (w : EReal))
    (a : Fin 256) : f a = ((rot x s hs a * w : ℝ) : EReal) := by
  unfold rot
  by_cases h : a.val < 128
  · have ea : a = lo ⟨a.val, h⟩ := rfl
    have e := hlo ⟨a.val, h⟩
    rw [← ea] at e
    rw [dif_pos h, e, angE_eq s a.val hs (by omega), Ideal.cos_coe, Ideal.sin_coe, ← EReal.coe_mul, ← EReal.coe_mul, ← EReal.coe_sub, ← EReal.coe_mul]
  · have ea : a = hi ⟨a.val - 128, by omega⟩ := Fin.ext (show a.val = 128 + (a.val - 128) by omega)
    have e := hhi ⟨a.val - 128, by omega⟩
    rw [← ea] at e
    rw [dif_neg h, e, angE_eq s (a.val - 128) hs (by omega), Ideal.cos_coe, Ideal.sin_coe, ← EReal.coe_mul, ← EReal.coe_mul, ← EReal.coe_add, ← EReal.coe_mul]

section
variable (A : Fin 16384 → Fin 17408 → EReal) (B : Fin 2048 → Fin 6144 → EReal) (b : Fin 8) (h : Fin 4)

/-- A head's keys, unrotated, by position: the context's, then the latents'. -/
def kx (s : Fin 2304) (a : Fin 256) : EReal :=
  if hs : s.val < 256 then B ⟨b.val * 256 + s.val, by omega⟩ ⟨3072 + (h.val * 256 + a.val), by omega⟩
  else A ⟨b.val * 2048 + (s.val - 256), by omega⟩ ⟨3072 + (h.val * 256 + a.val), by omega⟩
/-- A head's values. -/
def vx (s : Fin 2304) (e : Fin 512) : EReal :=
  if hs : s.val < 256 then B ⟨b.val * 256 + s.val, by omega⟩ ⟨4096 + (h.val * 512 + e.val), by omega⟩
  else A ⟨b.val * 2048 + (s.val - 256), by omega⟩ ⟨4096 + (h.val * 512 + e.val), by omega⟩
/-- A head's queries, unrotated, by row of the latents. -/
def qx (t : Fin 2048) (a : Fin 256) : EReal := A ⟨b.val * 2048 + t.val, by omega⟩ ⟨8192 + (h.val * 256 + a.val), by omega⟩

def kR (s : Fin 2304) (a : Fin 256) : ℝ := rot (fun a => (kx A B b h s a).toReal) s.val (by omega) a * (1 / 16)
def vR (s : Fin 2304) (e : Fin 512) : ℝ := (vx A B b h s e).toReal
def qR (t : Fin 2048) (a : Fin 256) : ℝ := rot (fun a => (qx A b h t a).toReal) (256 + t.val) (by omega) a * 1

/-- One direction's output at a latents' row. -/
def oR (d : Fin 2) (L : ℝ) (t : Fin 2048) (e : Fin 512) : ℝ :=
  ∑ s : Fin 2304, (∑ a, qR A b h t a * kR A B b h s a) * dec L (ord d (256 + t.val) - ord d s.val) * vR A B b h s e
end

/-- A row normalised by its mean square and gated. -/
def normed (o : Fin 512 → EReal) (g : EReal) (e : Fin 512) : EReal :=
  o e * Ideal.rsqrt (Ideal.div (∑ j : Fin 512, o j * o j) (Ideal.ofBits FTy.f32 0x44000000#32) + Ideal.ofBits FTy.f32 0x3727C5AC#32) * (g * Ideal.logistic g)

end Cert.RetData
end
-- ==== Proof.RetDir.lean ====
/-
  One direction's contribution to a block of rows, on real data: the decayed sum over all positions.
-/
module

public import proofs.«01_k».proof.Proof.RetLift
public import proofs.«01_k».proof.Proof.RetData

@[expose] public section
set_option maxRecDepth 16384
noncomputable section

namespace Cert.RetKernelIdeal.RetScan
open Cert.RetKernelIdeal Cert.RetKernelIdeal.Gen Cert.RetMath
open Cert.RetData (pl bl oR kR vR qR ext ext_of total pl_nonneg pl_le rot_real kx qx vx)
open Idealize.ShloMosaic Idealize.ShloMosaic.TcCoe Idealize.SL.Sem

/-- The position of row `i` of the latents' block `j`. -/
abbrev ps (j : Fin 8) (i : Fin 256) : Fin 2304 := ⟨256 + (256 * j.val + i.val), by omega⟩
/-- Its row among the latents. -/
abbrev rw' (j : Fin 8) (i : Fin 256) : Fin 2048 := ⟨256 * j.val + i.val, by omega⟩
/-- The position of row `i` of the context. -/
abbrev pc (i : Fin 256) : Fin 2304 := ⟨i.val, by omega⟩

theorem dir_real (A : Fin 16384 → Fin 17408 → EReal) (B : Fin 2048 → Fin 6144 → EReal) (b : Fin 8) (h : Fin 4)
    (d : Fin 2) (T10 : Vec Ideal S2x1x256x256 .f32) (T11 : Vec Ideal S2x1x512x128 .f32) (T12 : Vec Ideal S2x1x8x128 .f32)
    (Q K : Vec Ideal S2048x256 .bf16) (W : Vec Ideal S2048x512 .bf16) (krc : Vec Ideal S256x256 .bf16) (vc : Vec Ideal S256x512 .bf16)
    (L : ℝ) (g : Fin 8 → Fin 8) (hg : ∀ n : Fin 8, bl d (n.val + 1) = (g n).val + 1) (hg0 : bl d 0 = 0)
    (him : ∀ i j : Fin 256, imv d T10 (ix4 0 0 i j) = ((dec L (pl d i - pl d j) : ℝ) : EReal))
    (hqd : ∀ (i : Fin 256) (e : Fin 128), qdv d T11 (ix4 0 0 i e) = ((Real.exp ((pl d i + 1) * L) : ℝ) : EReal))
    (hkd : ∀ (i : Fin 256) (e : Fin 128), kdv d T11 (ix4 0 0 i e) = ((Real.exp ((255 - pl d i) * L) : ℝ) : EReal))
    (hsd : ∀ e : Fin 128, sdv d T12 (ix4 0 0 0 e) = ((Real.exp (256 * L) : ℝ) : EReal))
    (hK : ∀ (j : Fin 8) (i a : Fin 256), blk j K (ix2 i a) = ((kR A B b h (ps j i) a : ℝ) : EReal))
    (hW : ∀ (j : Fin 8) (i : Fin 256) (e : Fin 512), blk j W (ix2 i e) = ((vR A B b h (ps j i) e : ℝ) : EReal))
    (hQ : ∀ (j : Fin 8) (i a : Fin 256), blk j Q (ix2 i a) = ((qR A b h (rw' j i) a : ℝ) : EReal))
    (hkc : ∀ i a : Fin 256, krc (ix2 i a) = ((kR A B b h (pc i) a : ℝ) : EReal))
    (hvc : ∀ (i : Fin 256) (e : Fin 512), vc (ix2 i e) = ((vR A B b h (pc i) e : ℝ) : EReal))
    (z o : Vec Ideal S256x512 .f32) (hz : ∀ (a : Fin 256) (e : Fin 512), z (ix2 a e) = 0)
    (ho : ∀ (a : Fin 256) (e : Fin 512), o (ix2 a e) = 0) (n : Fin 8) (i : Fin 256) (e : Fin 512) :
    con d T10 T11 Q K W (g n) o (st d T11 T12 K W g (k0_pay1 (kdv d T11) (sdv d T12) krc z vc) n.val) (ix2 i e)
      = ((oR A B b h d L (rw' (g n) i) e : ℝ) : EReal) := by
  have hs : ∀ (n : Fin 8) (i : Fin 256), (ps (g n) i).val = 256 * bl d (n.val + 1) + i.val := fun n i => by
    rw [hg]; show 256 + (256 * (g n).val + i.val) = 256 * ((g n).val + 1) + i.val; omega
  have hc : ∀ i : Fin 256, (pc i).val = 256 * bl d 0 + i.val := fun i => by rw [hg0]; show i.val = 256 * 0 + i.val; omega
  refine (con_real d T10 T11 T12 Q K W krc vc L (pl d) g him hqd hkd hsd (fun n i a => ext (kR A B b h) (256 * bl d n + i.val) a)
    (fun n i e => ext (fun s => vR A B b h s e) (256 * bl d n + i.val)) (fun n i a => qR A b h (rw' (g n) i) a)
    (fun n i a => (hK (g n) i a).trans ?_) (fun n i e => (hW (g n) i e).trans ?_) (fun n i a => hQ (g n) i a)
    (fun i a => (hkc i a).trans ?_) (fun i e => (hvc i e).trans ?_) (pl_nonneg d) (pl_le d) z o hz ho n i e).trans ?_
  · rw [ext_of _ _ (ps (g n) i) (hs n i)]
  · rw [ext_of _ _ (ps (g n) i) (hs n i)]
  · rw [ext_of _ _ (pc i) (hc i)]
  · rw [ext_of _ _ (pc i) (hc i)]
  · congr 1
    refine (total L d (qR A b h (rw' (g n) i)) (kR A B b h) (fun s => vR A B b h s e) n.val n.isLt i).trans ?_
    unfold oR
    rw [show 256 * bl d (n.val + 1) + i.val = 256 + (rw' (g n) i).val from (hs n i).symm]

/-- The turned keys of a block. -/
theorem key_real (A : Fin 16384 → Fin 17408 → EReal) (B : Fin 2048 → Fin 6144 → EReal) (b : Fin 8) (h : Fin 4) (s : Fin 2304)
    (x : Vec Ideal S256x256 .bf16) (cs sn : Vec Ideal S256x128 .f32) (r : Fin 256)
    (hx : ∀ a : Fin 256, x (ix2 r a) = (((kx A B b h s a).toReal : ℝ) : EReal))
    (hc : ∀ e : Fin 128, cs (ix2 r e) = Ideal.cos (Cert.RetScalar.angE s.val e.val)) (hs : ∀ e : Fin 128, sn (ix2 r e) = Ideal.sin (Cert.RetScalar.angE s.val e.val)) (a : Fin 256) :
    k0_pay10 x cs sn (ix2 r a) = ((kR A B b h s a : ℝ) : EReal) :=
  rot_real (fun a => k0_pay10 x cs sn (ix2 r a)) (fun a => (kx A B b h s a).toReal) s.val (by omega) (1 / 16)
    (fun e => by rw [← hx, ← hx, ← hc, ← hs, ← Cert.RetScalar.w_16th]; exact pay10_lo x cs sn r e)
    (fun e => by rw [← hx, ← hx, ← hc, ← hs, ← Cert.RetScalar.w_16th]; exact pay10_hi x cs sn r e) a

/-- The turned queries of a block. -/
theorem query_real (A : Fin 16384 → Fin 17408 → EReal) (b : Fin 8) (h : Fin 4) (t : Fin 2048)
    (x : Vec Ideal S256x256 .bf16) (cs sn : Vec Ideal S256x128 .f32) (r : Fin 256)
    (hx : ∀ a : Fin 256, x (ix2 r a) = (((qx A b h t a).toReal : ℝ) : EReal))
    (hc : ∀ e : Fin 128, cs (ix2 r e) = Ideal.cos (Cert.RetScalar.angE (256 + t.val) e.val)) (hs : ∀ e : Fin 128, sn (ix2 r e) = Ideal.sin (Cert.RetScalar.angE (256 + t.val) e.val)) (a : Fin 256) :
    k0_pay12 x cs sn (ix2 r a) = ((qR A b h t a : ℝ) : EReal) :=
  rot_real (fun a => k0_pay12 x cs sn (ix2 r a)) (fun a => (qx A b h t a).toReal) (256 + t.val) (by omega) 1
    (fun e => by rw [← hx, ← hx, ← hc, ← hs, EReal.coe_one, ← Ideal.ofBits_one_f32]; exact pay12_lo x cs sn r e)
    (fun e => by rw [← hx, ← hx, ← hc, ← hs, EReal.coe_one, ← Ideal.ofBits_one_f32]; exact pay12_hi x cs sn r e) a

end Cert.RetKernelIdeal.RetScan
end
-- ==== Proof.RetTables.lean ====
/-
  The decay and rotation tables the host computes before the kernel: one definition per line of its program, and that the
  region finds them so.
-/
module

public import proofs.«01_k».proof.Proof.Gen.RetKernelIdeal.Frame.Runs
public import Idealize.ShloMosaic.Lib.Pointwise

@[expose] public section
set_option maxRecDepth 16384
noncomputable section

namespace Cert.RetKernelIdeal.Tables
open Cert.RetKernelIdeal Cert.RetKernelIdeal.Gen Idealize.ShloMosaic Idealize.ShloMosaic.TcCoe Idealize.SL.Sem

variable {F : FTy → Type} [FloatOps F]

def t_cst : (⟨S_, .f32⟩ : BufTy).Contents (Elt F) := (constant S_ .f32 0x00000000#32)
def t_cst_0 : (⟨S_, .f32⟩ : BufTy).Contents (Elt F) := (constant S_ .f32 0x3F800000#32)
def t_call0_v0 : (⟨S_, .f32⟩ : BufTy).Contents (Elt F) := (id) (t_cst (F := F))
def t_call0_v1 : (⟨S_, .f32⟩ : BufTy).Contents (Elt F) := (id) (t_cst_0 (F := F))
def t_call0_v2 : (⟨S_, .f32⟩ : BufTy).Contents (Elt F) := (subf) (t_call0_v1 (F := F)) (t_call0_v0 (F := F))
def t_call0_cst : (⟨S_, .f32⟩ : BufTy).Contents (Elt F) := (constant S_ .f32 0x42FE0000#32)
def t_call0_v3 : (⟨S_, .f32⟩ : BufTy).Contents (Elt F) := (Host.divf) (t_call0_v2 (F := F)) (t_call0_cst (F := F))
def t_call0_v4 : (⟨S127, .f32⟩ : BufTy).Contents (Elt F) := (sitofp .f32 (iotaInDim S127 32 0))
def t_call0_cst_0 : (⟨S_, .f32⟩ : BufTy).Contents (Elt F) := (constant S_ .f32 0x42FE0000#32)
def t_call0_v5 : (⟨S127, .f32⟩ : BufTy).Contents (Elt F) := ((broadcastInDim S127 ![] bcast_S_S127)) (t_call0_cst_0 (F := F))
def t_call0_v6 : (⟨S127, .f32⟩ : BufTy).Contents (Elt F) := (Host.divf) (t_call0_v4 (F := F)) (t_call0_v5 (F := F))
def t_call0_v7 : (⟨S1, .f32⟩ : BufTy).Contents (Elt F) := shapeCast _ (t_call0_v0 (F := F)) shapeCasts_S_S1
def t_call0_cst_1 : (⟨S_, .f32⟩ : BufTy).Contents (Elt F) := (constant S_ .f32 0x3F800000#32)
def t_call0_v8 : (⟨S127, .f32⟩ : BufTy).Contents (Elt F) := ((broadcastInDim S127 ![] bcast_S_S127)) (t_call0_cst_1 (F := F))
def t_call0_v9 : (⟨S127, .f32⟩ : BufTy).Contents (Elt F) := (subf) (t_call0_v8 (F := F)) (t_call0_v6 (F := F))
def t_call0_v10 : (⟨S127, .f32⟩ : BufTy).Contents (Elt F) := ((broadcastInDim S127 ![0] bcast_S1_S127_0)) (t_call0_v7 (F := F))
def t_call0_v11 : (⟨S127, .f32⟩ : BufTy).Contents (Elt F) := (mulf) (t_call0_v10 (F := F)) (t_call0_v9 (F := F))
def t_call0_v12 : (⟨S1, .f32⟩ : BufTy).Contents (Elt F) := shapeCast _ (t_call0_v1 (F := F)) shapeCasts_S_S1
def t_call0_v13 : (⟨S127, .f32⟩ : BufTy).Contents (Elt F) := ((broadcastInDim S127 ![0] bcast_S1_S127_0)) (t_call0_v12 (F := F))
def t_call0_v14 : (⟨S127, .f32⟩ : BufTy).Contents (Elt F) := (mulf) (t_call0_v13 (F := F)) (t_call0_v6 (F := F))
def t_call0_v15 : (⟨S127, .f32⟩ : BufTy).Contents (Elt F) := (addf) (t_call0_v11 (F := F)) (t_call0_v14 (F := F))
def t_call0_v16 : (⟨S1, .f32⟩ : BufTy).Contents (Elt F) := ((broadcastInDim S1 ![] bcast_S_S1)) (t_call0_v1 (F := F))
def t_v0 : (⟨S128, .f32⟩ : BufTy).Contents (Elt F) := ((fun a b => concatenate S128 0 [⟨S127, a⟩, ⟨S1, b⟩] concatenates_S127_S1_S128_d0)) (t_call0_v15 (F := F)) (t_call0_v16 (F := F))
def t_cst_1 : (⟨S_, .f32⟩ : BufTy).Contents (Elt F) := (constant S_ .f32 0x461C4000#32)
def t_v1 : (⟨S128, .f32⟩ : BufTy).Contents (Elt F) := ((broadcastInDim S128 ![] bcast_S_S128 : (⟨S_, .f32⟩ : BufTy).Contents (Elt F) → (⟨S128, .f32⟩ : BufTy).Contents (Elt F))) (t_cst_1 (F := F))
def t_v2 : (⟨S128, .f32⟩ : BufTy).Contents (Elt F) := ((Host.powf : (⟨S128, .f32⟩ : BufTy).Contents (Elt F) → (⟨S128, .f32⟩ : BufTy).Contents (Elt F) → (⟨S128, .f32⟩ : BufTy).Contents (Elt F))) (t_v1 (F := F)) (t_v0 (F := F))
def t_cst_2 : (⟨S_, .f32⟩ : BufTy).Contents (Elt F) := (constant S_ .f32 0x3F800000#32)
def t_v3 : (⟨S128, .f32⟩ : BufTy).Contents (Elt F) := ((broadcastInDim S128 ![] bcast_S_S128 : (⟨S_, .f32⟩ : BufTy).Contents (Elt F) → (⟨S128, .f32⟩ : BufTy).Contents (Elt F))) (t_cst_2 (F := F))
def t_v4 : (⟨S128, .f32⟩ : BufTy).Contents (Elt F) := ((Host.divf : (⟨S128, .f32⟩ : BufTy).Contents (Elt F) → (⟨S128, .f32⟩ : BufTy).Contents (Elt F) → (⟨S128, .f32⟩ : BufTy).Contents (Elt F))) (t_v3 (F := F)) (t_v2 (F := F))
def t_v5 : (⟨S2304, .f32⟩ : BufTy).Contents (Elt F) := (sitofp .f32 (iotaInDim S2304 32 0))
def t_v6 : (⟨S2304x1, .f32⟩ : BufTy).Contents (Elt F) := ((broadcastInDim S2304x1 ![0] bcast_S2304_S2304x1_0 : (⟨S2304, .f32⟩ : BufTy).Contents (Elt F) → (⟨S2304x1, .f32⟩ : BufTy).Contents (Elt F))) (t_v5 (F := F))
def t_v7 : (⟨S1x128, .f32⟩ : BufTy).Contents (Elt F) := ((broadcastInDim S1x128 ![1] bcast_S128_S1x128_1 : (⟨S128, .f32⟩ : BufTy).Contents (Elt F) → (⟨S1x128, .f32⟩ : BufTy).Contents (Elt F))) (t_v4 (F := F))
def t_v8 : (⟨S2304x128, .f32⟩ : BufTy).Contents (Elt F) := ((broadcastInDim S2304x128 ![0, 1] bcast_S2304x1_S2304x128_0_1 : (⟨S2304x1, .f32⟩ : BufTy).Contents (Elt F) → (⟨S2304x128, .f32⟩ : BufTy).Contents (Elt F))) (t_v6 (F := F))
def t_v9 : (⟨S2304x128, .f32⟩ : BufTy).Contents (Elt F) := ((broadcastInDim S2304x128 ![0, 1] bcast_S1x128_S2304x128_0_1 : (⟨S1x128, .f32⟩ : BufTy).Contents (Elt F) → (⟨S2304x128, .f32⟩ : BufTy).Contents (Elt F))) (t_v7 (F := F))
def t_v10 : (⟨S2304x128, .f32⟩ : BufTy).Contents (Elt F) := ((mulf : (⟨S2304x128, .f32⟩ : BufTy).Contents (Elt F) → (⟨S2304x128, .f32⟩ : BufTy).Contents (Elt F) → (⟨S2304x128, .f32⟩ : BufTy).Contents (Elt F))) (t_v8 (F := F)) (t_v9 (F := F))
def t_v11 : (⟨S8, .f32⟩ : BufTy).Contents (Elt F) := (sitofp .f32 (iotaInDim S8 32 0))
def t_cst_3 : (⟨S_, .f32⟩ : BufTy).Contents (Elt F) := (constant S_ .f32 0xC0A00000#32)
def t_v12 : (⟨S8, .f32⟩ : BufTy).Contents (Elt F) := ((broadcastInDim S8 ![] bcast_S_S8 : (⟨S_, .f32⟩ : BufTy).Contents (Elt F) → (⟨S8, .f32⟩ : BufTy).Contents (Elt F))) (t_cst_3 (F := F))
def t_v13 : (⟨S8, .f32⟩ : BufTy).Contents (Elt F) := ((subf : (⟨S8, .f32⟩ : BufTy).Contents (Elt F) → (⟨S8, .f32⟩ : BufTy).Contents (Elt F) → (⟨S8, .f32⟩ : BufTy).Contents (Elt F))) (t_v12 (F := F)) (t_v11 (F := F))
def t_cst_4 : (⟨S_, .f32⟩ : BufTy).Contents (Elt F) := (constant S_ .f32 0x3F317218#32)
def t_v14 : (⟨S8, .f32⟩ : BufTy).Contents (Elt F) := ((broadcastInDim S8 ![] bcast_S_S8 : (⟨S_, .f32⟩ : BufTy).Contents (Elt F) → (⟨S8, .f32⟩ : BufTy).Contents (Elt F))) (t_cst_4 (F := F))
def t_v15 : (⟨S8, .f32⟩ : BufTy).Contents (Elt F) := ((mulf : (⟨S8, .f32⟩ : BufTy).Contents (Elt F) → (⟨S8, .f32⟩ : BufTy).Contents (Elt F) → (⟨S8, .f32⟩ : BufTy).Contents (Elt F))) (t_v14 (F := F)) (t_v13 (F := F))
def t_v16 : (⟨S8, .f32⟩ : BufTy).Contents (Elt F) := ((Host.exp : (⟨S8, .f32⟩ : BufTy).Contents (Elt F) → (⟨S8, .f32⟩ : BufTy).Contents (Elt F))) (t_v15 (F := F))
def t_v17 : (⟨S8, .f32⟩ : BufTy).Contents (Elt F) := ((Host.negf : (⟨S8, .f32⟩ : BufTy).Contents (Elt F) → (⟨S8, .f32⟩ : BufTy).Contents (Elt F))) (t_v16 (F := F))
def t_v18 : (⟨S8, .f32⟩ : BufTy).Contents (Elt F) := ((Host.log1p : (⟨S8, .f32⟩ : BufTy).Contents (Elt F) → (⟨S8, .f32⟩ : BufTy).Contents (Elt F))) (t_v17 (F := F))
def t_v19 : (⟨S256, .f32⟩ : BufTy).Contents (Elt F) := (sitofp .f32 (iotaInDim S256 32 0))
def t_v20 : (⟨S256x1, .f32⟩ : BufTy).Contents (Elt F) := ((broadcastInDim S256x1 ![0] bcast_S256_S256x1_0 : (⟨S256, .f32⟩ : BufTy).Contents (Elt F) → (⟨S256x1, .f32⟩ : BufTy).Contents (Elt F))) (t_v19 (F := F))
def t_v21 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) (t_v19 (F := F))
def t_v22 : (⟨S256x256, .f32⟩ : BufTy).Contents (Elt F) := ((broadcastInDim S256x256 ![0, 1] bcast_S256x1_S256x256_0_1 : (⟨S256x1, .f32⟩ : BufTy).Contents (Elt F) → (⟨S256x256, .f32⟩ : BufTy).Contents (Elt F))) (t_v20 (F := F))
def t_v23 : (⟨S256x256, .f32⟩ : BufTy).Contents (Elt F) := ((broadcastInDim S256x256 ![0, 1] bcast_S1x256_S256x256_0_1 : (⟨S1x256, .f32⟩ : BufTy).Contents (Elt F) → (⟨S256x256, .f32⟩ : BufTy).Contents (Elt F))) (t_v21 (F := F))
def t_v24 : (⟨S256x256, .f32⟩ : BufTy).Contents (Elt F) := ((subf : (⟨S256x256, .f32⟩ : BufTy).Contents (Elt F) → (⟨S256x256, .f32⟩ : BufTy).Contents (Elt F) → (⟨S256x256, .f32⟩ : BufTy).Contents (Elt F))) (t_v22 (F := F)) (t_v23 (F := F))
def t_v25 : (⟨S4, .f32⟩ : BufTy).Contents (Elt F) := (((Host.slice S4 ![0] ![2] · slicesBy_S8_S4_0s2) : (⟨S8, .f32⟩ : BufTy).Contents (Elt F) → (⟨S4, .f32⟩ : BufTy).Contents (Elt F))) (t_v18 (F := F))
def t_cst_5 : (⟨S_, .f32⟩ : BufTy).Contents (Elt F) := (constant S_ .f32 0x00000000#32)
def t_v26 : (⟨S256x256, .f32⟩ : BufTy).Contents (Elt F) := ((broadcastInDim S256x256 ![] bcast_S_S256x256 : (⟨S_, .f32⟩ : BufTy).Contents (Elt F) → (⟨S256x256, .f32⟩ : BufTy).Contents (Elt F))) (t_cst_5 (F := F))
def t_v27 : (⟨S256x256, .i1⟩ : BufTy).Contents (Elt F) := ((cmpf .oge : (⟨S256x256, .f32⟩ : BufTy).Contents (Elt F) → (⟨S256x256, .f32⟩ : BufTy).Contents (Elt F) → (⟨S256x256, .i1⟩ : BufTy).Contents (Elt F))) (t_v24 (F := F)) (t_v26 (F := F))
def t_cst_6 : (⟨S_, .f32⟩ : BufTy).Contents (Elt F) := (constant S_ .f32 0x00000000#32)
def t_v28 : (⟨S256x256, .f32⟩ : BufTy).Contents (Elt F) := ((broadcastInDim S256x256 ![] bcast_S_S256x256 : (⟨S_, .f32⟩ : BufTy).Contents (Elt F) → (⟨S256x256, .f32⟩ : BufTy).Contents (Elt F))) (t_cst_6 (F := F))
def t_v29 : (⟨S256x256, .f32⟩ : BufTy).Contents (Elt F) := ((maximumf : (⟨S256x256, .f32⟩ : BufTy).Contents (Elt F) → (⟨S256x256, .f32⟩ : BufTy).Contents (Elt F) → (⟨S256x256, .f32⟩ : BufTy).Contents (Elt F))) (t_v24 (F := F)) (t_v28 (F := F))
def t_v30 : (⟨S1x256x256, .f32⟩ : BufTy).Contents (Elt F) := ((broadcastInDim S1x256x256 ![1, 2] bcast_S256x256_S1x256x256_1_2 : (⟨S256x256, .f32⟩ : BufTy).Contents (Elt F) → (⟨S1x256x256, .f32⟩ : BufTy).Contents (Elt F))) (t_v29 (F := F))
def t_v31 : (⟨S4x1x1, .f32⟩ : BufTy).Contents (Elt F) := ((broadcastInDim S4x1x1 ![0] bcast_S4_S4x1x1_0 : (⟨S4, .f32⟩ : BufTy).Contents (Elt F) → (⟨S4x1x1, .f32⟩ : BufTy).Contents (Elt F))) (t_v25 (F := F))
def t_v32 : (⟨S4x256x256, .f32⟩ : BufTy).Contents (Elt F) := ((broadcastInDim S4x256x256 ![0, 1, 2] bcast_S1x256x256_S4x256x256_0_1_2 : (⟨S1x256x256, .f32⟩ : BufTy).Contents (Elt F) → (⟨S4x256x256, .f32⟩ : BufTy).Contents (Elt F))) (t_v30 (F := F))
def t_v33 : (⟨S4x256x256, .f32⟩ : BufTy).Contents (Elt F) := ((broadcastInDim S4x256x256 ![0, 1, 2] bcast_S4x1x1_S4x256x256_0_1_2 : (⟨S4x1x1, .f32⟩ : BufTy).Contents (Elt F) → (⟨S4x256x256, .f32⟩ : BufTy).Contents (Elt F))) (t_v31 (F := F))
def t_v34 : (⟨S4x256x256, .f32⟩ : BufTy).Contents (Elt F) := ((mulf : (⟨S4x256x256, .f32⟩ : BufTy).Contents (Elt F) → (⟨S4x256x256, .f32⟩ : BufTy).Contents (Elt F) → (⟨S4x256x256, .f32⟩ : BufTy).Contents (Elt F))) (t_v32 (F := F)) (t_v33 (F := F))
def t_v35 : (⟨S4x256x256, .f32⟩ : BufTy).Contents (Elt F) := ((Host.exp : (⟨S4x256x256, .f32⟩ : BufTy).Contents (Elt F) → (⟨S4x256x256, .f32⟩ : BufTy).Contents (Elt F))) (t_v34 (F := F))
def t_cst_7 : (⟨S_, .f32⟩ : BufTy).Contents (Elt F) := (constant S_ .f32 0x00000000#32)
def t_call1_v0 : (⟨S_, .f32⟩ : BufTy).Contents (Elt F) := (id) (t_cst_7 (F := F))
def t_call1_v1 : (⟨S4x256x256, .i1⟩ : BufTy).Contents (Elt F) := ((broadcastInDim S4x256x256 ![1, 2] bcast_S256x256_S4x256x256_1_2)) (t_v27 (F := F))
def t_call1_v2 : (⟨S4x256x256, .f32⟩ : BufTy).Contents (Elt F) := ((broadcastInDim S4x256x256 ![] bcast_S_S4x256x256)) (t_call1_v0 (F := F))
def t_v36 : (⟨S4x256x256, .f32⟩ : BufTy).Contents (Elt F) := (select) (t_call1_v1 (F := F)) (t_v35 (F := F)) (t_call1_v2 (F := F))
def t_cst_8 : (⟨S_, .f32⟩ : BufTy).Contents (Elt F) := (constant S_ .f32 0x3F800000#32)
def t_v37 : (⟨S256, .f32⟩ : BufTy).Contents (Elt F) := ((broadcastInDim S256 ![] bcast_S_S256 : (⟨S_, .f32⟩ : BufTy).Contents (Elt F) → (⟨S256, .f32⟩ : BufTy).Contents (Elt F))) (t_cst_8 (F := F))
def t_v38 : (⟨S256, .f32⟩ : BufTy).Contents (Elt F) := ((addf : (⟨S256, .f32⟩ : BufTy).Contents (Elt F) → (⟨S256, .f32⟩ : BufTy).Contents (Elt F) → (⟨S256, .f32⟩ : BufTy).Contents (Elt F))) (t_v19 (F := F)) (t_v37 (F := F))
def t_v39 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) (t_v38 (F := F))
def t_v40 : (⟨S4x1, .f32⟩ : BufTy).Contents (Elt F) := ((broadcastInDim S4x1 ![0] bcast_S4_S4x1_0 : (⟨S4, .f32⟩ : BufTy).Contents (Elt F) → (⟨S4x1, .f32⟩ : BufTy).Contents (Elt F))) (t_v25 (F := F))
def t_v41 : (⟨S4x256, .f32⟩ : BufTy).Contents (Elt F) := ((broadcastInDim S4x256 ![0, 1] bcast_S1x256_S4x256_0_1 : (⟨S1x256, .f32⟩ : BufTy).Contents (Elt F) → (⟨S4x256, .f32⟩ : BufTy).Contents (Elt F))) (t_v39 (F := F))
def t_v42 : (⟨S4x256, .f32⟩ : BufTy).Contents (Elt F) := ((broadcastInDim S4x256 ![0, 1] bcast_S4x1_S4x256_0_1 : (⟨S4x1, .f32⟩ : BufTy).Contents (Elt F) → (⟨S4x256, .f32⟩ : BufTy).Contents (Elt F))) (t_v40 (F := F))
def t_v43 : (⟨S4x256, .f32⟩ : BufTy).Contents (Elt F) := ((mulf : (⟨S4x256, .f32⟩ : BufTy).Contents (Elt F) → (⟨S4x256, .f32⟩ : BufTy).Contents (Elt F) → (⟨S4x256, .f32⟩ : BufTy).Contents (Elt F))) (t_v41 (F := F)) (t_v42 (F := F))
def t_v44 : (⟨S4x256, .f32⟩ : BufTy).Contents (Elt F) := ((Host.exp : (⟨S4x256, .f32⟩ : BufTy).Contents (Elt F) → (⟨S4x256, .f32⟩ : BufTy).Contents (Elt F))) (t_v43 (F := F))
def t_cst_9 : (⟨S_, .f32⟩ : BufTy).Contents (Elt F) := (constant S_ .f32 0x437F0000#32)
def t_v45 : (⟨S256, .f32⟩ : BufTy).Contents (Elt F) := ((broadcastInDim S256 ![] bcast_S_S256 : (⟨S_, .f32⟩ : BufTy).Contents (Elt F) → (⟨S256, .f32⟩ : BufTy).Contents (Elt F))) (t_cst_9 (F := F))
def t_v46 : (⟨S256, .f32⟩ : BufTy).Contents (Elt F) := ((subf : (⟨S256, .f32⟩ : BufTy).Contents (Elt F) → (⟨S256, .f32⟩ : BufTy).Contents (Elt F) → (⟨S256, .f32⟩ : BufTy).Contents (Elt F))) (t_v45 (F := F)) (t_v19 (F := F))
def t_v47 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) (t_v46 (F := F))
def t_v48 : (⟨S4x1, .f32⟩ : BufTy).Contents (Elt F) := ((broadcastInDim S4x1 ![0] bcast_S4_S4x1_0 : (⟨S4, .f32⟩ : BufTy).Contents (Elt F) → (⟨S4x1, .f32⟩ : BufTy).Contents (Elt F))) (t_v25 (F := F))
def t_v49 : (⟨S4x256, .f32⟩ : BufTy).Contents (Elt F) := ((broadcastInDim S4x256 ![0, 1] bcast_S1x256_S4x256_0_1 : (⟨S1x256, .f32⟩ : BufTy).Contents (Elt F) → (⟨S4x256, .f32⟩ : BufTy).Contents (Elt F))) (t_v47 (F := F))
def t_v50 : (⟨S4x256, .f32⟩ : BufTy).Contents (Elt F) := ((broadcastInDim S4x256 ![0, 1] bcast_S4x1_S4x256_0_1 : (⟨S4x1, .f32⟩ : BufTy).Contents (Elt F) → (⟨S4x256, .f32⟩ : BufTy).Contents (Elt F))) (t_v48 (F := F))
def t_v51 : (⟨S4x256, .f32⟩ : BufTy).Contents (Elt F) := ((mulf : (⟨S4x256, .f32⟩ : BufTy).Contents (Elt F) → (⟨S4x256, .f32⟩ : BufTy).Contents (Elt F) → (⟨S4x256, .f32⟩ : BufTy).Contents (Elt F))) (t_v49 (F := F)) (t_v50 (F := F))
def t_v52 : (⟨S4x256, .f32⟩ : BufTy).Contents (Elt F) := ((Host.exp : (⟨S4x256, .f32⟩ : BufTy).Contents (Elt F) → (⟨S4x256, .f32⟩ : BufTy).Contents (Elt F))) (t_v51 (F := F))
def t_v53 : (⟨S4x512, .f32⟩ : BufTy).Contents (Elt F) := (((fun a b => concatenate S4x512 1 [⟨S4x256, a⟩, ⟨S4x256, b⟩] concatenates_S4x256_S4x256_S4x512_d1) : (⟨S4x256, .f32⟩ : BufTy).Contents (Elt F) → (⟨S4x256, .f32⟩ : BufTy).Contents (Elt F) → (⟨S4x512, .f32⟩ : BufTy).Contents (Elt F))) (t_v44 (F := F)) (t_v52 (F := F))
def t_v54 : (⟨S4x512x1, .f32⟩ : BufTy).Contents (Elt F) := ((broadcastInDim S4x512x1 ![0, 1] bcast_S4x512_S4x512x1_0_1 : (⟨S4x512, .f32⟩ : BufTy).Contents (Elt F) → (⟨S4x512x1, .f32⟩ : BufTy).Contents (Elt F))) (t_v53 (F := F))
def t_v55 : (⟨S4x512x128, .f32⟩ : BufTy).Contents (Elt F) := ((broadcastInDim S4x512x128 ![0, 1, 2] bcast_S4x512x1_S4x512x128_0_1_2 : (⟨S4x512x1, .f32⟩ : BufTy).Contents (Elt F) → (⟨S4x512x128, .f32⟩ : BufTy).Contents (Elt F))) (t_v54 (F := F))
def t_cst_10 : (⟨S_, .f32⟩ : BufTy).Contents (Elt F) := (constant S_ .f32 0x43800000#32)
def t_v56 : (⟨S4, .f32⟩ : BufTy).Contents (Elt F) := ((broadcastInDim S4 ![] bcast_S_S4 : (⟨S_, .f32⟩ : BufTy).Contents (Elt F) → (⟨S4, .f32⟩ : BufTy).Contents (Elt F))) (t_cst_10 (F := F))
def t_v57 : (⟨S4, .f32⟩ : BufTy).Contents (Elt F) := ((mulf : (⟨S4, .f32⟩ : BufTy).Contents (Elt F) → (⟨S4, .f32⟩ : BufTy).Contents (Elt F) → (⟨S4, .f32⟩ : BufTy).Contents (Elt F))) (t_v56 (F := F)) (t_v25 (F := F))
def t_v58 : (⟨S4, .f32⟩ : BufTy).Contents (Elt F) := ((Host.exp : (⟨S4, .f32⟩ : BufTy).Contents (Elt F) → (⟨S4, .f32⟩ : BufTy).Contents (Elt F))) (t_v57 (F := F))
def t_v59 : (⟨S4x1x1, .f32⟩ : BufTy).Contents (Elt F) := ((broadcastInDim S4x1x1 ![0] bcast_S4_S4x1x1_0 : (⟨S4, .f32⟩ : BufTy).Contents (Elt F) → (⟨S4x1x1, .f32⟩ : BufTy).Contents (Elt F))) (t_v58 (F := F))
def t_v60 : (⟨S4x8x128, .f32⟩ : BufTy).Contents (Elt F) := ((broadcastInDim S4x8x128 ![0, 1, 2] bcast_S4x1x1_S4x8x128_0_1_2 : (⟨S4x1x1, .f32⟩ : BufTy).Contents (Elt F) → (⟨S4x8x128, .f32⟩ : BufTy).Contents (Elt F))) (t_v59 (F := F))
def t_v61 : (⟨S4, .f32⟩ : BufTy).Contents (Elt F) := (((Host.slice S4 ![1] ![2] · slicesBy_S8_S4_1s2) : (⟨S8, .f32⟩ : BufTy).Contents (Elt F) → (⟨S4, .f32⟩ : BufTy).Contents (Elt F))) (t_v18 (F := F))
def t_cst_11 : (⟨S_, .f32⟩ : BufTy).Contents (Elt F) := (constant S_ .f32 0x00000000#32)
def t_v62 : (⟨S256x256, .f32⟩ : BufTy).Contents (Elt F) := ((broadcastInDim S256x256 ![] bcast_S_S256x256 : (⟨S_, .f32⟩ : BufTy).Contents (Elt F) → (⟨S256x256, .f32⟩ : BufTy).Contents (Elt F))) (t_cst_11 (F := F))
def t_v63 : (⟨S256x256, .i1⟩ : BufTy).Contents (Elt F) := ((cmpf .oge : (⟨S256x256, .f32⟩ : BufTy).Contents (Elt F) → (⟨S256x256, .f32⟩ : BufTy).Contents (Elt F) → (⟨S256x256, .i1⟩ : BufTy).Contents (Elt F))) (t_v24 (F := F)) (t_v62 (F := F))
def t_cst_12 : (⟨S_, .f32⟩ : BufTy).Contents (Elt F) := (constant S_ .f32 0x00000000#32)
def t_v64 : (⟨S256x256, .f32⟩ : BufTy).Contents (Elt F) := ((broadcastInDim S256x256 ![] bcast_S_S256x256 : (⟨S_, .f32⟩ : BufTy).Contents (Elt F) → (⟨S256x256, .f32⟩ : BufTy).Contents (Elt F))) (t_cst_12 (F := F))
def t_v65 : (⟨S256x256, .f32⟩ : BufTy).Contents (Elt F) := ((maximumf : (⟨S256x256, .f32⟩ : BufTy).Contents (Elt F) → (⟨S256x256, .f32⟩ : BufTy).Contents (Elt F) → (⟨S256x256, .f32⟩ : BufTy).Contents (Elt F))) (t_v24 (F := F)) (t_v64 (F := F))
def t_v66 : (⟨S1x256x256, .f32⟩ : BufTy).Contents (Elt F) := ((broadcastInDim S1x256x256 ![1, 2] bcast_S256x256_S1x256x256_1_2 : (⟨S256x256, .f32⟩ : BufTy).Contents (Elt F) → (⟨S1x256x256, .f32⟩ : BufTy).Contents (Elt F))) (t_v65 (F := F))
def t_v67 : (⟨S4x1x1, .f32⟩ : BufTy).Contents (Elt F) := ((broadcastInDim S4x1x1 ![0] bcast_S4_S4x1x1_0 : (⟨S4, .f32⟩ : BufTy).Contents (Elt F) → (⟨S4x1x1, .f32⟩ : BufTy).Contents (Elt F))) (t_v61 (F := F))
def t_v68 : (⟨S4x256x256, .f32⟩ : BufTy).Contents (Elt F) := ((broadcastInDim S4x256x256 ![0, 1, 2] bcast_S1x256x256_S4x256x256_0_1_2 : (⟨S1x256x256, .f32⟩ : BufTy).Contents (Elt F) → (⟨S4x256x256, .f32⟩ : BufTy).Contents (Elt F))) (t_v66 (F := F))
def t_v69 : (⟨S4x256x256, .f32⟩ : BufTy).Contents (Elt F) := ((broadcastInDim S4x256x256 ![0, 1, 2] bcast_S4x1x1_S4x256x256_0_1_2 : (⟨S4x1x1, .f32⟩ : BufTy).Contents (Elt F) → (⟨S4x256x256, .f32⟩ : BufTy).Contents (Elt F))) (t_v67 (F := F))
def t_v70 : (⟨S4x256x256, .f32⟩ : BufTy).Contents (Elt F) := ((mulf : (⟨S4x256x256, .f32⟩ : BufTy).Contents (Elt F) → (⟨S4x256x256, .f32⟩ : BufTy).Contents (Elt F) → (⟨S4x256x256, .f32⟩ : BufTy).Contents (Elt F))) (t_v68 (F := F)) (t_v69 (F := F))
def t_v71 : (⟨S4x256x256, .f32⟩ : BufTy).Contents (Elt F) := ((Host.exp : (⟨S4x256x256, .f32⟩ : BufTy).Contents (Elt F) → (⟨S4x256x256, .f32⟩ : BufTy).Contents (Elt F))) (t_v70 (F := F))
def t_cst_13 : (⟨S_, .f32⟩ : BufTy).Contents (Elt F) := (constant S_ .f32 0x00000000#32)
def t_call2_v0 : (⟨S_, .f32⟩ : BufTy).Contents (Elt F) := (id) (t_cst_13 (F := F))
def t_call2_v1 : (⟨S4x256x256, .i1⟩ : BufTy).Contents (Elt F) := ((broadcastInDim S4x256x256 ![1, 2] bcast_S256x256_S4x256x256_1_2)) (t_v63 (F := F))
def t_call2_v2 : (⟨S4x256x256, .f32⟩ : BufTy).Contents (Elt F) := ((broadcastInDim S4x256x256 ![] bcast_S_S4x256x256)) (t_call2_v0 (F := F))
def t_v72 : (⟨S4x256x256, .f32⟩ : BufTy).Contents (Elt F) := (select) (t_call2_v1 (F := F)) (t_v71 (F := F)) (t_call2_v2 (F := F))
def t_cst_14 : (⟨S_, .f32⟩ : BufTy).Contents (Elt F) := (constant S_ .f32 0x3F800000#32)
def t_v73 : (⟨S256, .f32⟩ : BufTy).Contents (Elt F) := ((broadcastInDim S256 ![] bcast_S_S256 : (⟨S_, .f32⟩ : BufTy).Contents (Elt F) → (⟨S256, .f32⟩ : BufTy).Contents (Elt F))) (t_cst_14 (F := F))
def t_v74 : (⟨S256, .f32⟩ : BufTy).Contents (Elt F) := ((addf : (⟨S256, .f32⟩ : BufTy).Contents (Elt F) → (⟨S256, .f32⟩ : BufTy).Contents (Elt F) → (⟨S256, .f32⟩ : BufTy).Contents (Elt F))) (t_v19 (F := F)) (t_v73 (F := F))
def t_v75 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) (t_v74 (F := F))
def t_v76 : (⟨S4x1, .f32⟩ : BufTy).Contents (Elt F) := ((broadcastInDim S4x1 ![0] bcast_S4_S4x1_0 : (⟨S4, .f32⟩ : BufTy).Contents (Elt F) → (⟨S4x1, .f32⟩ : BufTy).Contents (Elt F))) (t_v61 (F := F))
def t_v77 : (⟨S4x256, .f32⟩ : BufTy).Contents (Elt F) := ((broadcastInDim S4x256 ![0, 1] bcast_S1x256_S4x256_0_1 : (⟨S1x256, .f32⟩ : BufTy).Contents (Elt F) → (⟨S4x256, .f32⟩ : BufTy).Contents (Elt F))) (t_v75 (F := F))
def t_v78 : (⟨S4x256, .f32⟩ : BufTy).Contents (Elt F) := ((broadcastInDim S4x256 ![0, 1] bcast_S4x1_S4x256_0_1 : (⟨S4x1, .f32⟩ : BufTy).Contents (Elt F) → (⟨S4x256, .f32⟩ : BufTy).Contents (Elt F))) (t_v76 (F := F))
def t_v79 : (⟨S4x256, .f32⟩ : BufTy).Contents (Elt F) := ((mulf : (⟨S4x256, .f32⟩ : BufTy).Contents (Elt F) → (⟨S4x256, .f32⟩ : BufTy).Contents (Elt F) → (⟨S4x256, .f32⟩ : BufTy).Contents (Elt F))) (t_v77 (F := F)) (t_v78 (F := F))
def t_v80 : (⟨S4x256, .f32⟩ : BufTy).Contents (Elt F) := ((Host.exp : (⟨S4x256, .f32⟩ : BufTy).Contents (Elt F) → (⟨S4x256, .f32⟩ : BufTy).Contents (Elt F))) (t_v79 (F := F))
def t_cst_15 : (⟨S_, .f32⟩ : BufTy).Contents (Elt F) := (constant S_ .f32 0x437F0000#32)
def t_v81 : (⟨S256, .f32⟩ : BufTy).Contents (Elt F) := ((broadcastInDim S256 ![] bcast_S_S256 : (⟨S_, .f32⟩ : BufTy).Contents (Elt F) → (⟨S256, .f32⟩ : BufTy).Contents (Elt F))) (t_cst_15 (F := F))
def t_v82 : (⟨S256, .f32⟩ : BufTy).Contents (Elt F) := ((subf : (⟨S256, .f32⟩ : BufTy).Contents (Elt F) → (⟨S256, .f32⟩ : BufTy).Contents (Elt F) → (⟨S256, .f32⟩ : BufTy).Contents (Elt F))) (t_v81 (F := F)) (t_v19 (F := F))
def t_v83 : (⟨S1x256, .f32⟩ : BufTy).Contents (Elt F) := ((broadcastInDim S1x256 ![1] bcast_S256_S1x256_1 : (⟨S256, .f32⟩ : BufTy).Contents (Elt F) → (⟨S1x256, .f32⟩ : BufTy).Contents (Elt F))) (t_v82 (F := F))
def t_v84 : (⟨S4x1, .f32⟩ : BufTy).Contents (Elt F) := ((broadcastInDim S4x1 ![0] bcast_S4_S4x1_0 : (⟨S4, .f32⟩ : BufTy).Contents (Elt F) → (⟨S4x1, .f32⟩ : BufTy).Contents (Elt F))) (t_v61 (F := F))
def t_v85 : (⟨S4x256, .f32⟩ : BufTy).Contents (Elt F) := ((broadcastInDim S4x256 ![0, 1] bcast_S1x256_S4x256_0_1 : (⟨S1x256, .f32⟩ : BufTy).Contents (Elt F) → (⟨S4x256, .f32⟩ : BufTy).Contents (Elt F))) (t_v83 (F := F))
def t_v86 : (⟨S4x256, .f32⟩ : BufTy).Contents (Elt F) := ((broadcastInDim S4x256 ![0, 1] bcast_S4x1_S4x256_0_1 : (⟨S4x1, .f32⟩ : BufTy).Contents (Elt F) → (⟨S4x256, .f32⟩ : BufTy).Contents (Elt F))) (t_v84 (F := F))
def t_v87 : (⟨S4x256, .f32⟩ : BufTy).Contents (Elt F) := ((mulf : (⟨S4x256, .f32⟩ : BufTy).Contents (Elt F) → (⟨S4x256, .f32⟩ : BufTy).Contents (Elt F) → (⟨S4x256, .f32⟩ : BufTy).Contents (Elt F))) (t_v85 (F := F)) (t_v86 (F := F))
def t_v88 : (⟨S4x256, .f32⟩ : BufTy).Contents (Elt F) := ((Host.exp : (⟨S4x256, .f32⟩ : BufTy).Contents (Elt F) → (⟨S4x256, .f32⟩ : BufTy).Contents (Elt F))) (t_v87 (F := F))
def t_v89 : (⟨S4x256x256, .f32⟩ : BufTy).Contents (Elt F) := (((transpose S4x256x256 [0, 2, 1] · transposes_S4x256x256_S4x256x256_0_2_1) : (⟨S4x256x256, .f32⟩ : BufTy).Contents (Elt F) → (⟨S4x256x256, .f32⟩ : BufTy).Contents (Elt F))) (t_v72 (F := F))
def t_v90 : (⟨S4x256, .f32⟩ : BufTy).Contents (Elt F) := ((Host.reverse [1] : (⟨S4x256, .f32⟩ : BufTy).Contents (Elt F) → (⟨S4x256, .f32⟩ : BufTy).Contents (Elt F))) (t_v80 (F := F))
def t_v91 : (⟨S4x256, .f32⟩ : BufTy).Contents (Elt F) := ((Host.reverse [1] : (⟨S4x256, .f32⟩ : BufTy).Contents (Elt F) → (⟨S4x256, .f32⟩ : BufTy).Contents (Elt F))) (t_v88 (F := F))
def t_v92 : (⟨S4x512, .f32⟩ : BufTy).Contents (Elt F) := (((fun a b => concatenate S4x512 1 [⟨S4x256, a⟩, ⟨S4x256, b⟩] concatenates_S4x256_S4x256_S4x512_d1) : (⟨S4x256, .f32⟩ : BufTy).Contents (Elt F) → (⟨S4x256, .f32⟩ : BufTy).Contents (Elt F) → (⟨S4x512, .f32⟩ : BufTy).Contents (Elt F))) (t_v90 (F := F)) (t_v91 (F := F))
def t_v93 : (⟨S4x512x1, .f32⟩ : BufTy).Contents (Elt F) := ((broadcastInDim S4x512x1 ![0, 1] bcast_S4x512_S4x512x1_0_1 : (⟨S4x512, .f32⟩ : BufTy).Contents (Elt F) → (⟨S4x512x1, .f32⟩ : BufTy).Contents (Elt F))) (t_v92 (F := F))
def t_v94 : (⟨S4x512x128, .f32⟩ : BufTy).Contents (Elt F) := ((broadcastInDim S4x512x128 ![0, 1, 2] bcast_S4x512x1_S4x512x128_0_1_2 : (⟨S4x512x1, .f32⟩ : BufTy).Contents (Elt F) → (⟨S4x512x128, .f32⟩ : BufTy).Contents (Elt F))) (t_v93 (F := F))
def t_cst_16 : (⟨S_, .f32⟩ : BufTy).Contents (Elt F) := (constant S_ .f32 0x43800000#32)
def t_v95 : (⟨S4, .f32⟩ : BufTy).Contents (Elt F) := ((broadcastInDim S4 ![] bcast_S_S4 : (⟨S_, .f32⟩ : BufTy).Contents (Elt F) → (⟨S4, .f32⟩ : BufTy).Contents (Elt F))) (t_cst_16 (F := F))
def t_v96 : (⟨S4, .f32⟩ : BufTy).Contents (Elt F) := ((mulf : (⟨S4, .f32⟩ : BufTy).Contents (Elt F) → (⟨S4, .f32⟩ : BufTy).Contents (Elt F) → (⟨S4, .f32⟩ : BufTy).Contents (Elt F))) (t_v95 (F := F)) (t_v61 (F := F))
def t_v97 : (⟨S4, .f32⟩ : BufTy).Contents (Elt F) := ((Host.exp : (⟨S4, .f32⟩ : BufTy).Contents (Elt F) → (⟨S4, .f32⟩ : BufTy).Contents (Elt F))) (t_v96 (F := F))
def t_v98 : (⟨S4x1x1, .f32⟩ : BufTy).Contents (Elt F) := ((broadcastInDim S4x1x1 ![0] bcast_S4_S4x1x1_0 : (⟨S4, .f32⟩ : BufTy).Contents (Elt F) → (⟨S4x1x1, .f32⟩ : BufTy).Contents (Elt F))) (t_v97 (F := F))
def t_v99 : (⟨S4x8x128, .f32⟩ : BufTy).Contents (Elt F) := ((broadcastInDim S4x8x128 ![0, 1, 2] bcast_S4x1x1_S4x8x128_0_1_2 : (⟨S4x1x1, .f32⟩ : BufTy).Contents (Elt F) → (⟨S4x8x128, .f32⟩ : BufTy).Contents (Elt F))) (t_v98 (F := F))
def t_v100 : (⟨S2304x128, .f32⟩ : BufTy).Contents (Elt F) := ((Host.cos : (⟨S2304x128, .f32⟩ : BufTy).Contents (Elt F) → (⟨S2304x128, .f32⟩ : BufTy).Contents (Elt F))) (t_v10 (F := F))
def t_v101 : (⟨S2304x128, .f32⟩ : BufTy).Contents (Elt F) := ((Host.sin : (⟨S2304x128, .f32⟩ : BufTy).Contents (Elt F) → (⟨S2304x128, .f32⟩ : BufTy).Contents (Elt F))) (t_v10 (F := F))
def t_v102 : (⟨S1x4x256x256, .f32⟩ : BufTy).Contents (Elt F) := ((broadcastInDim S1x4x256x256 ![1, 2, 3] bcast_S4x256x256_S1x4x256x256_1_2_3 : (⟨S4x256x256, .f32⟩ : BufTy).Contents (Elt F) → (⟨S1x4x256x256, .f32⟩ : BufTy).Contents (Elt F))) (t_v36 (F := F))
def t_v103 : (⟨S1x4x256x256, .f32⟩ : BufTy).Contents (Elt F) := ((broadcastInDim S1x4x256x256 ![1, 2, 3] bcast_S4x256x256_S1x4x256x256_1_2_3 : (⟨S4x256x256, .f32⟩ : BufTy).Contents (Elt F) → (⟨S1x4x256x256, .f32⟩ : BufTy).Contents (Elt F))) (t_v89 (F := F))
def t_v104 : (⟨S2x4x256x256, .f32⟩ : BufTy).Contents (Elt F) := (((fun a b => concatenate S2x4x256x256 0 [⟨S1x4x256x256, a⟩, ⟨S1x4x256x256, b⟩] concatenates_S1x4x256x256_S1x4x256x256_S2x4x256x256_d0) : (⟨S1x4x256x256, .f32⟩ : BufTy).Contents (Elt F) → (⟨S1x4x256x256, .f32⟩ : BufTy).Contents (Elt F) → (⟨S2x4x256x256, .f32⟩ : BufTy).Contents (Elt F))) (t_v102 (F := F)) (t_v103 (F := F))
def t_v105 : (⟨S1x4x512x128, .f32⟩ : BufTy).Contents (Elt F) := ((broadcastInDim S1x4x512x128 ![1, 2, 3] bcast_S4x512x128_S1x4x512x128_1_2_3 : (⟨S4x512x128, .f32⟩ : BufTy).Contents (Elt F) → (⟨S1x4x512x128, .f32⟩ : BufTy).Contents (Elt F))) (t_v55 (F := F))
def t_v106 : (⟨S1x4x512x128, .f32⟩ : BufTy).Contents (Elt F) := ((broadcastInDim S1x4x512x128 ![1, 2, 3] bcast_S4x512x128_S1x4x512x128_1_2_3 : (⟨S4x512x128, .f32⟩ : BufTy).Contents (Elt F) → (⟨S1x4x512x128, .f32⟩ : BufTy).Contents (Elt F))) (t_v94 (F := F))
def t_v107 : (⟨S2x4x512x128, .f32⟩ : BufTy).Contents (Elt F) := (((fun a b => concatenate S2x4x512x128 0 [⟨S1x4x512x128, a⟩, ⟨S1x4x512x128, b⟩] concatenates_S1x4x512x128_S1x4x512x128_S2x4x512x128_d0) : (⟨S1x4x512x128, .f32⟩ : BufTy).Contents (Elt F) → (⟨S1x4x512x128, .f32⟩ : BufTy).Contents (Elt F) → (⟨S2x4x512x128, .f32⟩ : BufTy).Contents (Elt F))) (t_v105 (F := F)) (t_v106 (F := F))
def t_v108 : (⟨S1x4x8x128, .f32⟩ : BufTy).Contents (Elt F) := ((broadcastInDim S1x4x8x128 ![1, 2, 3] bcast_S4x8x128_S1x4x8x128_1_2_3 : (⟨S4x8x128, .f32⟩ : BufTy).Contents (Elt F) → (⟨S1x4x8x128, .f32⟩ : BufTy).Contents (Elt F))) (t_v60 (F := F))
def t_v109 : (⟨S1x4x8x128, .f32⟩ : BufTy).Contents (Elt F) := ((broadcastInDim S1x4x8x128 ![1, 2, 3] bcast_S4x8x128_S1x4x8x128_1_2_3 : (⟨S4x8x128, .f32⟩ : BufTy).Contents (Elt F) → (⟨S1x4x8x128, .f32⟩ : BufTy).Contents (Elt F))) (t_v99 (F := F))
def t_v110 : (⟨S2x4x8x128, .f32⟩ : BufTy).Contents (Elt F) := (((fun a b => concatenate S2x4x8x128 0 [⟨S1x4x8x128, a⟩, ⟨S1x4x8x128, b⟩] concatenates_S1x4x8x128_S1x4x8x128_S2x4x8x128_d0) : (⟨S1x4x8x128, .f32⟩ : BufTy).Contents (Elt F) → (⟨S1x4x8x128, .f32⟩ : BufTy).Contents (Elt F) → (⟨S2x4x8x128, .f32⟩ : BufTy).Contents (Elt F))) (t_v108 (F := F)) (t_v109 (F := F))

end Cert.RetKernelIdeal.Tables
end
-- ==== Proof.RetTabRead.lean ====
/-
  The kernel's tables read at an index: the decays of a block, of its queries, of its keys and of the state, and the
  rotation's cosine and sine.
-/
module

public import proofs.«01_k».proof.Proof.RetTables
public import proofs.«01_k».proof.Proof.RetData
public import Idealize.ShloMosaic.Lib.Pointwise

@[expose] public section
set_option maxRecDepth 16384
noncomputable section

namespace Cert.RetKernelIdeal.Tables
open Cert.RetKernelIdeal Cert.RetKernelIdeal.Gen Cert.RetMath Cert.RetScalar Cert.RetData Idealize.ShloMosaic Idealize.ShloMosaic.TcCoe Idealize.SL.Sem

theorem cos_tab (s : Fin 2304) (e : Fin 128) : t_v100 (F := Ideal) (ix2 s e) = Ideal.cos (angE s.val e.val) := by
  pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
  simp only [id_eq, ValueIdx.constant_apply, Ideal.ofBits_zero_f32, Ideal.ofBits_one_f32, dite_eq_ite]

theorem sin_tab (s : Fin 2304) (e : Fin 128) : t_v101 (F := Ideal) (ix2 s e) = Ideal.sin (angE s.val e.val) := by
  pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
  simp only [id_eq, ValueIdx.constant_apply, Ideal.ofBits_zero_f32, Ideal.ofBits_one_f32, dite_eq_ite]

theorem intra0 (h : Fin 4) (i j : Fin 256) : t_v104 (F := Ideal) (ix4 0 h i j) = ((dec (lgR (2 * h.val)) (pl 0 i - pl 0 j) : ℝ) : EReal) := by
  have e : t_v104 (F := Ideal) (ix4 0 h i j) = (if (0 : EReal) ≤ posE i.val - posE j.val then Ideal.exp (max (posE i.val - posE j.val) 0 * lgE (2 * h.val)) else 0) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    simp only [id_eq, ValueIdx.constant_apply, Ideal.ofBits_zero_f32]
  rw [e, posE_eq _ (by omega), posE_eq _ (by omega), lgE_eq _ (by omega), dec_real, pl_zero, pl_zero]

theorem intra1 (h : Fin 4) (i j : Fin 256) : t_v104 (F := Ideal) (ix4 1 h i j) = ((dec (lgR (1 + 2 * h.val)) (pl 1 i - pl 1 j) : ℝ) : EReal) := by
  have e : t_v104 (F := Ideal) (ix4 1 h i j) = (if (0 : EReal) ≤ posE j.val - posE i.val then Ideal.exp (max (posE j.val - posE i.val) 0 * lgE (1 + 2 * h.val)) else 0) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    simp only [id_eq, ValueIdx.constant_apply, Ideal.ofBits_zero_f32]
  rw [e, posE_eq _ (by omega), posE_eq _ (by omega), lgE_eq _ (by omega), dec_real, pl_one, pl_one]
  congr 2
  ring

theorem mul_exp_real (x y : ℝ) : Ideal.exp ((x : EReal) * (y : EReal)) = ((Real.exp (x * y) : ℝ) : EReal) := by rw [← EReal.coe_mul, Ideal.exp_coe]

theorem qd0 (h : Fin 4) (i : Fin 256) (k : Fin 512) (hk : k.val = i.val) (j : Fin 128) : t_v107 (F := Ideal) (ix4 0 h k j) = ((Real.exp ((pl 0 i + 1) * lgR (2 * h.val)) : ℝ) : EReal) := by
  have e : t_v107 (F := Ideal) (ix4 0 h k j) = Ideal.exp ((posE k.val + 1) * lgE (2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    rw [dif_pos (by omega)]
  rw [e, posE_eq _ (by omega), lgE_eq _ (by omega), ← EReal.coe_one, ← EReal.coe_add, mul_exp_real, hk, pl_zero]

theorem kd0 (h : Fin 4) (i : Fin 256) (k : Fin 512) (hk : k.val = 256 + i.val) (j : Fin 128) : t_v107 (F := Ideal) (ix4 0 h k j) = ((Real.exp ((255 - pl 0 i) * lgR (2 * h.val)) : ℝ) : EReal) := by
  have e : t_v107 (F := Ideal) (ix4 0 h k j) = Ideal.exp ((Ideal.ofBits FTy.f32 1132396544#32 - posE (k.val - 256)) * lgE (2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    rw [dif_neg (by omega)]
  rw [e, posE_eq _ (by omega), lgE_eq _ (by omega), w_255, ← EReal.coe_sub, mul_exp_real, pl_zero, show k.val - 256 = i.val by omega]

theorem rev_val (i : Fin 256) : ((Fin.rev i : Fin 256).val : ℝ) = 255 - (i.val : ℝ) := by
  rw [Fin.val_rev, Nat.cast_sub (by omega)]
  push_cast
  ring

theorem qd1 (h : Fin 4) (i : Fin 256) (k : Fin 512) (hk : k.val = i.val) (j : Fin 128) : t_v107 (F := Ideal) (ix4 1 h k j) = ((Real.exp ((pl 1 i + 1) * lgR (1 + 2 * h.val)) : ℝ) : EReal) := by
  have e : t_v107 (F := Ideal) (ix4 1 h k j) = Ideal.exp ((posE (Fin.rev i).val + 1) * lgE (1 + 2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    rw [dif_pos (by omega)]
    simp only [hk]
    simp (decide := true) only [reduceIte]
  rw [e, posE_eq _ (by omega), lgE_eq _ (by omega), ← EReal.coe_one, ← EReal.coe_add, mul_exp_real, rev_val, pl_one]

theorem kd1 (h : Fin 4) (i : Fin 256) (k : Fin 512) (hk : k.val = 256 + i.val) (j : Fin 128) : t_v107 (F := Ideal) (ix4 1 h k j) = ((Real.exp ((255 - pl 1 i) * lgR (1 + 2 * h.val)) : ℝ) : EReal) := by
  have e : t_v107 (F := Ideal) (ix4 1 h k j) = Ideal.exp ((Ideal.ofBits FTy.f32 1132396544#32 - posE (Fin.rev i).val) * lgE (1 + 2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
    rw [dif_neg (by omega)]
    have hf : ∀ hh : k.val - 256 < 256, (⟨k.val - 256, hh⟩ : Fin 256) = i := fun hh => Fin.ext (show k.val - 256 = i.val by omega)
    simp only [hf]
    simp (decide := true) only [reduceIte]
  rw [e, posE_eq _ (by omega), lgE_eq _ (by omega), w_255, ← EReal.coe_sub, mul_exp_real, rev_val, pl_one]

theorem sd0 (h : Fin 4) (j : Fin 128) : t_v110 (F := Ideal) (ix4 0 h 0 j) = ((Real.exp (256 * lgR (2 * h.val)) : ℝ) : EReal) := by
  have e : t_v110 (F := Ideal) (ix4 0 h 0 j) = Ideal.exp (Ideal.ofBits FTy.f32 1132462080#32 * lgE (2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
  rw [e, lgE_eq _ (by omega), w_256, mul_exp_real]

theorem sd1 (h : Fin 4) (j : Fin 128) : t_v110 (F := Ideal) (ix4 1 h 0 j) = ((Real.exp (256 * lgR (1 + 2 * h.val)) : ℝ) : EReal) := by
  have e : t_v110 (F := Ideal) (ix4 1 h 0 j) = Ideal.exp (Ideal.ofBits FTy.f32 1132462080#32 * lgE (1 + 2 * h.val)) := by
    pointwise [t_cst, t_cst_0, t_call0_v0, t_call0_v1, t_call0_v2, t_call0_cst, t_call0_v3, t_call0_v4, t_call0_cst_0, t_call0_v5, t_call0_v6, t_call0_v7, t_call0_cst_1, t_call0_v8, t_call0_v9, t_call0_v10, t_call0_v11, t_call0_v12, t_call0_v13, t_call0_v14, t_call0_v15, t_call0_v16, t_v0, t_cst_1, t_v1, t_v2, t_cst_2, t_v3, t_v4, t_v5, t_v6, t_v7, t_v8, t_v9, t_v10, t_v11, t_cst_3, t_v12, t_v13, t_cst_4, t_v14, t_v15, t_v16, t_v17, t_v18, t_v19, t_v20, t_v21, t_v22, t_v23, t_v24, t_v25, t_cst_5, t_v26, t_v27, t_cst_6, t_v28, t_v29, t_v30, t_v31, t_v32, t_v33, t_v34, t_v35, t_cst_7, t_call1_v0, t_call1_v1, t_call1_v2, t_v36, t_cst_8, t_v37, t_v38, t_v39, t_v40, t_v41, t_v42, t_v43, t_v44, t_cst_9, t_v45, t_v46, t_v47, t_v48, t_v49, t_v50, t_v51, t_v52, t_v53, t_v54, t_v55, t_cst_10, t_v56, t_v57, t_v58, t_v59, t_v60, t_v61, t_cst_11, t_v62, t_v63, t_cst_12, t_v64, t_v65, t_v66, t_v67, t_v68, t_v69, t_v70, t_v71, t_cst_13, t_call2_v0, t_call2_v1, t_call2_v2, t_v72, t_cst_14, t_v73, t_v74, t_v75, t_v76, t_v77, t_v78, t_v79, t_v80, t_cst_15, t_v81, t_v82, t_v83, t_v84, t_v85, t_v86, t_v87, t_v88, t_v89, t_v90, t_v91, t_v92, t_v93, t_v94, t_cst_16, t_v95, t_v96, t_v97, t_v98, t_v99, t_v100, t_v101, t_v102, t_v103, t_v104, t_v105, t_v106, t_v107, t_v108, t_v109, t_v110]
  rw [e, lgE_eq _ (by omega), w_256, mul_exp_real]

end Cert.RetKernelIdeal.Tables
end
-- ==== Proof.RetPoint.lean ====
/-
  The kernel's result: each point's block is the retention of its batch and head; the blocks are the whole array.
-/
module

public import proofs.«01_k».proof.Proof.RetOut
public import proofs.«01_k».proof.Proof.RetDir
public import proofs.«01_k».proof.Proof.RetTabRead

@[expose] public section
set_option maxRecDepth 16384
set_option maxHeartbeats 1000000
noncomputable section

namespace Cert.RetKernelIdeal.RetScan
open Cert.RetKernelIdeal Cert.RetKernelIdeal.Gen Cert.RetKernelIdeal.Tables Cert.RetMath
open Cert.RetScalar (lgR angE)
open Cert.RetData (pl bl oR kR vR qR kx qx vx normed)
open Idealize.ShloMosaic Idealize.ShloMosaic.TcCoe Idealize.SL.Sem

theorem rv_rv (j : Fin 8) : rv (rv j) = j := Fin.ext (show 7 - (7 - j.val) = j.val by omega)

theorem tab_ps {C : ℕ} (X : (⟨2, ![2304, C]⟩ : Shape).Idx → EReal) (j : Fin 8) (i : Fin 256) (e : Fin C) : tab j X (ix2 i e) = X (ix2 (ps j i) e) := by
  show X (ix2 _ e) = X (ix2 _ e)
  congr 2
  exact Fin.ext (show 256 + 256 * j.val + i.val = 256 + (256 * j.val + i.val) by omega)
theorem rows_pc {C : ℕ} (X : (⟨2, ![2304, C]⟩ : Shape).Idx → EReal) (h : 0 + 256 ≤ 2304) (i : Fin 256) (e : Fin C) : rows 0 h X (ix2 i e) = X (ix2 (pc i) e) := by
  show X (ix2 _ e) = X (ix2 _ e)
  congr 2
  exact Fin.ext (show 0 + i.val = i.val by omega)

/-- What a point leaves, from what its input blocks hold. -/
theorem point_val (A : Fin 16384 → Fin 17408 → EReal) (B : Fin 2048 → Fin 6144 → EReal) (b : Fin 8) (h : Fin 4)
    (c : Dev nD) (i : grid0.Coords) (arg2 : Memref sig .tc .vmem S2048x256 .bf16) (harg2 : arg2.IsWhole) (arg3 : Memref sig .tc .vmem S2048x256 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S256x256 .bf16) (harg6 : arg6.IsWhole) (arg7 : Memref sig .tc .vmem S256x512 .bf16) (harg7 : arg7.IsWhole) (arg8 : Memref sig .tc .vmem S2304x128 .f32) (harg8 : arg8.IsWhole) (arg9 : Memref sig .tc .vmem S2304x128 .f32) (harg9 : arg9.IsWhole) (arg10 : Memref sig .tc .vmem S2x1x256x256 .f32) (harg10 : arg10.IsWhole) (arg11 : Memref sig .tc .vmem S2x1x512x128 .f32) (harg11 : arg11.IsWhole) (arg12 : Memref sig .tc .vmem S2x1x8x128 .f32) (harg12 : arg12.IsWhole) (arg13 : Memref sig .tc .vmem S2048x512 .bf16) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S256x256 .bf16) (harg16 : arg16.IsWhole) (arg17 : Memref sig .tc .vmem S2048x512 .f32) (harg17 : arg17.IsWhole) (arg18 : Memref sig .tc .vmem S256x512 .f32) (harg18 : arg18.IsWhole) (arg19 : Memref sig .tc .vmem S256x512 .f32) (harg19 : arg19.IsWhole)
    (x0 : Vec Ideal S2048x256 .bf16) (x1 : Vec Ideal S2048x256 .bf16) (x2 : Vec Ideal S2048x512 .bf16) (x3 : Vec Ideal S2048x512 .bf16) (x4 : Vec Ideal S256x256 .bf16) (x5 : Vec Ideal S256x512 .bf16) (x6 : Vec Ideal S2304x128 .f32) (x7 : Vec Ideal S2304x128 .f32) (x8 : Vec Ideal S2x1x256x256 .f32) (x9 : Vec Ideal S2x1x512x128 .f32) (x10 : Vec Ideal S2x1x8x128 .f32)
    (h0 : ∀ (t : Fin 2048) (a : Fin 256), x0 (ix2 t a) = (((qx A b h t a).toReal : ℝ) : EReal))
    (h1 : ∀ (t : Fin 2048) (a : Fin 256), x1 (ix2 t a) = (((kx A B b h ⟨256 + t.val, by omega⟩ a).toReal : ℝ) : EReal))
    (h2 : ∀ (t : Fin 2048) (e : Fin 512), x2 (ix2 t e) = ((vR A B b h ⟨256 + t.val, by omega⟩ e : ℝ) : EReal))
    (h4 : ∀ s a : Fin 256, x4 (ix2 s a) = (((kx A B b h (pc s) a).toReal : ℝ) : EReal))
    (h5 : ∀ (s : Fin 256) (e : Fin 512), x5 (ix2 s e) = ((vR A B b h (pc s) e : ℝ) : EReal))
    (h6 : ∀ (s : Fin 2304) (e : Fin 128), x6 (ix2 s e) = Ideal.cos (angE s.val e.val))
    (h7 : ∀ (s : Fin 2304) (e : Fin 128), x7 (ix2 s e) = Ideal.sin (angE s.val e.val))
    (h8 : ∀ (d : Fin 2) (i j : Fin 256), x8 (ix4 d 0 i j) = t_v104 (F := Ideal) (ix4 d h i j))
    (h9 : ∀ (d : Fin 2) (k : Fin 512) (j : Fin 128), x9 (ix4 d 0 k j) = t_v107 (F := Ideal) (ix4 d h k j))
    (h10 : ∀ (d : Fin 2) (j : Fin 128), x10 (ix4 d 0 0 j) = t_v110 (F := Ideal) (ix4 d h 0 j))
    (j : Fin 8) (r : Fin 256) (n : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 (ix2 (rw' j r) n)
      = normed (fun e => ((oR A B b h 0 (lgR (2 * h.val)) (rw' j r) e : ℝ) : EReal) + ((oR A B b h 1 (lgR (1 + 2 * h.val)) (rw' j r) e : ℝ) : EReal)) (x3 (ix2 (rw' j r) n)) n := by
  obtain ⟨Q, K, hQ, hK, ho⟩ := out_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10
  obtain ⟨o, ho1, ho2⟩ := ho j
  have hQ' : ∀ (j : Fin 8) (i a : Fin 256), blk j Q (ix2 i a) = ((qR A b h (rw' j i) a : ℝ) : EReal) := fun j i a => by
    rw [hQ]
    exact query_real A b h (rw' j i) _ _ _ i (fun a => h0 _ a)
      (fun e => (tab_ps x6 j i e).trans (h6 (ps j i) e)) (fun e => (tab_ps x7 j i e).trans (h7 (ps j i) e)) a
  have hK' : ∀ (j : Fin 8) (i a : Fin 256), blk j K (ix2 i a) = ((kR A B b h (ps j i) a : ℝ) : EReal) := fun j i a => by
    rw [hK]
    exact key_real A B b h (ps j i) _ _ _ i (fun a => h1 _ a) (fun e => (tab_ps x6 j i e).trans (h6 (ps j i) e)) (fun e => (tab_ps x7 j i e).trans (h7 (ps j i) e)) a
  have hkc : ∀ i a : Fin 256, kc0 x4 x6 x7 (ix2 i a) = ((kR A B b h (pc i) a : ℝ) : EReal) := fun i a =>
    key_real A B b h (pc i) x4 (rows 0 (by decide) x6) (rows 0 (by decide) x7) i (fun a => h4 i a) (fun e => (rows_pc x6 _ i e).trans (h6 (pc i) e)) (fun e => (rows_pc x7 _ i e).trans (h7 (pc i) e)) a
  have e0 := fun e => dir_real A B b h 0 x8 x9 x10 Q K x2 (kc0 x4 x6 x7) x5 (lgR (2 * h.val)) id (fun _ => rfl) rfl
    (fun i j => (h8 0 i j).trans (intra0 h i j)) (fun i e => (h9 0 _ e).trans (qd0 h i _ rfl e)) (fun i e => (h9 0 _ e).trans (kd0 h i _ rfl e))
    (fun e => (h10 0 e).trans (sd0 h e)) hK' (fun j i e => h2 _ e) hQ' hkc h5 (k0_pay14 (F := Ideal) k0_pay13) (fun _ => (0 : EReal)) pay14_apply (fun _ _ => rfl) j r e
  have e1 := fun e => dir_real A B b h 1 x8 x9 x10 Q K x2 (kc0 x4 x6 x7) x5 (lgR (1 + 2 * h.val)) rv
    (fun n => by unfold bl; rw [if_neg (show ¬ ((1 : Fin 2) = 0) by decide), if_neg (Nat.succ_ne_zero _)]; show 9 - (n.val + 1) = 7 - n.val + 1; omega) rfl
    (fun i j => (h8 1 i j).trans (intra1 h i j)) (fun i e => (h9 1 _ e).trans (qd1 h i _ rfl e)) (fun i e => (h9 1 _ e).trans (kd1 h i _ rfl e))
    (fun e => (h10 1 e).trans (sd1 h e)) hK' (fun j i e => h2 _ e) hQ' hkc h5 (k0_pay15 (F := Ideal)) (fun _ => (0 : EReal)) pay15_apply (fun _ _ => rfl) (rv j) r e
  rw [rv_rv] at e1
  have hoe : ∀ e, o (ix2 r e) = ((oR A B b h 0 (lgR (2 * h.val)) (rw' j r) e : ℝ) : EReal) + ((oR A B b h 1 (lgR (1 + 2 * h.val)) (rw' j r) e : ℝ) : EReal) := fun e =>
    (ho2 (ix2 r e)).trans (congrArg₂ (fun a b : EReal => a + b) (e0 e) (e1 e))
  refine (congrFun ho1 (ix2 r n)).trans ?_
  rw [pay2_apply]
  simp only [hoe]
  rfl

end Cert.RetKernelIdeal.RetScan
end
-- ==== Proof.RetTabV.lean ====
/-
  The region finds the host's tables as the lines of its program compute them.
-/
module

public import proofs.«01_k».proof.Proof.RetTables

@[expose] public section
set_option maxRecDepth 16384
noncomputable section

namespace Cert.RetKernelIdeal.Tables
open Cert.RetKernelIdeal Cert.RetKernelIdeal.Gen Idealize.ShloMosaic Idealize.ShloMosaic.TcCoe Idealize.SL.Sem

variable (m : (ℓ : Loc nD τ sig) → Buf (Elt Ideal) ℓ)
set_option maxHeartbeats 8000000 in
theorem V_v100 (c : Dev nD) : V m c main_v100 = t_v100 := rfl
set_option maxHeartbeats 8000000 in
theorem V_v101 (c : Dev nD) : V m c main_v101 = t_v101 := rfl
set_option maxHeartbeats 8000000 in
theorem V_v104 (c : Dev nD) : V m c main_v104 = t_v104 := rfl
set_option maxHeartbeats 8000000 in
theorem V_v107 (c : Dev nD) : V m c main_v107 = t_v107 := rfl
set_option maxHeartbeats 8000000 in
theorem V_v110 (c : Dev nD) : V m c main_v110 = t_v110 := rfl

end Cert.RetKernelIdeal.Tables
end
-- ==== Proof.RetBlocks.lean ====
/-
  The input blocks of a point as entries of the arguments and of the decay tables.
-/
module

public import proofs.«01_k».proof.Proof.RetFrame
public import proofs.«01_k».proof.Proof.RetTabV
public import proofs.«01_k».proof.Proof.RetTabRead

@[expose] public section
set_option maxRecDepth 16384
noncomputable section

namespace Cert.RetKernelIdeal.RetScan
open Cert.RetKernelIdeal Cert.RetKernelIdeal.Gen Cert.RetKernelIdeal.Tables
open Cert.RetScalar (angE)
open Idealize.ShloMosaic Idealize.ShloMosaic.TcCoe Idealize.SL.Sem
open Idealize.ShloMosaic.Pipeline (Dat)

variable (m : (ℓ : Loc nD τ sig) → Buf (Elt Ideal) ℓ)

theorem lt_pts (t : Fin cfg0.N) : t.val < 32 := by have h : t.val < grid0.N := t.isLt; rwa [N_0] at h
/-- A point's batch and head. -/
abbrev bt (t : Fin cfg0.N) : Fin 8 := ⟨t.val / 4, by have := lt_pts t; omega⟩
abbrev hd (t : Fin cfg0.N) : Fin 4 := ⟨t.val % 4, by omega⟩

abbrev X0 (c : Dev nD) : Buf (Elt Ideal) ((c : Thread nD τ).loc main_arg0) := m ((c : Thread nD τ).loc main_arg0)
abbrev X1 (c : Dev nD) : Buf (Elt Ideal) ((c : Thread nD τ).loc main_arg1) := m ((c : Thread nD τ).loc main_arg1)

theorem maps0 : ∀ t : Fin cfg0.N, win0_0.index t (0 : Fin 2) = t.val / 4 ∧ win0_0.index t (1 : Fin 2) = 32 + t.val % 4 :=
  (by decide +kernel : ∀ t : Fin grid0.N, _)
theorem q_blk (c : Dev nD) (t : Fin cfg0.N) (r : Fin 2048) (k : Fin 256) :
    (iblk m c 0 t : Vec Ideal S2048x256 .bf16) (ix2 r k) = X0 m c (ix2 (⟨(bt t).val * 2048 + r.val, by have := lt_pts t; have : (bt t).val = t.val / 4 := rfl; omega⟩ : Fin 16384) (⟨8192 + ((hd t).val * 256 + k.val), by have : (hd t).val = t.val % 4 := rfl; omega⟩ : Fin 17408)) := by
  have e := maps0 t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * r.val = t.val / 4 * 2048 + r.val; rw [e.1]; omega
  | ⟨1, _⟩ => show win0_0.index t 1 * 256 + 1 * k.val = 8192 + (t.val % 4 * 256 + k.val); rw [e.2]; omega

theorem maps1 : ∀ t : Fin cfg0.N, win0_1.index t (0 : Fin 2) = t.val / 4 ∧ win0_1.index t (1 : Fin 2) = 12 + t.val % 4 :=
  (by decide +kernel : ∀ t : Fin grid0.N, _)
theorem k_blk (c : Dev nD) (t : Fin cfg0.N) (r : Fin 2048) (k : Fin 256) :
    (iblk m c 1 t : Vec Ideal S2048x256 .bf16) (ix2 r k) = X0 m c (ix2 (⟨(bt t).val * 2048 + r.val, by have := lt_pts t; have : (bt t).val = t.val / 4 := rfl; omega⟩ : Fin 16384) (⟨3072 + ((hd t).val * 256 + k.val), by have : (hd t).val = t.val % 4 := rfl; omega⟩ : Fin 17408)) := by
  have e := maps1 t
  unfold iblk
  rw [View.read_apply]
  show V m c main_arg0 _ = m (c.tc.loc main_arg0) _
  rw [V_main_arg0]
  congr 1
  funext a
  apply Fin.ext
  match a with
  | ⟨0, _⟩ => show win0_1.index t 0 * 2048 + 1 * r.val = t.val / 4 * 2048 + r.val; rw [e.1]; omega
  | ⟨1, _⟩ => show win0_1.index t 1 * 256 + 1 * k.val = 3072 + (t.val % 4 * 256 + k.val); rw [e.2]; omega

theorem maps2 : ∀ t : Fin cfg0.N, win0_2.index t (0 : Fin 2) = t.val / 4 ∧ win0_2.index t (1 : Fin 2) = 8 + t.val % 4 :=
  (by decide +kernel : ∀ t : Fin grid0.N, _)
theorem v_blk (c : Dev nD) (t : Fin cfg0.N) (r : Fin 2048) (k : Fin 512) :
    (iblk m c 2 t : Vec Ideal S2048x512 .bf16) (ix2 r k) = X0 m c (ix2 (⟨(bt t).val * 2048 + r.val, by have := lt_pts t; have : (bt t).val = t.val / 4 := rfl; omega⟩ : Fin 16384) (⟨4096 + ((hd t).val * 512 + k.val), by have : (hd t).val = t.val % 4 := rfl; omega⟩ : Fin 17408)) := by
  have e := maps2 t
  unfold iblk
  rw [View.read_apply]
  show V m c main_arg0 _ = m (c.tc.loc main_arg0) _
  rw [V_main_arg0]
  congr 1
  funext a
  apply Fin.ext
  match a with
  | ⟨0, _⟩ => show win0_2.index t 0 * 2048 + 1 * r.val = t.val / 4 * 2048 + r.val; rw [e.1]; omega
  | ⟨1, _⟩ => show win0_2.index t 1 * 512 + 1 * k.val = 4096 + (t.val % 4 * 512 + k.val); rw [e.2]; omega

theorem maps3 : ∀ t : Fin cfg0.N, win0_3.index t (0 : Fin 2) = t.val / 4 ∧ win0_3.index t (1 : Fin 2) = 18 + t.val % 4 :=
  (by decide +kernel : ∀ t : Fin grid0.N, _)
theorem g_blk (c : Dev nD) (t : Fin cfg0.N) (r : Fin 2048) (k : Fin 512) :
    (iblk m c 3 t : Vec Ideal S2048x512 .bf16) (ix2 r k) = X0 m c (ix2 (⟨(bt t).val * 2048 + r.val, by have := lt_pts t; have : (bt t).val = t.val / 4 := rfl; omega⟩ : Fin 16384) (⟨9216 + ((hd t).val * 512 + k.val), by have : (hd t).val = t.val % 4 := rfl; omega⟩ : Fin 17408)) := by
  have e := maps3 t
  unfold iblk
  rw [View.read_apply]
  show V m c main_arg0 _ = m (c.tc.loc main_arg0) _
  rw [V_main_arg0]
  congr 1
  funext a
  apply Fin.ext
  match a with
  | ⟨0, _⟩ => show win0_3.index t 0 * 2048 + 1 * r.val = t.val / 4 * 2048 + r.val; rw [e.1]; omega
  | ⟨1, _⟩ => show win0_3.index t 1 * 512 + 1 * k.val = 9216 + (t.val % 4 * 512 + k.val); rw [e.2]; omega

theorem maps4 : ∀ t : Fin cfg0.N, win0_4.index t (0 : Fin 2) = t.val / 4 ∧ win0_4.index t (1 : Fin 2) = 12 + t.val % 4 :=
  (by decide +kernel : ∀ t : Fin grid0.N, _)
theorem kc_blk (c : Dev nD) (t : Fin cfg0.N) (r : Fin 256) (k : Fin 256) :
    (iblk m c 4 t : Vec Ideal S256x256 .bf16) (ix2 r k) = X1 m c (ix2 (⟨(bt t).val * 256 + r.val, by have := lt_pts t; have : (bt t).val = t.val / 4 := rfl; omega⟩ : Fin 2048) (⟨3072 + ((hd t).val * 256 + k.val), by have : (hd t).val = t.val % 4 := rfl; omega⟩ : Fin 6144)) := by
  have e := maps4 t
  unfold iblk
  rw [View.read_apply]
  show V m c main_arg1 _ = m (c.tc.loc main_arg1) _
  rw [V_main_arg1]
  congr 1
  funext a
  apply Fin.ext
  match a with
  | ⟨0, _⟩ => show win0_4.index t 0 * 256 + 1 * r.val = t.val / 4 * 256 + r.val; rw [e.1]; omega
  | ⟨1, _⟩ => show win0_4.index t 1 * 256 + 1 * k.val = 3072 + (t.val % 4 * 256 + k.val); rw [e.2]; omega

theorem maps5 : ∀ t : Fin cfg0.N, win0_5.index t (0 : Fin 2) = t.val / 4 ∧ win0_5.index t (1 : Fin 2) = 8 + t.val % 4 :=
  (by decide +kernel : ∀ t : Fin grid0.N, _)
theorem vc_blk (c : Dev nD) (t : Fin cfg0.N) (r : Fin 256) (k : Fin 512) :
    (iblk m c 5 t : Vec Ideal S256x512 .bf16) (ix2 r k) = X1 m c (ix2 (⟨(bt t).val * 256 + r.val, by have := lt_pts t; have : (bt t).val = t.val / 4 := rfl; omega⟩ : Fin 2048) (⟨4096 + ((hd t).val * 512 + k.val), by have : (hd t).val = t.val % 4 := rfl; omega⟩ : Fin 6144)) := by
  have e := maps5 t
  unfold iblk
  rw [View.read_apply]
  show V m c main_arg1 _ = m (c.tc.loc main_arg1) _
  rw [V_main_arg1]
  congr 1
  funext a
  apply Fin.ext
  match a with
  | ⟨0, _⟩ => show win0_5.index t 0 * 256 + 1 * r.val = t.val / 4 * 256 + r.val; rw [e.1]; omega
  | ⟨1, _⟩ => show win0_5.index t 1 * 512 + 1 * k.val = 4096 + (t.val % 4 * 512 + k.val); rw [e.2]; omega

theorem maps6 : ∀ t : Fin cfg0.N, win0_6.index t (0 : Fin 2) = 0 ∧ win0_6.index t (1 : Fin 2) = 0 :=
  (by decide +kernel : ∀ t : Fin grid0.N, _)
theorem cos_blk (c : Dev nD) (t : Fin cfg0.N) (s : Fin 2304) (k : Fin 128) :
    (iblk m c 6 t : Vec Ideal S2304x128 .f32) (ix2 s k) = Ideal.cos (angE s.val k.val) := by
  have e := maps6 t
  unfold iblk
  rw [View.read_apply]
  have hi : ((cfg0.win 6).blk t).view.emb (ix2 s k) = (ix2 s k : S2304x128.Idx) := by
    funext a
    apply Fin.ext
    match a with
    | ⟨0, _⟩ => show win0_6.index t 0 * 2304 + 1 * s.val = s.val; rw [e.1]; omega
    | ⟨1, _⟩ => show win0_6.index t 1 * 128 + 1 * k.val = k.val; rw [e.2]; omega
  show V m c main_v100 (((cfg0.win 6).blk t).view.emb (ix2 s k)) = _
  rw [hi, V_v100]
  exact cos_tab s k

theorem maps7 : ∀ t : Fin cfg0.N, win0_7.index t (0 : Fin 2) = 0 ∧ win0_7.index t (1 : Fin 2) = 0 :=
  (by decide +kernel : ∀ t : Fin grid0.N, _)
theorem sin_blk (c : Dev nD) (t : Fin cfg0.N) (s : Fin 2304) (k : Fin 128) :
    (iblk m c 7 t : Vec Ideal S2304x128 .f32) (ix2 s k) = Ideal.sin (angE s.val k.val) := by
  have e := maps7 t
  unfold iblk
  rw [View.read_apply]
  have hi : ((cfg0.win 7).blk t).view.emb (ix2 s k) = (ix2 s k : S2304x128.Idx) := by
    funext a
    apply Fin.ext
    match a with
    | ⟨0, _⟩ => show win0_7.index t 0 * 2304 + 1 * s.val = s.val; rw [e.1]; omega
    | ⟨1, _⟩ => show win0_7.index t 1 * 128 + 1 * k.val = k.val; rw [e.2]; omega
  show V m c main_v101 (((cfg0.win 7).blk t).view.emb (ix2 s k)) = _
  rw [hi, V_v101]
  exact sin_tab s k

theorem maps8 : ∀ t : Fin cfg0.N, win0_8.index t (0 : Fin 4) = 0 ∧ win0_8.index t (1 : Fin 4) = t.val % 4 ∧ win0_8.index t (2 : Fin 4) = 0 ∧ win0_8.index t (3 : Fin 4) = 0 :=
  (by decide +kernel : ∀ t : Fin grid0.N, _)
theorem tab8_blk (c : Dev nD) (t : Fin cfg0.N) (d : Fin 2) (i : Fin 256) (j : Fin 256) :
    (iblk m c 8 t : Vec Ideal S2x1x256x256 .f32) (ix4 d 0 i j) = t_v104 (F := Ideal) (ix4 d (hd t) i j) := by
  have e := maps8 t
  unfold iblk
  rw [View.read_apply]
  have hi : ((cfg0.win 8).blk t).view.emb (ix4 d 0 i j) = (ix4 d (hd t) i j : S2x4x256x256.Idx) := by
    funext a
    apply Fin.ext
    match a with
    | ⟨0, _⟩ => show win0_8.index t 0 * 2 + 1 * d.val = d.val; rw [e.1]; omega
    | ⟨1, _⟩ => show win0_8.index t 1 * 1 + 1 * 0 = t.val % 4; rw [e.2.1]; omega
    | ⟨2, _⟩ => show win0_8.index t 2 * 256 + 1 * i.val = i.val; rw [e.2.2.1]; omega
    | ⟨3, _⟩ => show win0_8.index t 3 * 256 + 1 * j.val = j.val; rw [e.2.2.2]; omega
  show V m c main_v104 (((cfg0.win 8).blk t).view.emb (ix4 d 0 i j)) = _
  rw [hi, V_v104]

theorem maps9 : ∀ t : Fin cfg0.N, win0_9.index t (0 : Fin 4) = 0 ∧ win0_9.index t (1 : Fin 4) = t.val % 4 ∧ win0_9.index t (2 : Fin 4) = 0 ∧ win0_9.index t (3 : Fin 4) = 0 :=
  (by decide +kernel : ∀ t : Fin grid0.N, _)
theorem tab9_blk (c : Dev nD) (t : Fin cfg0.N) (d : Fin 2) (i : Fin 512) (j : Fin 128) :
    (iblk m c 9 t : Vec Ideal S2x1x512x128 .f32) (ix4 d 0 i j) = t_v107 (F := Ideal) (ix4 d (hd t) i j) := by
  have e := maps9 t
  unfold iblk
  rw [View.read_apply]
  have hi : ((cfg0.win 9).blk t).view.emb (ix4 d 0 i j) = (ix4 d (hd t) i j : S2x4x512x128.Idx) := by
    funext a
    apply Fin.ext
    match a with
    | ⟨0, _⟩ => show win0_9.index t 0 * 2 + 1 * d.val = d.val; rw [e.1]; omega
    | ⟨1, _⟩ => show win0_9.index t 1 * 1 + 1 * 0 = t.val % 4; rw [e.2.1]; omega
    | ⟨2, _⟩ => show win0_9.index t 2 * 512 + 1 * i.val = i.val; rw [e.2.2.1]; omega
    | ⟨3, _⟩ => show win0_9.index t 3 * 128 + 1 * j.val = j.val; rw [e.2.2.2]; omega
  show V m c main_v107 (((cfg0.win 9).blk t).view.emb (ix4 d 0 i j)) = _
  rw [hi, V_v107]

theorem maps10 : ∀ t : Fin cfg0.N, win0_10.index t (0 : Fin 4) = 0 ∧ win0_10.index t (1 : Fin 4) = t.val % 4 ∧ win0_10.index t (2 : Fin 4) = 0 ∧ win0_10.index t (3 : Fin 4) = 0 :=
  (by decide +kernel : ∀ t : Fin grid0.N, _)
theorem tab10_blk (c : Dev nD) (t : Fin cfg0.N) (d : Fin 2) (i : Fin 8) (j : Fin 128) :
    (iblk m c 10 t : Vec Ideal S2x1x8x128 .f32) (ix4 d 0 i j) = t_v110 (F := Ideal) (ix4 d (hd t) i j) := by
  have e := maps10 t
  unfold iblk
  rw [View.read_apply]
  have hi : ((cfg0.win 10).blk t).view.emb (ix4 d 0 i j) = (ix4 d (hd t) i j : S2x4x8x128.Idx) := by
    funext a
    apply Fin.ext
    match a with
    | ⟨0, _⟩ => show win0_10.index t 0 * 2 + 1 * d.val = d.val; rw [e.1]; omega
    | ⟨1, _⟩ => show win0_10.index t 1 * 1 + 1 * 0 = t.val % 4; rw [e.2.1]; omega
    | ⟨2, _⟩ => show win0_10.index t 2 * 8 + 1 * i.val = i.val; rw [e.2.2.1]; omega
    | ⟨3, _⟩ => show win0_10.index t 3 * 128 + 1 * j.val = j.val; rw [e.2.2.2]; omega
  show V m c main_v110 (((cfg0.win 10).blk t).view.emb (ix4 d 0 i j)) = _
  rw [hi, V_v110]

theorem maps11 : ∀ t : Fin cfg0.N, win0_11.index t (0 : Fin 2) = t.val / 4 ∧ win0_11.index t (1 : Fin 2) = t.val % 4 :=
  (by decide +kernel : ∀ t : Fin grid0.N, _)
theorem flush11 : ∀ t : Fin cfg0.N, (cfg0.win 11).flush t = true := (by decide +kernel : ∀ t : Fin grid0.N, _)

end Cert.RetKernelIdeal.RetScan
end
-- ==== Proof.RetArr.lean ====
/-
  The retention kernel's result array block by block: what each point writes back, and the run with its result named.
-/
module

public import proofs.«01_k».proof.Proof.RetFrame
public import Idealize.ShloMosaic.Lib.Pipeline.Value

@[expose] public section

noncomputable section

namespace Cert.RetKernelIdeal.Value

open Cert.RetKernelIdeal Cert.RetKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`), read through the window's block. -/
theorem flushed11 (c : Dev nD) (t : Fin cfg0.N) :
    (dats m 0 c).flushed 11 t = (cfg0.win 11).cut (grid0.coords t) (outsAt0 m c t) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — the kernel's one case, `Gen.outsAt0` by definition. -/
theorem flushed11_A (c : Dev nD) (t : Fin cfg0.N) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  simp only [flushed11, outsAt0]

/-- The index map sends distinct grid points to distinct block indices (decided over the 32 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S16384x2048.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v111) = (dats m 0 c).arrAt 11 cfg0.N :=
  (h c).1 11

/-- After the frame run, argument `main_arg0` is as launched: input window 3 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 3).trans (((dats m 0 c).arrAt_in 3 rfl _).trans ((A_eq m c 3).trans (V_main_arg0 m c)))

/-- After the frame run, argument `main_arg1` is as launched: input window 5 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v111) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨post11 m r h c,
      kept_main_arg0 m r h c,
      kept_main_arg1 m r h c⟩)
    (run_main m ρ)

end Cert.RetKernelIdeal.Value

end
-- ==== Proof.RetRefRead.lean ====
/-
  The reference read at an index: its slices, tables and decays.
-/
module

public import proofs.«01_k».proof.Proof.Gen.RetReferenceIdeal.Read
public import proofs.«01_k».proof.Proof.RetData
public import Idealize.ShloMosaic.Lib.Pointwise

@[expose] public section
set_option maxRecDepth 16384
set_option maxHeartbeats 1000000
noncomputable section

namespace Cert.RetReferenceIdeal.Scan
open Cert.RetReferenceIdeal Cert.RetReferenceIdeal.Gen Cert.RetReferenceIdeal.Read Cert.RetMath Cert.RetScalar Cert.RetData
open Idealize.ShloMosaic Idealize.ShloMosaic.TcCoe Idealize.SL.Sem

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (x0 : (⟨S16384x17408, .bf16⟩ : BufTy).Contents (Elt Ideal)) (x1 : (⟨S2048x6144, .bf16⟩ : BufTy).Contents (Elt Ideal))

/-- The latents' columns as a table. -/
abbrev tA (r : Fin 16384) (c : Fin 17408) : EReal := x0 (ix2 r c)
/-- The context's. -/
abbrev tB (r : Fin 2048) (c : Fin 6144) : EReal := x1 (ix2 r c)

theorem q_read (b : Fin 8) (t : Fin 2048) (h : Fin 4) (a : Fin 256) : val_main_v5 (F := Ideal) x0 (ix4 b t h a) = qx (tA x0) b h t a := by
  pointwise [val_main_v0, val_main_v1, val_main_v2, val_main_v3, val_main_v4, val_main_v5, val_main_v6, val_main_v7, val_main_v8, val_main_v9, val_main_v10, val_main_v11, val_main_v12, val_main_v13, val_main_v14, val_main_v15]
  rfl
theorem g_read (b : Fin 8) (t : Fin 2048) (h : Fin 4) (e : Fin 512) :
    val_main_v7 (F := Ideal) x0 (ix4 b t h e) = x0 (ix2 (⟨b.val * 2048 + t.val, by omega⟩ : Fin 16384) (⟨9216 + (h.val * 512 + e.val), by omega⟩ : Fin 17408)) := by
  pointwise [val_main_v0, val_main_v1, val_main_v2, val_main_v3, val_main_v4, val_main_v5, val_main_v6, val_main_v7, val_main_v8, val_main_v9, val_main_v10, val_main_v11, val_main_v12, val_main_v13, val_main_v14, val_main_v15]
theorem k_read (b : Fin 8) (s : Fin 2304) (h : Fin 4) (a : Fin 256) : val_main_v11 (F := Ideal) x0 x1 (ix4 b s h a) = kx (tA x0) (tB x1) b h s a := by
  pointwise [val_main_v0, val_main_v1, val_main_v2, val_main_v3, val_main_v4, val_main_v5, val_main_v6, val_main_v7, val_main_v8, val_main_v9, val_main_v10, val_main_v11, val_main_v12, val_main_v13, val_main_v14, val_main_v15]
  rfl
theorem v_read (b : Fin 8) (s : Fin 2304) (h : Fin 4) (e : Fin 512) : val_main_v15 (F := Ideal) x0 x1 (ix4 b s h e) = vx (tA x0) (tB x1) b h s e := by
  pointwise [val_main_v0, val_main_v1, val_main_v2, val_main_v3, val_main_v4, val_main_v5, val_main_v6, val_main_v7, val_main_v8, val_main_v9, val_main_v10, val_main_v11, val_main_v12, val_main_v13, val_main_v14, val_main_v15]
  rfl

theorem cos_read (s : Fin 2304) (e : Fin 128) : val_main_v27 (F := Ideal) (ix2 s e) = Ideal.cos (angE s.val e.val) := by
  pointwise [val_main_v16, val_main_cst, val_main_cst_0, val_main_call0_v0, val_main_call0_v1, val_main_call0_v2, val_main_call0_cst, val_main_call0_v3, val_main_call0_v4, val_main_call0_cst_0, val_main_call0_v5, val_main_call0_v6, val_main_call0_v7, val_main_call0_cst_1, val_main_call0_v8, val_main_call0_v9, val_main_call0_v10, val_main_call0_v11, val_main_call0_v12, val_main_call0_v13, val_main_call0_v14, val_main_call0_v15, val_main_call0_v16, val_main_v17, val_main_cst_1, val_main_v18, val_main_v19, val_main_cst_2, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_3, val_main_v59, val_main_v60]
  simp only [id_eq, ValueIdx.constant_apply, Ideal.ofBits_zero_f32, Ideal.ofBits_one_f32, dite_eq_ite]
theorem sin_read (s : Fin 2304) (e : Fin 128) : val_main_v29 (F := Ideal) (ix2 s e) = Ideal.sin (angE s.val e.val) := by
  pointwise [val_main_v16, val_main_cst, val_main_cst_0, val_main_call0_v0, val_main_call0_v1, val_main_call0_v2, val_main_call0_cst, val_main_call0_v3, val_main_call0_v4, val_main_call0_cst_0, val_main_call0_v5, val_main_call0_v6, val_main_call0_v7, val_main_call0_cst_1, val_main_call0_v8, val_main_call0_v9, val_main_call0_v10, val_main_call0_v11, val_main_call0_v12, val_main_call0_v13, val_main_call0_v14, val_main_call0_v15, val_main_call0_v16, val_main_v17, val_main_cst_1, val_main_v18, val_main_v19, val_main_cst_2, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_3, val_main_v59, val_main_v60]
  simp only [id_eq, ValueIdx.constant_apply, Ideal.ofBits_zero_f32, Ideal.ofBits_one_f32, dite_eq_ite]

theorem dec_read (b : Fin 8) (h : Fin 4) (t : Fin 2048) (s : Fin 2304) :
    val_main_v94 (F := Ideal) (ix4 b h t s) = ((dec (lgR (2 * h.val)) (ord 0 (256 + t.val) - ord 0 s.val) : ℝ) : EReal) := by
  have e : val_main_v94 (F := Ideal) (ix4 b h t s) = (if (0 : EReal) ≤ posE (256 + t.val) - posE s.val then Ideal.exp (max (posE (256 + t.val) - posE s.val) 0 * lgE (2 * h.val)) else 0) := by
    pointwise [val_main_v16, val_main_v62, val_main_cst_4, val_main_v63, val_main_v64, val_main_cst_5, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_6, val_main_v82, val_main_v83, val_main_cst_7, val_main_v84, val_main_v85, val_main_v86, val_main_v87, val_main_v88, val_main_v89, val_main_v90, val_main_v91, val_main_cst_8, val_main_call3_v0, val_main_call3_v1, val_main_call3_v2, val_main_v92, val_main_v93, val_main_v94]
    simp only [id_eq, ValueIdx.constant_apply, Ideal.ofBits_zero_f32]
  rw [e, posE_eq _ (by omega), posE_eq _ (by omega), lgE_eq _ (by omega), dec_real]
  rfl

/-- A position's place in the backward order, as the reference computes it. -/
theorem ord_read (s : Fin 2304) : val_main_v74 (F := Ideal) (ix1 s) = ((ord 1 s.val : ℝ) : EReal) := by
  have e : val_main_v74 (F := Ideal) (ix1 s) = posE (if s.val < 256 then 255 - s.val else 2559 - s.val) := by
    pointwise [val_main_v16, val_main_v62, val_main_cst_4, val_main_v63, val_main_v64, val_main_cst_5, val_main_v65, val_main_v66, val_main_v67, val_main_v68, val_main_v69, val_main_v70, val_main_v71, val_main_v72, val_main_v73, val_main_v74, val_main_v75, val_main_v76, val_main_v77, val_main_v78, val_main_v79, val_main_v80, val_main_v81, val_main_cst_6, val_main_v82, val_main_v83, val_main_cst_7, val_main_v84, val_main_v85, val_main_v86, val_main_v87, val_main_v88, val_main_v89, val_main_v90, val_main_v91, val_main_cst_8, val_main_call3_v0, val_main_call3_v1, val_main_call3_v2, val_main_v92, val_main_v93, val_main_v94, val_main_v95, val_main_v96, val_main_v97, val_main_v98, val_main_v99, val_main_v100, val_main_v101, val_main_v102, val_main_v103, val_main_v104, val_main_cst_9, val_main_v105, val_main_v106, val_main_cst_10, val_main_v107, val_main_v108, val_main_v109, val_main_v110, val_main_v111, val_main_v112, val_main_v113, val_main_v114, val_main_cst_11, val_main_call4_v0, val_main_call4_v1, val_main_call4_v2, val_main_v115, val_main_v116, val_main_v117]
    simp (decide := true) only [reduceIte, Fin.val_rev]
    by_cases hs : s.val < 256
    · rw [dif_pos hs, if_pos hs]
      exact congrArg posE (by omega)
    · rw [dif_neg hs, if_neg hs]
      exact congrArg posE (by omega)
  rw [e, posE_eq _ (by split <;> omega)]
  congr 1
  unfold ord
  rw [if_neg (show ¬ ((1 : Fin 2) = 0) by decide)]
  by_cases hs : s.val < 256
  · rw [if_pos hs, if_pos hs, Nat.cast_sub (by omega)]; norm_num
  · rw [if_neg hs, if_neg hs, Nat.cast_sub (by omega)]; norm_num

theorem decb_read (b : Fin 8) (h : Fin 4) (t : Fin 2048) (s : Fin 2304) :
    val_main_v117 (F := Ideal) (ix4 b h t s) = ((dec (lgR (1 + 2 * h.val)) (ord 1 (256 + t.val) - ord 1 s.val) : ℝ) : EReal) := by
  have e : val_main_v117 (F := Ideal) (ix4 b h t s)
      = (if (0 : EReal) ≤ val_main_v74 (F := Ideal) (ix1 (⟨256 + t.val, by omega⟩ : Fin 2304)) - val_main_v74 (F := Ideal) (ix1 s)
          then Ideal.exp (max (val_main_v74 (F := Ideal) (ix1 (⟨256 + t.val, by omega⟩ : Fin 2304)) - val_main_v74 (F := Ideal) (ix1 s)) 0 * lgE (1 + 2 * h.val)) else 0) := by
    pointwise [val_main_v16, val_main_v62, val_main_cst_4, val_main_v63, val_main_v64, val_main_cst_5, val_main_v65, val_main_v66, val_main_v67, val_main_v68, val_main_v69, val_main_v75, val_main_v76, val_main_v77, val_main_v78, val_main_v79, val_main_v80, val_main_v81, val_main_cst_6, val_main_v82, val_main_v83, val_main_cst_7, val_main_v84, val_main_v85, val_main_v86, val_main_v87, val_main_v88, val_main_v89, val_main_v90, val_main_v91, val_main_cst_8, val_main_call3_v0, val_main_call3_v1, val_main_call3_v2, val_main_v92, val_main_v93, val_main_v94, val_main_v95, val_main_v96, val_main_v97, val_main_v98, val_main_v99, val_main_v100, val_main_v101, val_main_v102, val_main_v103, val_main_v104, val_main_cst_9, val_main_v105, val_main_v106, val_main_cst_10, val_main_v107, val_main_v108, val_main_v109, val_main_v110, val_main_v111, val_main_v112, val_main_v113, val_main_v114, val_main_cst_11, val_main_call4_v0, val_main_call4_v1, val_main_call4_v2, val_main_v115, val_main_v116, val_main_v117]
    simp only [id_eq, ValueIdx.constant_apply, Ideal.ofBits_zero_f32]
  rw [e, ord_read, ord_read, lgE_eq _ (by omega), dec_real]

/-- The arguments hold reals. -/
structure Finite : Prop where
  a : ∀ r c, ∃ w : ℝ, tA x0 r c = (w : EReal)
  b : ∀ r c, ∃ w : ℝ, tB x1 r c = (w : EReal)

variable {x0 x1}
theorem toReal_of {x : EReal} (h : ∃ w : ℝ, x = (w : EReal)) : x = ((x.toReal : ℝ) : EReal) := by
  obtain ⟨w, rfl⟩ := h
  rfl

theorem Finite.kx (H : Finite x0 x1) (b : Fin 8) (h : Fin 4) (s : Fin 2304) (a : Fin 256) :
    Cert.RetData.kx (tA x0) (tB x1) b h s a = (((Cert.RetData.kx (tA x0) (tB x1) b h s a).toReal : ℝ) : EReal) := by
  refine toReal_of ?_
  unfold Cert.RetData.kx
  split
  · exact H.b _ _
  · exact H.a _ _
theorem Finite.vx (H : Finite x0 x1) (b : Fin 8) (h : Fin 4) (s : Fin 2304) (a : Fin 512) :
    Cert.RetData.vx (tA x0) (tB x1) b h s a = ((vR (tA x0) (tB x1) b h s a : ℝ) : EReal) := by
  refine toReal_of ?_
  unfold Cert.RetData.vx
  split
  · exact H.b _ _
  · exact H.a _ _
theorem Finite.qx (H : Finite x0 x1) (b : Fin 8) (h : Fin 4) (t : Fin 2048) (a : Fin 256) :
    Cert.RetData.qx (tA x0) b h t a = (((Cert.RetData.qx (tA x0) b h t a).toReal : ℝ) : EReal) := toReal_of (H.a _ _)

end

end Cert.RetReferenceIdeal.Scan
end
-- ==== Proof.RetRef.lean ====
/-
  The reference read at an index: its scores, decays and sums on real data, and its normalisation.
-/
module

public import proofs.«01_k».proof.Proof.Gen.RetReferenceIdeal.Read
public import proofs.«01_k».proof.Proof.RetRefRead
public import Idealize.ShloMosaic.Lib.Pointwise

@[expose] public section
set_option maxRecDepth 16384
set_option maxHeartbeats 1000000
noncomputable section

namespace Cert.RetReferenceIdeal.Scan
open Cert.RetReferenceIdeal Cert.RetReferenceIdeal.Gen Cert.RetReferenceIdeal.Read Cert.RetMath Cert.RetScalar Cert.RetData
open Idealize.ShloMosaic Idealize.ShloMosaic.TcCoe Idealize.SL.Sem

variable {x0 : (⟨S16384x17408, .bf16⟩ : BufTy).Contents (Elt Ideal)} {x1 : (⟨S2048x6144, .bf16⟩ : BufTy).Contents (Elt Ideal)}

theorem q_real (H : Finite x0 x1) (b : Fin 8) (t : Fin 2048) (h : Fin 4) (a : Fin 256) :
    val_main_v45 (F := Ideal) x0 (ix4 b t h a) = ((qR (tA x0) b h t a : ℝ) : EReal) := by
  refine rot_real (fun a => val_main_v45 (F := Ideal) x0 (ix4 b t h a)) _ (256 + t.val) (by omega) 1 (fun e => ?_) (fun e => ?_) a
  · rw [← H.qx, ← H.qx, ← q_read, ← q_read, ← cos_read ⟨256 + t.val, by omega⟩, ← sin_read ⟨256 + t.val, by omega⟩, EReal.coe_one, mul_one]
    pointwise [val_main_v28, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_3, val_main_v59, val_main_v60]
  · rw [← H.qx, ← H.qx, ← q_read, ← q_read, ← cos_read ⟨256 + t.val, by omega⟩, ← sin_read ⟨256 + t.val, by omega⟩, EReal.coe_one, mul_one]
    pointwise [val_main_v28, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_cst_3, val_main_v59, val_main_v60]

/-- Two halves side by side: a column of the first. -/
theorem cat_lo (o p : (⟨S8x2304x4x128, .f32⟩ : BufTy).Contents (Elt Ideal)) (b : Fin 8) (s : Fin 2304) (h : Fin 4) (e : Fin 128) :
    concatenate S8x2304x4x256 3 [⟨S8x2304x4x128, o⟩, ⟨S8x2304x4x128, p⟩] concatenates_S8x2304x4x128_S8x2304x4x128_S8x2304x4x256_d3 (ix4 b s h (lo e)) = o (ix4 b s h e) := by
  pointwise []
/-- Two halves side by side: a column of the second. -/
theorem cat_hi (o p : (⟨S8x2304x4x128, .f32⟩ : BufTy).Contents (Elt Ideal)) (b : Fin 8) (s : Fin 2304) (h : Fin 4) (e : Fin 128) :
    concatenate S8x2304x4x256 3 [⟨S8x2304x4x128, o⟩, ⟨S8x2304x4x128, p⟩] concatenates_S8x2304x4x128_S8x2304x4x128_S8x2304x4x256_d3 (ix4 b s h (hi e)) = p (ix4 b s h e) := by
  pointwise []
theorem half_lo (b : Fin 8) (s : Fin 2304) (h : Fin 4) (e : Fin 128) : val_main_v58 (F := Ideal) x0 x1 (ix4 b s h (lo e)) = val_main_v52 (F := Ideal) x0 x1 (ix4 b s h e) := by
  unfold val_main_v58
  exact cat_lo _ _ b s h e
theorem half_hi (b : Fin 8) (s : Fin 2304) (h : Fin 4) (e : Fin 128) : val_main_v58 (F := Ideal) x0 x1 (ix4 b s h (hi e)) = val_main_v57 (F := Ideal) x0 x1 (ix4 b s h e) := by
  unfold val_main_v58
  exact cat_hi _ _ b s h e
theorem k46_at (b : Fin 8) (s : Fin 2304) (h : Fin 4) (e : Fin 128) : val_main_v46 (F := Ideal) x0 x1 (ix4 b s h e) = val_main_v11 (F := Ideal) x0 x1 (ix4 b s h (lo e)) := by
  have hi' : idx_main_v46 (ix4 b s h e) = ix4 b s h (lo e) := by
    funext a
    match a with
    | ⟨0, _⟩ => rfl
    | ⟨1, _⟩ => rfl
    | ⟨2, _⟩ => rfl
    | ⟨3, _⟩ => rfl
  refine (val_main_v46_apply x0 x1 _).trans ?_
  rw [hi']
theorem k47_at (b : Fin 8) (s : Fin 2304) (h : Fin 4) (e : Fin 128) : val_main_v47 (F := Ideal) x0 x1 (ix4 b s h e) = val_main_v11 (F := Ideal) x0 x1 (ix4 b s h (hi e)) := by
  have hi' : idx_main_v47 (ix4 b s h e) = ix4 b s h (hi e) := by
    funext a
    match a with
    | ⟨0, _⟩ => rfl
    | ⟨1, _⟩ => rfl
    | ⟨2, _⟩ => rfl
    | ⟨3, _⟩ => rfl
  refine (val_main_v47_apply x0 x1 _).trans ?_
  rw [hi']
theorem k48_at (b : Fin 8) (s : Fin 2304) (h : Fin 4) (e : Fin 128) : val_main_v48 (F := Ideal) (ix4 b s h e) = val_main_v27 (F := Ideal) (ix2 s e) := by
  unfold val_main_v48 val_main_v28
  generalize val_main_v27 (F := Ideal) = C
  pointwise []
theorem k50_at (b : Fin 8) (s : Fin 2304) (h : Fin 4) (e : Fin 128) : val_main_v50 (F := Ideal) (ix4 b s h e) = val_main_v29 (F := Ideal) (ix2 s e) := by
  unfold val_main_v50 val_main_v30
  generalize val_main_v29 (F := Ideal) = C
  pointwise []
theorem k53_at (b : Fin 8) (s : Fin 2304) (h : Fin 4) (e : Fin 128) : val_main_v53 (F := Ideal) (ix4 b s h e) = val_main_v29 (F := Ideal) (ix2 s e) := by
  unfold val_main_v53 val_main_v30
  generalize val_main_v29 (F := Ideal) = C
  pointwise []
theorem k55_at (b : Fin 8) (s : Fin 2304) (h : Fin 4) (e : Fin 128) : val_main_v55 (F := Ideal) (ix4 b s h e) = val_main_v27 (F := Ideal) (ix2 s e) := by
  unfold val_main_v55 val_main_v28
  generalize val_main_v27 (F := Ideal) = C
  pointwise []
theorem k49_at (b : Fin 8) (s : Fin 2304) (h : Fin 4) (e : Fin 128) : val_main_v49 (F := Ideal) x0 x1 (ix4 b s h e) = val_main_v46 (F := Ideal) x0 x1 (ix4 b s h e) * val_main_v48 (F := Ideal) (ix4 b s h e) := val_main_v49_apply x0 x1 _
theorem k51_at (b : Fin 8) (s : Fin 2304) (h : Fin 4) (e : Fin 128) : val_main_v51 (F := Ideal) x0 x1 (ix4 b s h e) = val_main_v47 (F := Ideal) x0 x1 (ix4 b s h e) * val_main_v50 (F := Ideal) (ix4 b s h e) := val_main_v51_apply x0 x1 _
theorem k54_at (b : Fin 8) (s : Fin 2304) (h : Fin 4) (e : Fin 128) : val_main_v54 (F := Ideal) x0 x1 (ix4 b s h e) = val_main_v46 (F := Ideal) x0 x1 (ix4 b s h e) * val_main_v53 (F := Ideal) (ix4 b s h e) := val_main_v54_apply x0 x1 _
theorem k56_at (b : Fin 8) (s : Fin 2304) (h : Fin 4) (e : Fin 128) : val_main_v56 (F := Ideal) x0 x1 (ix4 b s h e) = val_main_v47 (F := Ideal) x0 x1 (ix4 b s h e) * val_main_v55 (F := Ideal) (ix4 b s h e) := val_main_v56_apply x0 x1 _
theorem k52_at (b : Fin 8) (s : Fin 2304) (h : Fin 4) (e : Fin 128) : val_main_v52 (F := Ideal) x0 x1 (ix4 b s h e) = val_main_v49 (F := Ideal) x0 x1 (ix4 b s h e) - val_main_v51 (F := Ideal) x0 x1 (ix4 b s h e) := val_main_v52_apply x0 x1 _
theorem k57_at (b : Fin 8) (s : Fin 2304) (h : Fin 4) (e : Fin 128) : val_main_v57 (F := Ideal) x0 x1 (ix4 b s h e) = val_main_v54 (F := Ideal) x0 x1 (ix4 b s h e) + val_main_v56 (F := Ideal) x0 x1 (ix4 b s h e) := val_main_v57_apply x0 x1 _
/-- The turned keys' first half. -/
theorem k_lo (b : Fin 8) (s : Fin 2304) (h : Fin 4) (e : Fin 128) :
    val_main_v58 (F := Ideal) x0 x1 (ix4 b s h (lo e)) = val_main_v11 (F := Ideal) x0 x1 (ix4 b s h (lo e)) * val_main_v27 (F := Ideal) (ix2 s e) - val_main_v11 (F := Ideal) x0 x1 (ix4 b s h (hi e)) * val_main_v29 (F := Ideal) (ix2 s e) := by
  rw [half_lo, k52_at, k49_at, k51_at, k46_at, k47_at, k48_at, k50_at]

/-- The turned keys' second half. -/
theorem k_hi (b : Fin 8) (s : Fin 2304) (h : Fin 4) (e : Fin 128) :
    val_main_v58 (F := Ideal) x0 x1 (ix4 b s h (hi e)) = val_main_v11 (F := Ideal) x0 x1 (ix4 b s h (lo e)) * val_main_v29 (F := Ideal) (ix2 s e) + val_main_v11 (F := Ideal) x0 x1 (ix4 b s h (hi e)) * val_main_v27 (F := Ideal) (ix2 s e) := by
  rw [half_hi, k57_at, k54_at, k56_at, k46_at, k47_at, k53_at, k55_at]

/-- The keys, turned, before their scaling. -/
theorem k_turned (H : Finite x0 x1) (b : Fin 8) (s : Fin 2304) (h : Fin 4) (a : Fin 256) :
    val_main_v58 (F := Ideal) x0 x1 (ix4 b s h a) = ((rot (fun a => (Cert.RetData.kx (tA x0) (tB x1) b h s a).toReal) s.val (by omega) a * 1 : ℝ) : EReal) := by
  have ek : ∀ a, val_main_v11 (F := Ideal) x0 x1 (ix4 b s h a) = (((Cert.RetData.kx (tA x0) (tB x1) b h s a).toReal : ℝ) : EReal) := fun a => (k_read x0 x1 b s h a).trans (H.kx b h s a)
  refine rot_real (fun a => val_main_v58 (F := Ideal) x0 x1 (ix4 b s h a)) _ s.val (by omega) 1 (fun e => ?_) (fun e => ?_) a
  · refine (k_lo b s h e).trans ?_
    rw [ek, ek, cos_read, sin_read, EReal.coe_one, mul_one]
  · refine (k_hi b s h e).trans ?_
    rw [ek, ek, cos_read, sin_read, EReal.coe_one, mul_one]

/-- The scaling. -/
theorem k_scaled (b : Fin 8) (s : Fin 2304) (h : Fin 4) (a : Fin 256) :
    val_main_v60 (F := Ideal) x0 x1 (ix4 b s h a) = val_main_v58 (F := Ideal) x0 x1 (ix4 b s h a) * Ideal.ofBits .f32 0x3D800000#32 := by
  generalize hw : Ideal.ofBits .f32 0x3D800000#32 = w
  have h0 : val_main_cst_3 (F := Ideal) ix0 = w := hw
  rw [← h0]
  pointwise [val_main_v59, val_main_v60]

theorem k_real (H : Finite x0 x1) (b : Fin 8) (s : Fin 2304) (h : Fin 4) (a : Fin 256) :
    val_main_v60 (F := Ideal) x0 x1 (ix4 b s h a) = ((kR (tA x0) (tB x1) b h s a : ℝ) : EReal) := by
  rw [k_scaled, k_turned H, w_16th, ← EReal.coe_mul, mul_one]
  rfl

/-- The scores. -/
theorem score_real (H : Finite x0 x1) (b : Fin 8) (h : Fin 4) (t : Fin 2048) (s : Fin 2304) :
    val_main_v61 (F := Ideal) x0 x1 (ix4 b h t s) = ((∑ a, qR (tA x0) b h t a * kR (tA x0) (tB x1) b h s a : ℝ) : EReal) := by
  have e : val_main_v61 (F := Ideal) x0 x1 (ix4 b h t s) = ∑ a : Fin 256, val_main_v45 (F := Ideal) x0 (ix4 b t h a) * val_main_v60 (F := Ideal) x0 x1 (ix4 b s h a) := by
    pointwise [val_main_v61]
  rw [e, coe_sum]
  refine Finset.sum_congr rfl fun a _ => ?_
  rw [q_real H, k_real H, EReal.coe_mul]

theorem fwd_real (H : Finite x0 x1) (b : Fin 8) (t : Fin 2048) (h : Fin 4) (e : Fin 512) :
    val_main_v97 (F := Ideal) x0 x1 (ix4 b t h e) = ((oR (tA x0) (tB x1) b h 0 (lgR (2 * h.val)) t e : ℝ) : EReal) := by
  have e : val_main_v97 (F := Ideal) x0 x1 (ix4 b t h e)
      = ∑ s : Fin 2304, val_main_v15 (F := Ideal) x0 x1 (ix4 b s h e) * (val_main_v61 (F := Ideal) x0 x1 (ix4 b h t s) * val_main_v94 (F := Ideal) (ix4 b h t s)) := by
    pointwise [val_main_v97, val_main_v96, val_main_v95]
  rw [e, oR, coe_sum]
  refine Finset.sum_congr rfl fun s _ => ?_
  rw [v_read, H.vx, score_real H, dec_read, ← EReal.coe_mul, ← EReal.coe_mul]
  congr 1
  ring

theorem bwd_real (H : Finite x0 x1) (b : Fin 8) (t : Fin 2048) (h : Fin 4) (e : Fin 512) :
    val_main_v120 (F := Ideal) x0 x1 (ix4 b t h e) = ((oR (tA x0) (tB x1) b h 1 (lgR (1 + 2 * h.val)) t e : ℝ) : EReal) := by
  have e : val_main_v120 (F := Ideal) x0 x1 (ix4 b t h e)
      = ∑ s : Fin 2304, val_main_v15 (F := Ideal) x0 x1 (ix4 b s h e) * (val_main_v61 (F := Ideal) x0 x1 (ix4 b h t s) * val_main_v117 (F := Ideal) (ix4 b h t s)) := by
    pointwise [val_main_v120, val_main_v119, val_main_v118]
  rw [e, oR, coe_sum]
  refine Finset.sum_congr rfl fun s _ => ?_
  rw [v_read, H.vx, score_real H, decb_read, ← EReal.coe_mul, ← EReal.coe_mul]
  congr 1
  ring

/-- The result's rows and columns, head by head. -/
theorem heads_read (b : Fin 8) (t : Fin 2048) (h : Fin 4) (e : Fin 512) :
    val_main_v135 (F := Ideal) x0 x1 (ix2 (⟨b.val * 2048 + t.val, by omega⟩ : Fin 16384) (⟨h.val * 512 + e.val, by omega⟩ : Fin 2048)) = val_main_v133 (F := Ideal) x0 x1 (ix4 b t h e) := by
  pointwise [val_main_v135, val_main_v134]

/-- A square. -/
theorem sq_at (b : Fin 8) (t : Fin 2048) (h : Fin 4) (e : Fin 512) :
    val_main_v122 (F := Ideal) x0 x1 (ix4 b t h e) = val_main_v121 (F := Ideal) x0 x1 (ix4 b t h e) * val_main_v121 (F := Ideal) x0 x1 (ix4 b t h e) :=
  val_main_v122_apply x0 x1 _
/-- A row's sum of squares. -/
theorem sq_read (b : Fin 8) (t : Fin 2048) (h : Fin 4) :
    val_main_v123 (F := Ideal) x0 x1 (ix3 b t h) = ∑ j : Fin 512, val_main_v121 (F := Ideal) x0 x1 (ix4 b t h j) * val_main_v121 (F := Ideal) x0 x1 (ix4 b t h j) := by
  have h0 : val_main_cst_12 (F := Ideal) (Shape.Idx.first h_S_) = 0 := Ideal.ofBits_zero_f32
  have hi : ∀ k, idx_main_v123 (ix3 b t h) k = ix4 b t h k := fun k => by
    funext a
    match a with
    | ⟨0, _⟩ => rfl
    | ⟨1, _⟩ => rfl
    | ⟨2, _⟩ => rfl
    | ⟨3, _⟩ => rfl
  refine (val_main_v123_apply x0 x1 _).trans ?_
  rw [h0, zero_add]
  refine Finset.sum_congr rfl fun k _ => ?_
  rw [hi]
  exact sq_at b t h k
/-- The row's factor. -/
theorem rs_read (b : Fin 8) (t : Fin 2048) (h : Fin 4) (e : Fin 512) :
    val_main_v130 (F := Ideal) x0 x1 (ix4 b t h e)
      = Ideal.rsqrt (Ideal.div (val_main_v123 (F := Ideal) x0 x1 (ix3 b t h)) (val_main_cst_13 (F := Ideal) ix0) + val_main_cst_14 (F := Ideal) ix0) := by
  pointwise [val_main_v124, val_main_v125, val_main_v126, val_main_v127, val_main_v128, val_main_v129, val_main_v130]
/-- The gate's quotient. -/
theorem gate_at (b : Fin 8) (t : Fin 2048) (h : Fin 4) (e : Fin 512) :
    val_main_call5_v5 (F := Ideal) x0 (ix4 b t h e) = Ideal.logistic (val_main_v7 (F := Ideal) x0 (ix4 b t h e)) := by
  have c0 : val_main_call5_v4 (F := Ideal) (ix4 b t h e) = 1 := Ideal.ofBits_one_f32
  have c1 : val_main_call5_v2 (F := Ideal) (ix4 b t h e) = 1 := Ideal.ofBits_one_f32
  have e1 : val_main_call5_v5 (F := Ideal) x0 (ix4 b t h e) = Ideal.div (val_main_call5_v4 (F := Ideal) (ix4 b t h e)) (val_main_call5_v3 (F := Ideal) x0 (ix4 b t h e)) := val_main_call5_v5_apply x0 _
  have e2 : val_main_call5_v3 (F := Ideal) x0 (ix4 b t h e) = val_main_call5_v2 (F := Ideal) (ix4 b t h e) + val_main_call5_v1 (F := Ideal) x0 (ix4 b t h e) := val_main_call5_v3_apply x0 _
  have e3 : val_main_call5_v1 (F := Ideal) x0 (ix4 b t h e) = Ideal.exp (val_main_call5_v0 (F := Ideal) x0 (ix4 b t h e)) := val_main_call5_v1_apply x0 _
  have e4 : val_main_call5_v0 (F := Ideal) x0 (ix4 b t h e) = -(val_main_v7 (F := Ideal) x0 (ix4 b t h e)) := val_main_call5_v0_apply x0 _
  rw [e1, e2, e3, e4, c0, c1]
  unfold Ideal.logistic
  rfl
/-- The gate. -/
theorem gate_read (b : Fin 8) (t : Fin 2048) (h : Fin 4) (e : Fin 512) :
    val_main_v132 (F := Ideal) x0 (ix4 b t h e) = val_main_v7 (F := Ideal) x0 (ix4 b t h e) * Ideal.logistic (val_main_v7 (F := Ideal) x0 (ix4 b t h e)) := by
  have e' : val_main_v132 (F := Ideal) x0 (ix4 b t h e) = val_main_v7 (F := Ideal) x0 (ix4 b t h e) * val_main_call5_v5 (F := Ideal) x0 (ix4 b t h e) := val_main_v132_apply x0 _
  rw [e', gate_at]
/-- The product. -/
theorem prod_at (b : Fin 8) (t : Fin 2048) (h : Fin 4) (e : Fin 512) :
    val_main_v133 (F := Ideal) x0 x1 (ix4 b t h e) = val_main_v131 (F := Ideal) x0 x1 (ix4 b t h e) * val_main_v132 (F := Ideal) x0 (ix4 b t h e) :=
  val_main_v133_apply x0 x1 _
theorem scaled_at (b : Fin 8) (t : Fin 2048) (h : Fin 4) (e : Fin 512) :
    val_main_v131 (F := Ideal) x0 x1 (ix4 b t h e) = val_main_v121 (F := Ideal) x0 x1 (ix4 b t h e) * val_main_v130 (F := Ideal) x0 x1 (ix4 b t h e) :=
  val_main_v131_apply x0 x1 _
/-- The two directions' sum. -/
theorem sum_read (b : Fin 8) (t : Fin 2048) (h : Fin 4) (e : Fin 512) :
    val_main_v121 (F := Ideal) x0 x1 (ix4 b t h e) = val_main_v97 (F := Ideal) x0 x1 (ix4 b t h e) + val_main_v120 (F := Ideal) x0 x1 (ix4 b t h e) :=
  val_main_v121_apply x0 x1 _
/-- The normalisation and the gate. -/
theorem normed_read (b : Fin 8) (t : Fin 2048) (h : Fin 4) (e : Fin 512) :
    val_main_v133 (F := Ideal) x0 x1 (ix4 b t h e)
      = normed (fun e => val_main_v121 (F := Ideal) x0 x1 (ix4 b t h e)) (val_main_v7 (F := Ideal) x0 (ix4 b t h e)) e := by
  have c13 : val_main_cst_13 (F := Ideal) ix0 = Ideal.ofBits FTy.f32 0x44000000#32 := val_main_cst_13_apply _
  have c14 : val_main_cst_14 (F := Ideal) ix0 = Ideal.ofBits FTy.f32 0x3727C5AC#32 := val_main_cst_14_apply _
  unfold normed
  rw [prod_at, scaled_at, rs_read, sq_read, gate_read, c13, c14]

/-- The reference's result at a latents' row, a head and a column. -/
theorem out_read (H : Finite x0 x1) (b : Fin 8) (t : Fin 2048) (h : Fin 4) (e : Fin 512) :
    val_main_v135 (F := Ideal) x0 x1 (ix2 (⟨b.val * 2048 + t.val, by omega⟩ : Fin 16384) (⟨h.val * 512 + e.val, by omega⟩ : Fin 2048))
      = normed (fun e => ((oR (tA x0) (tB x1) b h 0 (lgR (2 * h.val)) t e : ℝ) : EReal) + ((oR (tA x0) (tB x1) b h 1 (lgR (1 + 2 * h.val)) t e : ℝ) : EReal))
          (x0 (ix2 (⟨b.val * 2048 + t.val, by omega⟩ : Fin 16384) (⟨9216 + (h.val * 512 + e.val), by omega⟩ : Fin 17408))) e := by
  have ho : (fun e => val_main_v121 (F := Ideal) x0 x1 (ix4 b t h e))
      = fun e => ((oR (tA x0) (tB x1) b h 0 (lgR (2 * h.val)) t e : ℝ) : EReal) + ((oR (tA x0) (tB x1) b h 1 (lgR (1 + 2 * h.val)) t e : ℝ) : EReal) :=
    funext fun e => (sum_read b t h e).trans (congrArg₂ (fun a b : EReal => a + b) (fwd_real H b t h e) (bwd_real H b t h e))
  exact (heads_read b t h e).trans ((normed_read b t h e).trans (congrArg₂ (fun o g => normed o g e) ho (g_read x0 b t h e)))

end Cert.RetReferenceIdeal.Scan
end
-- ==== Proof.RetValue.lean ====
/-
  The retention kernel's result array: what a point writes back is its block of the reference's function of the arguments.
-/
module

public import proofs.«01_k».proof.Proof.RetPoint
public import proofs.«01_k».proof.Proof.RetBlocks
public import proofs.«01_k».proof.Proof.RetArr
public import proofs.«01_k».proof.Proof.RetRef

@[expose] public section
set_option maxRecDepth 16384
set_option maxHeartbeats 1000000
noncomputable section

namespace Cert.RetKernelIdeal.RetScan
open Cert.RetKernelIdeal Cert.RetKernelIdeal.Gen Cert.RetKernelIdeal.Tables Cert.RetKernelIdeal.Value
open Cert.RetReferenceIdeal.Scan (tA tB Finite out_read)
open Cert.RetData (kx qx vx vR oR normed)
open Cert.RetScalar (lgR angE)
open Idealize.ShloMosaic Idealize.ShloMosaic.TcCoe Idealize.SL.Sem
open Idealize.ShloMosaic.Pipeline (Dat)

variable (m : (ℓ : Loc nD τ sig) → Buf (Elt Ideal) ℓ)

/-- Keys and values at a context's position and at a latents' one. -/
theorem kx_ctx (A : Fin 16384 → Fin 17408 → EReal) (B : Fin 2048 → Fin 6144 → EReal) (b : Fin 8) (h : Fin 4) (s a : Fin 256) :
    kx A B b h (pc s) a = B ⟨b.val * 256 + s.val, by omega⟩ ⟨3072 + (h.val * 256 + a.val), by omega⟩ := by
  unfold kx
  rw [dif_pos (show (pc s).val < 256 from s.isLt)]
theorem vx_ctx (A : Fin 16384 → Fin 17408 → EReal) (B : Fin 2048 → Fin 6144 → EReal) (b : Fin 8) (h : Fin 4) (s : Fin 256) (e : Fin 512) :
    vx A B b h (pc s) e = B ⟨b.val * 256 + s.val, by omega⟩ ⟨4096 + (h.val * 512 + e.val), by omega⟩ := by
  unfold vx
  rw [dif_pos (show (pc s).val < 256 from s.isLt)]
theorem kx_lat (A : Fin 16384 → Fin 17408 → EReal) (B : Fin 2048 → Fin 6144 → EReal) (b : Fin 8) (h : Fin 4) (t : Fin 2048) (a : Fin 256) :
    kx A B b h ⟨256 + t.val, by omega⟩ a = A ⟨b.val * 2048 + t.val, by omega⟩ ⟨3072 + (h.val * 256 + a.val), by omega⟩ := by
  unfold kx
  rw [dif_neg (show ¬ (256 + t.val < 256) by omega)]
  congr 1
  exact Fin.ext (show b.val * 2048 + (256 + t.val - 256) = b.val * 2048 + t.val by omega)
theorem vx_lat (A : Fin 16384 → Fin 17408 → EReal) (B : Fin 2048 → Fin 6144 → EReal) (b : Fin 8) (h : Fin 4) (t : Fin 2048) (e : Fin 512) :
    vx A B b h ⟨256 + t.val, by omega⟩ e = A ⟨b.val * 2048 + t.val, by omega⟩ ⟨4096 + (h.val * 512 + e.val), by omega⟩ := by
  unfold vx
  rw [dif_neg (show ¬ (256 + t.val < 256) by omega)]
  congr 1
  exact Fin.ext (show b.val * 2048 + (256 + t.val - 256) = b.val * 2048 + t.val by omega)

/-- What point `t` leaves, at a row and a column of its block. -/
theorem outs_val (c : Dev nD) (H : Finite (X0 m c) (X1 m c)) (t : Fin cfg0.N) (j : Fin 8) (r : Fin 256) (n : Fin 512) :
    outsAt0 m c t (ix2 (rw' j r) n)
      = normed (fun e => ((oR (tA (X0 m c)) (tB (X1 m c)) (bt t) (hd t) 0 (lgR (2 * (hd t).val)) (rw' j r) e : ℝ) : EReal)
            + ((oR (tA (X0 m c)) (tB (X1 m c)) (bt t) (hd t) 1 (lgR (1 + 2 * (hd t).val)) (rw' j r) e : ℝ) : EReal))
          ((iblk m c 3 t : Vec Ideal S2048x512 .bf16) (ix2 (rw' j r) n)) n := by
  unfold outsAt0
  exact point_val (tA (X0 m c)) (tB (X1 m c)) (bt t) (hd t) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)
    (fun s a => (q_blk m c t s a).trans (H.qx (bt t) (hd t) s a))
    (fun s a => (k_blk m c t s a).trans ((kx_lat (tA (X0 m c)) (tB (X1 m c)) (bt t) (hd t) s a).symm.trans (H.kx (bt t) (hd t) _ a)))
    (fun s e => (v_blk m c t s e).trans ((vx_lat (tA (X0 m c)) (tB (X1 m c)) (bt t) (hd t) s e).symm.trans (H.vx (bt t) (hd t) _ e)))
    (fun s a => (kc_blk m c t s a).trans ((kx_ctx (tA (X0 m c)) (tB (X1 m c)) (bt t) (hd t) s a).symm.trans (H.kx (bt t) (hd t) _ a)))
    (fun s e => (vc_blk m c t s e).trans ((vx_ctx (tA (X0 m c)) (tB (X1 m c)) (bt t) (hd t) s e).symm.trans (H.vx (bt t) (hd t) _ e)))
    (fun s e => cos_blk m c t s e) (fun s e => sin_blk m c t s e)
    (fun d i j => tab8_blk m c t d i j) (fun d k j => tab9_blk m c t d k j) (fun d j => tab10_blk m c t d 0 j) j r n

/-- The result array as the reference's function of the arguments. -/
abbrev want (c : Dev nD) : Buf (Elt Ideal) ((c : Thread nD τ).loc main_v111) :=
  Cert.RetReferenceIdeal.Read.val_main_v135 (F := Ideal) (X0 m c) (X1 m c)

/-- An index of the result: a point's row and column. -/
abbrev at' (t : Fin cfg0.N) (r : Fin 2048) (n : Fin 512) : S16384x2048.Idx :=
  ix2 (⟨(bt t).val * 2048 + r.val, by have := (bt t).isLt; omega⟩ : Fin 16384) (⟨(hd t).val * 512 + n.val, by have := (hd t).isLt; omega⟩ : Fin 2048)

theorem want_val (c : Dev nD) (H : Finite (X0 m c) (X1 m c)) (t : Fin cfg0.N) (r : Fin 2048) (n : Fin 512) :
    want m c (at' t r n)
      = normed (fun e => ((oR (tA (X0 m c)) (tB (X1 m c)) (bt t) (hd t) 0 (lgR (2 * (hd t).val)) r e : ℝ) : EReal)
            + ((oR (tA (X0 m c)) (tB (X1 m c)) (bt t) (hd t) 1 (lgR (1 + 2 * (hd t).val)) r e : ℝ) : EReal))
          (X0 m c (ix2 (⟨(bt t).val * 2048 + r.val, by have := (bt t).isLt; omega⟩ : Fin 16384) (⟨9216 + ((hd t).val * 512 + n.val), by have := (hd t).isLt; omega⟩ : Fin 17408))) n :=
  out_read H (bt t) r (hd t) n

theorem outs_val' (c : Dev nD) (H : Finite (X0 m c) (X1 m c)) (t : Fin cfg0.N) (j : Fin 8) (r : Fin 256) (n : Fin 512) :
    outsAt0 m c t (ix2 (rw' j r) n)
      = normed (fun e => ((oR (tA (X0 m c)) (tB (X1 m c)) (bt t) (hd t) 0 (lgR (2 * (hd t).val)) (rw' j r) e : ℝ) : EReal)
            + ((oR (tA (X0 m c)) (tB (X1 m c)) (bt t) (hd t) 1 (lgR (1 + 2 * (hd t).val)) (rw' j r) e : ℝ) : EReal))
          (X0 m c (ix2 (⟨(bt t).val * 2048 + (rw' j r).val, by have := (bt t).isLt; omega⟩ : Fin 16384) (⟨9216 + ((hd t).val * 512 + n.val), by have := (hd t).isLt; omega⟩ : Fin 17408))) n := by
  rw [outs_val m c H t j r n, g_blk m c t (rw' j r) n]

theorem split_row (r : Fin 2048) : ∃ (j : Fin 8) (i : Fin 256), r = rw' j i :=
  ⟨⟨r.val / 256, by omega⟩, ⟨r.val % 256, by omega⟩, Fin.ext (show r.val = 256 * (r.val / 256) + r.val % 256 by omega)⟩

theorem want_at (c : Dev nD) (H : Finite (X0 m c) (X1 m c)) (t : Fin cfg0.N) (r : Fin 2048) (n : Fin 512) :
    outsAt0 m c t (ix2 r n) = want m c (at' t r n) := by
  obtain ⟨j, i, rfl⟩ := split_row r
  exact (outs_val' m c H t j i n).trans (want_val m c H t (rw' j i) n).symm

/-- A point writes back its block of an array that agrees with what the point leaves. -/
theorem flushed_of (c : Dev nD) (W : Buf (Elt Ideal) ((c : Thread nD τ).loc main_v111)) (t : Fin cfg0.N)
    (hW : ∀ (r : Fin 2048) (n : Fin 512), outsAt0 m c t (ix2 r n) = W (at' t r n)) :
    (dats m 0 c).flushed 11 t = ((cfg0.win 11).blk t).view.read (Elt Ideal) W := by
  rw [flushed11]
  generalize outsAt0 m c t = O at hW ⊢
  have e := maps11 t
  have ht := lt_pts t
  funext y
  obtain ⟨r, n, rfl⟩ : ∃ (r : Fin 2048) (n : Fin 512), y = ix2 r n := ⟨y 0, y 1, eq_ix2 y⟩
  rw [View.read_apply]
  have hi : ((cfg0.win 11).blk t).view.emb (ix2 r n) = at' t r n := by
    funext a
    apply Fin.ext
    match a with
    | ⟨0, _⟩ => show win0_11.index t 0 * 2048 + 1 * r.val = t.val / 4 * 2048 + r.val; rw [e.1]; omega
    | ⟨1, _⟩ => show win0_11.index t 1 * 512 + 1 * n.val = t.val % 4 * 512 + n.val; rw [e.2]; omega
  show O (ix2 r n) = W (((cfg0.win 11).blk t).view.emb (ix2 r n))
  rw [hi]
  exact hW r n

theorem final_of (c : Dev nD) (W : Buf (Elt Ideal) ((c : Thread nD τ).loc main_v111))
    (hW : ∀ (t : Fin cfg0.N) (r : Fin 2048) (n : Fin 512), outsAt0 m c t (ix2 r n) = W (at' t r n)) : (dats m 0 c).arrAt 11 cfg0.N = W :=
  (dats m 0 c).arrAt_eq_of_cover 11 W (fun t _ => flushed_of m c W t (hW t)) (fun i => by
    have h0 : (i 0).val < 16384 := (i 0).isLt
    have h1 : (i 1).val < 2048 := (i 1).isLt
    have hN : (i 0).val / 2048 * 4 + (i 1).val / 512 < cfg0.N := by show _ < grid0.N; rw [N_0]; omega
    refine ⟨⟨(i 0).val / 2048 * 4 + (i 1).val / 512, hN⟩, flush11 _, ?_⟩
    have e := maps11 ⟨(i 0).val / 2048 * 4 + (i 1).val / 512, hN⟩
    show i ∈ ((View.whole main_v111).slice (win0_11.rect ⟨(i 0).val / 2048 * 4 + (i 1).val / 512, hN⟩)).set
    rw [View.set_slice_whole, Rect.mem_set_unit]
    intro a
    match a with
    | ⟨0, _⟩ =>
      show win0_11.index ⟨(i 0).val / 2048 * 4 + (i 1).val / 512, hN⟩ 0 * 2048 ≤ (i 0).val ∧ (i 0).val < win0_11.index ⟨(i 0).val / 2048 * 4 + (i 1).val / 512, hN⟩ 0 * 2048 + 2048
      rw [e.1]; dsimp only; omega
    | ⟨1, _⟩ =>
      show win0_11.index ⟨(i 0).val / 2048 * 4 + (i 1).val / 512, hN⟩ 1 * 512 ≤ (i 1).val ∧ (i 1).val < win0_11.index ⟨(i 0).val / 2048 * 4 + (i 1).val / 512, hN⟩ 1 * 512 + 512
      rw [e.2]; dsimp only; omega)

theorem final_want (c : Dev nD) (H : Finite (X0 m c) (X1 m c)) : (dats m 0 c).arrAt 11 cfg0.N = want m c :=
  final_of m c _ (fun t r n => want_at m c H t r n)

end Cert.RetKernelIdeal.RetScan
end
-- ==== Proof.RetPre.lean ====
/-
  The retention kernel's precondition read back: every entry of the two arguments is a real number.
-/
module

public import proofs.«01_k».proof.Pre_rows_finite
public import proofs.«01_k».proof.Proof.RetRef
public import Idealize.ShloMosaic.Lib.Affine
public import Idealize.ShloMosaic.Lib.Decide
public import Idealize.ShloMosaic.Lib.ReduceAll

@[expose] public section
noncomputable section

namespace Cert.Pre_rows_finite.Read
open Cert.Pre_rows_finite Idealize.ShloMosaic Idealize.SL.Sem

theorem bits_lt : FTy.bits .bf16 < FTy.bits .f32 := by decide
theorem bcast_a : S_.BroadcastsInDim S16384x17408 (![] : Fin 0 → Fin S16384x17408.rank) := by decide
theorem reduces_a : S16384x17408.ReducesTo [0, 1] S_ := by decide
theorem one_a : 0 < S_.numel := by decide
theorem bcast_b : S_.BroadcastsInDim S2048x6144 (![] : Fin 0 → Fin S2048x6144.rank) := by decide
theorem reduces_b : S2048x6144.ReducesTo [0, 1] S_ := by decide

/-- The shape relations of the precondition. -/
instance facts : Cert.Pre_rows_finite.Facts where
  bitsLt_bf16_f32 := bits_lt
  bcast_S_S16384x17408 := bcast_a
  reducesTo_S16384x17408_S_d0_1 := reduces_a
  h_S_ := one_a
  bcast_S_S2048x6144 := bcast_b
  reducesTo_S2048x6144_S_d0_1 := reduces_b

/-- An extended real whose absolute value lies below infinity is a real. -/
theorem real_of_lt {x : EReal} (h : Ideal.cmp .olt (max x (-x)) (Ideal.ofBits .f32 0x7F800000#32) = 1#1) : ∃ w : ℝ, x = (w : EReal) := by
  have htop : Ideal.ofBits .f32 0x7F800000#32 = ⊤ := by simp [Ideal.ofBits, Ideal.ieee]
  have one (p : Bool) : (BitVec.ofBool p = 1#1) ↔ p = true := by cases p <;> decide
  rw [htop] at h
  unfold Ideal.cmp at h
  rw [one, decide_eq_true_eq, max_lt_iff] at h
  induction x using EReal.rec with
  | bot => simp at h
  | coe w => exact ⟨w, rfl⟩
  | top => simp at h

/-- The precondition, all ones: the arguments hold reals. -/
theorem finite_of_pre (x0 : FVec Ideal S16384x17408 .bf16) (x1 : FVec Ideal S2048x6144 .bf16)
    (h : Cert.Pre_rows_finite.fn (F := Ideal) x0 x1 = fun _ => 1#1) : Cert.RetReferenceIdeal.Scan.Finite x0 x1 := by
  have both (a b : BitVec 1) : IntOp.andi a b = 1#1 ↔ a = 1#1 ∧ b = 1#1 := by revert a b; decide
  have e := congrFun h ix0
  have e' := (both _ _).1 e
  haveI : Subsingleton S_.Idx := ⟨fun a b => funext fun k => k.elim0⟩
  exact ⟨fun r c => real_of_lt (Host.reduce_andi_all _ _ _ _ _ e'.1 (ix2 r c)), fun r c => real_of_lt (Host.reduce_andi_all _ _ _ _ _ e'.2 (ix2 r c))⟩

end Cert.Pre_rows_finite.Read
end
-- ==== Proof.RetClaims.lean ====
/-
  The retention kernel's claims: the frames of its reference, and its result set beside the reference's.
-/
module

public import proofs.«01_k».proof.Defs
public import proofs.«01_k».proof.Proof.RetFrameBits
public import proofs.«01_k».proof.Proof.RetValue
public import proofs.«01_k».proof.Proof.RetPre
public import proofs.«01_k».proof.Proof.Gen.RetReferenceIdeal.Run
public import proofs.«01_k».proof.Proof.Gen.RetReferenceIdeal.Read

@[expose] public section

set_option maxRecDepth 16384

noncomputable section

namespace Cert.Proof

open Idealize.ShloMosaic Idealize.SL.Sem Idealize.ShloMosaic.StableHlo

theorem frame_ret_ref : Cert.quiescent_RetReferenceIdeal := fun m ρ _ =>
  (θ_run Cert.RetReferenceIdeal.defs _ _).mono (fun r h => ⟨fun c => (h c).2, Idealize.ShloMosaic.sem_eq_zero_of_no_sems (by decide) r.2⟩)
    (Cert.RetReferenceIdeal.Value.run (F := Ideal) m ρ)

theorem frame_ret_ref_pre : Cert.quiescent_RetReferenceIdeal_pre_rows_finite := fun m ρ _ =>
  (θ_run Cert.RetReferenceIdeal.defs _ _).mono (fun r h => ⟨fun c => (h c).2, Idealize.ShloMosaic.sem_eq_zero_of_no_sems (by decide) r.2⟩)
    (Cert.RetReferenceIdeal.Value.run (F := Ideal) m ρ)

/-- The reference's function of the arguments in a memory. -/
abbrev refOf (m : (ℓ : Loc Cert.RetReferenceIdeal.nD Cert.RetReferenceIdeal.τ Cert.RetReferenceIdeal.sig) → Buf (Elt Ideal) ℓ) (c : Dev Cert.RetReferenceIdeal.nD) :=
  Cert.RetReferenceIdeal.Read.val_main_v135 (F := Ideal) (m ((c.tc : Thread Cert.RetReferenceIdeal.nD Cert.RetReferenceIdeal.τ).loc Cert.RetReferenceIdeal.main_arg0))
    (m ((c.tc : Thread Cert.RetReferenceIdeal.nD Cert.RetReferenceIdeal.τ).loc Cert.RetReferenceIdeal.main_arg1))

theorem launch_refOf (m : (ℓ : Loc Cert.RetReferenceIdeal.nD Cert.RetReferenceIdeal.τ Cert.RetReferenceIdeal.sig) → Buf (Elt Ideal) ℓ) (c : Dev Cert.RetReferenceIdeal.nD) :
    Cert.RetReferenceIdeal.Read.val_main_v135 (F := Ideal) (launchContents m c (Proc.devRef .tc Cert.RetReferenceIdeal.main_arg0)) (launchContents m c (Proc.devRef .tc Cert.RetReferenceIdeal.main_arg1)) = refOf m c :=
  congrArg₂ (fun a b => Cert.RetReferenceIdeal.Read.val_main_v135 (F := Ideal) a b) rfl rfl

/-- The reference's run, its result named. -/
theorem run_ret_ref (m : (ℓ : Loc Cert.RetReferenceIdeal.nD Cert.RetReferenceIdeal.τ Cert.RetReferenceIdeal.sig) → Buf (Elt Ideal) ℓ) (ρ : Dev Cert.RetReferenceIdeal.nD → PrngReg) :
    θ_run (Cert.RetReferenceIdeal.defs (F := Ideal)) (onTc (τ := Cert.RetReferenceIdeal.τ) (Cert.RetReferenceIdeal.main (F := Ideal))) ⟨m, fun _ => 0, ρ⟩ (fun r => ∀ c : Dev Cert.RetReferenceIdeal.nD,
      r.2.mem ((c.tc : Thread Cert.RetReferenceIdeal.nD Cert.RetReferenceIdeal.τ).loc Cert.RetReferenceIdeal.main_v135) = refOf m c
      ∧ r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1)) :=
  (θ_run Cert.RetReferenceIdeal.defs _ _).mono
    (fun _ h c => ⟨((h c).1.trans (Cert.RetReferenceIdeal.Read.val_main_v135_eq (F := Ideal) (launchContents m c))).trans (launch_refOf m c), (h c).2⟩)
    (Cert.RetReferenceIdeal.Value.run (F := Ideal) m ρ)

/-- The kernel's run from a memory that meets the precondition, its result named. -/
theorem run_ret (m : (ℓ : Loc Cert.RetKernelIdeal.nD Cert.RetKernelIdeal.τ Cert.RetKernelIdeal.sig) → Buf (Elt Ideal) ℓ) (ρ : Dev Cert.RetKernelIdeal.nD → PrngReg)
    (hp : Cert.Pre_RetKernelIdeal_rows_finite m) :
    θ_run (Cert.RetKernelIdeal.defs (F := Ideal)) (onTc (τ := Cert.RetKernelIdeal.τ) (Cert.RetKernelIdeal.main (F := Ideal))) ⟨m, fun _ => 0, ρ⟩ (fun r => ∀ c : Dev Cert.RetKernelIdeal.nD,
      r.2.mem ((c.tc : Thread Cert.RetKernelIdeal.nD Cert.RetKernelIdeal.τ).loc Cert.RetKernelIdeal.main_v111) = Cert.RetKernelIdeal.RetScan.want m c
      ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1)) :=
  (θ_run Cert.RetKernelIdeal.defs _ _).mono
    (fun _ h c => ⟨(h c).1.trans (Cert.RetKernelIdeal.RetScan.final_want m c (Cert.Pre_rows_finite.Read.finite_of_pre _ _ (hp c))), (h c).2⟩)
    (Cert.RetKernelIdeal.Value.run_blocks m ρ)

theorem want_refOf (m : (ℓ : Loc Cert.RetKernelIdeal.nD Cert.RetKernelIdeal.τ Cert.RetKernelIdeal.sig) → Buf (Elt Ideal) ℓ)
    (m' : (ℓ : Loc Cert.RetReferenceIdeal.nD Cert.RetReferenceIdeal.τ Cert.RetReferenceIdeal.sig) → Buf (Elt Ideal) ℓ) (c : Dev Cert.RetKernelIdeal.nD)
    (e0 : m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0))
    (e1 : m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) :
    refOf m' c = Cert.RetKernelIdeal.RetScan.want m c :=
  congrArg₂ (fun a b => Cert.RetReferenceIdeal.Read.val_main_v135 (F := Ideal) a b) e0 e1

/-- The retention: on arguments that hold reals the kernel's result array is the reference's function of its arguments. -/
theorem algebraic_ret : Cert.algebraic_RetKernelIdeal_RetReferenceIdeal_pre_rows_finite := by
  intro m ρ m' ρ' hp hagree
  refine ⟨fun c => Cert.RetKernelIdeal.RetScan.want m c, run_ret m ρ hp, ?_⟩
  exact (θ_run Cert.RetReferenceIdeal.defs _ _).mono (fun _ h c => ⟨(h c).1.trans (want_refOf m m' c (hagree c).1 (hagree c).2), (h c).2⟩) (run_ret_ref m' ρ')

end Cert.Proof

end
-- ==== Proof.lean ====
module

public import proofs.«01_k».proof.Proof.Claims
public import proofs.«01_k».proof.Proof.RetClaims
public import proofs.«01_k».proof.Defs
public import Idealize.ShloMosaic.Adequacy
public import Idealize.ShloMosaic.Init
public import proofs.«01_k».proof.Proof.Gen.ProjKernelIdeal.Value
public import proofs.«01_k».proof.Proof.Gen.FfnKernelIdeal.Value
public import proofs.«01_k».proof.Proof.Gen.MergeKernelIdeal.Value
public import proofs.«01_k».proof.Proof.Gen.CombKernelIdeal.Value
public import proofs.«01_k».proof.Proof.Gen.MoeReferenceIdeal.Run
public import proofs.«01_k».proof.Proof.Gen.MoeReferenceIdeal.Read
public import proofs.«01_k».proof.Proof.Gen.ProjReferenceIdeal.Run
public import proofs.«01_k».proof.Proof.Gen.ProjReferenceIdeal.Read
public import proofs.«01_k».proof.Proof.Gen.FfnReferenceIdeal.Run
public import proofs.«01_k».proof.Proof.Gen.FfnReferenceIdeal.Read
public import proofs.«01_k».proof.Proof.Gen.MergeReferenceIdeal.Run
public import proofs.«01_k».proof.Proof.Gen.MergeReferenceIdeal.Read
public import proofs.«01_k».proof.Proof.Gen.CombReferenceIdeal.Run
public import proofs.«01_k».proof.Proof.Gen.CombReferenceIdeal.Read
public import proofs.«01_k».proof.Proof.Gen.ProjKernel.Frame
public import proofs.«01_k».proof.Proof.Gen.FfnKernel.Frame
public import proofs.«01_k».proof.Proof.Gen.MergeKernel.Frame
public import proofs.«01_k».proof.Proof.Gen.CombKernel.Frame
public import proofs.«01_k».proof.Proof.RetFrameBits
public import proofs.«01_k».proof.Proof.RetArr
public import proofs.«01_k».proof.Proof.Gen.RetReferenceIdeal.Run
public import proofs.«01_k».proof.Proof.Gen.RetReferenceIdeal.Read

@[expose] public section

noncomputable section

namespace Cert.Proof

open Idealize.ShloMosaic Idealize.SL.Sem

theorem claim : Cert.Claim :=
  ⟨Cert.MoeKernel.Gen.facts, Cert.MoeKernelIdeal.Gen.facts, Cert.MoeReferenceIdeal.Gen.facts, Cert.ProjKernel.Gen.facts, Cert.ProjKernelIdeal.Gen.facts, Cert.ProjReferenceIdeal.Gen.facts, Cert.FfnKernel.Gen.facts, Cert.FfnKernelIdeal.Gen.facts, Cert.FfnReferenceIdeal.Gen.facts, Cert.MergeKernel.Gen.facts, Cert.MergeKernelIdeal.Gen.facts, Cert.MergeReferenceIdeal.Gen.facts, Cert.CombKernel.Gen.facts, Cert.CombKernelIdeal.Gen.facts, Cert.CombReferenceIdeal.Gen.facts, Cert.RetKernel.Gen.facts, Cert.RetKernelIdeal.Gen.facts, Cert.RetReferenceIdeal.Gen.facts, Cert.Pre_experts_in_range.Gen.facts, Cert.Pre_rows_finite.Read.facts,
    frame_moe,
    frame_moe_ideal,
    frame_moe_ref,
    frame_moe_ref_pre,
    fun m ρ _ => Cert.ProjKernel.Gen.frame m ρ,
    fun m ρ _ => Cert.ProjKernelIdeal.Gen.frame m ρ,
    frame_proj_ref,
    fun m ρ _ => Cert.FfnKernel.Gen.frame m ρ,
    fun m ρ _ => Cert.FfnKernelIdeal.Gen.frame m ρ,
    frame_ffn_ref,
    fun m ρ _ => Cert.MergeKernel.Gen.frame m ρ,
    fun m ρ _ => Cert.MergeKernelIdeal.Gen.frame m ρ,
    frame_merge_ref,
    fun m ρ _ => Cert.CombKernel.Gen.frame m ρ,
    fun m ρ _ => Cert.CombKernelIdeal.Gen.frame m ρ,
    frame_comb_ref,
    fun m ρ _ => Cert.RetKernel.Gen.frame m ρ,
    fun m ρ _ => Cert.RetKernelIdeal.Gen.frame m ρ,
    fun m ρ _ => Cert.RetKernelIdeal.Gen.frame m ρ,
    frame_ret_ref,
    frame_ret_ref_pre,
    trivial,
    algebraic_moe,
    trivial,
    algebraic_proj,
    trivial,
    algebraic_ffn,
    trivial,
    algebraic_merge,
    trivial,
    algebraic_comb,
    trivial,
    algebraic_ret⟩

end Cert.Proof

end
